-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "quarter_pi" .f32 0x3F490FDB#32 (((1 / 4) * Real.pi : ℝ) : EReal)
  ∧ IdealRules.named_const.Statement Cert.KernelIdeal.κ "half_pi" .f32 0x3FC90FDB#32 (((1 / 2) * Real.pi : ℝ) : EReal)
  ∧ IdealRules.named_const.Statement Cert.KernelIdeal.κ "pi" .f32 0x40490FDB#32 ((Real.pi : ℝ) : EReal)
  ∧ IdealRules.named_const.Statement Cert.KernelIdeal.κ "two_pi" .f32 0x40C90FDB#32 ((2 * Real.pi : ℝ) : EReal)
  ∧ IdealRules.named_const.Statement Cert.KernelIdeal.κ "inv_bin" .f32 0x3FA2F983#32 ((4 * Real.pi⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x8x2 : Shape := ⟨3, ![4096, 8, 2]⟩
abbrev S4096x64x8x2 : Shape := ⟨4, ![4096, 64, 8, 2]⟩
abbrev S_ : Shape := ⟨0, ![]⟩

class Facts : Prop where
  bcast_S_S4096x64x8x2 : S_.BroadcastsInDim S4096x64x8x2 (![] : Fin 0 → Fin S4096x64x8x2.rank)
  reducesTo_S4096x64x8x2_S_d0_1_2_3 : S4096x64x8x2.ReducesTo [0, 1, 2, 3] S_
  h_S_ : 0 < S_.numel

variable [Facts]

def fn {F : FTy → Type} [FloatOps F] (main_arg0 : FVec F S4096x8x2 .f32) (main_arg1 : FVec F S4096x64x8x2 .f32) : IVec S_ 1 :=
  let main_v0 : FVec F S4096x64x8x2 .f32 := Host.absf main_arg1
  let main_cst : FVec F S_ .f32 := constant S_ .f32 0x7F800000#32
  let main_v1 : FVec F S4096x64x8x2 .f32 := broadcastInDim S4096x64x8x2 ![] bcast_S_S4096x64x8x2 main_cst
  let main_v2 : IVec S4096x64x8x2 1 := cmpf .olt main_v0 main_v1
  let main_c : IVec S_ 1 := constantI S_ 1 1#1
  let main_v3 : IVec S_ 1 := (fun x v => Host.reduce IntOp.andi x v reducesTo_S4096x64x8x2_S_d0_1_2_3 h_S_) main_v2 main_c
  main_v3
-- ==== Kernel.lean ====
abbrev S4096x8x2 : Shape := ⟨3, ![4096, 8, 2]⟩
abbrev S4096x64x8x2 : Shape := ⟨4, ![4096, 64, 8, 2]⟩
abbrev S64x8x2x4096 : Shape := ⟨4, ![64, 8, 2, 4096]⟩
abbrev S3x8x4096 : Shape := ⟨3, ![3, 8, 4096]⟩
abbrev S64x4096 : Shape := ⟨2, ![64, 4096]⟩
abbrev S16x8x2x128 : Shape := ⟨4, ![16, 8, 2, 128]⟩
abbrev S3x8x128 : Shape := ⟨3, ![3, 8, 128]⟩
abbrev S64x128 : Shape := ⟨2, ![64, 128]⟩
abbrev S1024 : Shape := ⟨1, ![1024]⟩
abbrev S_ : Shape := ⟨0, ![]⟩
abbrev S16 : Shape := ⟨1, ![16]⟩
abbrev S1x1x1x16 : Shape := ⟨4, ![1, 1, 1, 16]⟩
abbrev S1x16 : Shape := ⟨2, ![1, 16]⟩
abbrev S1x1x16 : Shape := ⟨3, ![1, 1, 16]⟩
abbrev S4096x8x3 : Shape := ⟨3, ![4096, 8, 3]⟩
abbrev S4096x64 : Shape := ⟨2, ![4096, 64]⟩

abbrev nBuf : Table → Nat
  | .hbm => 7
  | .local .scVector .vmem => 8
  | _ => 0

abbrev bufTy : (tb : Table) → Fin (nBuf tb) → BufTy
  | .hbm, ⟨0, _⟩ => ⟨S4096x8x2, .f32⟩
  | .hbm, ⟨1, _⟩ => ⟨S4096x64x8x2, .f32⟩
  | .hbm, ⟨2, _⟩ => ⟨S64x8x2x4096, .f32⟩
  | .hbm, ⟨3, _⟩ => ⟨S3x8x4096, .f32⟩
  | .hbm, ⟨4, _⟩ => ⟨S64x4096, .f32⟩
  | .hbm, ⟨5, _⟩ => ⟨S4096x8x3, .f32⟩
  | .hbm, ⟨6, _⟩ => ⟨S4096x64, .f32⟩
  | .local .scVector .vmem, ⟨0, _⟩ => ⟨S16x8x2x128, .f32⟩
  | .local .scVector .vmem, ⟨1, _⟩ => ⟨S16x8x2x128, .f32⟩
  | .local .scVector .vmem, ⟨2, _⟩ => ⟨S3x8x128, .f32⟩
  | .local .scVector .vmem, ⟨3, _⟩ => ⟨S64x128, .f32⟩
  | .local .scVector .vmem, ⟨4, _⟩ => ⟨S1024, .f32⟩
  | .local .scVector .vmem, ⟨5, _⟩ => ⟨S1024, .f32⟩
  | .local .scVector .vmem, ⟨6, _⟩ => ⟨S1024, .f32⟩
  | .local .scVector .vmem, ⟨7, _⟩ => ⟨S1024, .f32⟩
  | _, _ => ⟨S4096x8x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32 : BitVec 32 := 0#32
  let c0_i32_1 : BitVec 32 := 0#32
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, 0, v2.toNat]
@[reducible] def k0_t1_loop : Scf.Loop 32 :=
  let c0_i32_7 : BitVec 32 := 0#32
  let c64_i32 : BitVec 32 := 64#32
  let v8 : BitVec 32 := Scalar.addi c0_i32_7 c64_i32
  let c1_i32 : BitVec 32 := 1#32
  ⟨c0_i32_7, v8, c1_i32⟩
def k0_off2 (k0_t1 : Fin k0_t1_loop.trips) : Fin 1 → Nat :=
  let c0_i32_7 : BitVec 32 := 0#32
  let c1_i32 : BitVec 32 := 1#32
  let arg15 : BitVec 32 := Scf.iv c0_i32_7 c1_i32 k0_t1
  let c16_i32_72 : BitVec 32 := 16#32
  let v28 : BitVec 32 := Scalar.muli arg15 c16_i32_72
  let v29 : Index := Scalar.indexCast v28
  ![v29.toNat]
def k0_off3 (i : grid0.Coords) : Fin 4 → Nat :=
  let c16_i32 : BitVec 32 := 16#32
  let c0_i32_15 : BitVec 32 := 0#32
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![16, 0, 0, v2.toNat]
@[reducible] def k0_t2_loop : Scf.Loop 32 :=
  let c0_i32_21 : BitVec 32 := 0#32
  let c64_i32_22 : BitVec 32 := 64#32
  let v13 : BitVec 32 := Scalar.addi c0_i32_21 c64_i32_22
  let c1_i32_23 : BitVec 32 := 1#32
  ⟨c0_i32_21, v13, c1_i32_23⟩
def k0_off4 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v59 : Index := Scalar.indexCast v46
  let c0_i32_89 : BitVec 32 := 0#32
  let v60 : Index := Scalar.indexCast c0_i32_89
  let c0_i32_90 : BitVec 32 := 0#32
  let v61 : Index := Scalar.indexCast c0_i32_90
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v62 : Index := Scalar.indexCast v57
  ![v59.toNat, 0, 0, v62.toNat]
def k0_off5 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v64 : Index := Scalar.indexCast v46
  let c0_i32_91 : BitVec 32 := 0#32
  let v65 : Index := Scalar.indexCast c0_i32_91
  let c1_i32_92 : BitVec 32 := 1#32
  let v66 : Index := Scalar.indexCast c1_i32_92
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v67 : Index := Scalar.indexCast v57
  ![v64.toNat, 0, 1, v67.toNat]
def k0_off6 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v69 : Index := Scalar.indexCast v46
  let c1_i32_93 : BitVec 32 := 1#32
  let v70 : Index := Scalar.indexCast c1_i32_93
  let c0_i32_94 : BitVec 32 := 0#32
  let v71 : Index := Scalar.indexCast c0_i32_94
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v72 : Index := Scalar.indexCast v57
  ![v69.toNat, 1, 0, v72.toNat]
def k0_off7 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v74 : Index := Scalar.indexCast v46
  let c1_i32_95 : BitVec 32 := 1#32
  let v75 : Index := Scalar.indexCast c1_i32_95
  let c1_i32_96 : BitVec 32 := 1#32
  let v76 : Index := Scalar.indexCast c1_i32_96
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v77 : Index := Scalar.indexCast v57
  ![v74.toNat, 1, 1, v77.toNat]
def k0_off8 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v79 : Index := Scalar.indexCast v46
  let c2_i32_97 : BitVec 32 := 2#32
  let v80 : Index := Scalar.indexCast c2_i32_97
  let c0_i32_98 : BitVec 32 := 0#32
  let v81 : Index := Scalar.indexCast c0_i32_98
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v82 : Index := Scalar.indexCast v57
  ![v79.toNat, 2, 0, v82.toNat]
def k0_off9 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v84 : Index := Scalar.indexCast v46
  let c2_i32_99 : BitVec 32 := 2#32
  let v85 : Index := Scalar.indexCast c2_i32_99
  let c1_i32_100 : BitVec 32 := 1#32
  let v86 : Index := Scalar.indexCast c1_i32_100
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v87 : Index := Scalar.indexCast v57
  ![v84.toNat, 2, 1, v87.toNat]
def k0_off10 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v89 : Index := Scalar.indexCast v46
  let c3_i32 : BitVec 32 := 3#32
  let v90 : Index := Scalar.indexCast c3_i32
  let c0_i32_101 : BitVec 32 := 0#32
  let v91 : Index := Scalar.indexCast c0_i32_101
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v92 : Index := Scalar.indexCast v57
  ![v89.toNat, 3, 0, v92.toNat]
def k0_off11 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v94 : Index := Scalar.indexCast v46
  let c3_i32_102 : BitVec 32 := 3#32
  let v95 : Index := Scalar.indexCast c3_i32_102
  let c1_i32_103 : BitVec 32 := 1#32
  let v96 : Index := Scalar.indexCast c1_i32_103
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v97 : Index := Scalar.indexCast v57
  ![v94.toNat, 3, 1, v97.toNat]
def k0_off12 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v99 : Index := Scalar.indexCast v46
  let c4_i32 : BitVec 32 := 4#32
  let v100 : Index := Scalar.indexCast c4_i32
  let c0_i32_104 : BitVec 32 := 0#32
  let v101 : Index := Scalar.indexCast c0_i32_104
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v102 : Index := Scalar.indexCast v57
  ![v99.toNat, 4, 0, v102.toNat]
def k0_off13 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v104 : Index := Scalar.indexCast v46
  let c4_i32_105 : BitVec 32 := 4#32
  let v105 : Index := Scalar.indexCast c4_i32_105
  let c1_i32_106 : BitVec 32 := 1#32
  let v106 : Index := Scalar.indexCast c1_i32_106
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v107 : Index := Scalar.indexCast v57
  ![v104.toNat, 4, 1, v107.toNat]
def k0_off14 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v109 : Index := Scalar.indexCast v46
  let c5_i32 : BitVec 32 := 5#32
  let v110 : Index := Scalar.indexCast c5_i32
  let c0_i32_107 : BitVec 32 := 0#32
  let v111 : Index := Scalar.indexCast c0_i32_107
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v112 : Index := Scalar.indexCast v57
  ![v109.toNat, 5, 0, v112.toNat]
def k0_off15 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v114 : Index := Scalar.indexCast v46
  let c5_i32_108 : BitVec 32 := 5#32
  let v115 : Index := Scalar.indexCast c5_i32_108
  let c1_i32_109 : BitVec 32 := 1#32
  let v116 : Index := Scalar.indexCast c1_i32_109
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v117 : Index := Scalar.indexCast v57
  ![v114.toNat, 5, 1, v117.toNat]
def k0_off16 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v119 : Index := Scalar.indexCast v46
  let c6_i32 : BitVec 32 := 6#32
  let v120 : Index := Scalar.indexCast c6_i32
  let c0_i32_110 : BitVec 32 := 0#32
  let v121 : Index := Scalar.indexCast c0_i32_110
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v122 : Index := Scalar.indexCast v57
  ![v119.toNat, 6, 0, v122.toNat]
def k0_off17 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v124 : Index := Scalar.indexCast v46
  let c6_i32_111 : BitVec 32 := 6#32
  let v125 : Index := Scalar.indexCast c6_i32_111
  let c1_i32_112 : BitVec 32 := 1#32
  let v126 : Index := Scalar.indexCast c1_i32_112
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v127 : Index := Scalar.indexCast v57
  ![v124.toNat, 6, 1, v127.toNat]
def k0_off18 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v129 : Index := Scalar.indexCast v46
  let c7_i32 : BitVec 32 := 7#32
  let v130 : Index := Scalar.indexCast c7_i32
  let c0_i32_113 : BitVec 32 := 0#32
  let v131 : Index := Scalar.indexCast c0_i32_113
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v132 : Index := Scalar.indexCast v57
  ![v129.toNat, 7, 0, v132.toNat]
def k0_off19 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v134 : Index := Scalar.indexCast v46
  let c7_i32_114 : BitVec 32 := 7#32
  let v135 : Index := Scalar.indexCast c7_i32_114
  let c1_i32_115 : BitVec 32 := 1#32
  let v136 : Index := Scalar.indexCast c1_i32_115
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v137 : Index := Scalar.indexCast v57
  ![v134.toNat, 7, 1, v137.toNat]
def k0_off20 (k0_t2 : Fin k0_t2_loop.trips) : Fin 2 → Nat :=
  let c0_i32_88 : BitVec 32 := 0#32
  let c0_i32_21 : BitVec 32 := 0#32
  let c1_i32_23 : BitVec 32 := 1#32
  let arg15 : BitVec 32 := Scf.iv c0_i32_21 c1_i32_23 k0_t2
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v58 : BitVec 32 := Scalar.addi c0_i32_88 v46
  let v215 : Index := Scalar.indexCast v58
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v216 : Index := Scalar.indexCast v57
  ![v215.toNat, v216.toNat]

def k0_chk1 (v239 : IVec S16 32) : Prop :=
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a)
theorem k0_idx1_inb : ∀ (v239 : IVec S16 32) (k0_hw1 : k0_chk1 v239), ∀ a x, ((![v239] : Fin 1 → IVec S16 32) a x).toNat < S1024.size a := fun v239 k0_hw1 => k0_hw1.1
theorem k0_idx2_inb : ∀ (v239 : IVec S16 32) (k0_hw1 : k0_chk1 v239), ∀ a x, ((![v239] : Fin 1 → IVec S16 32) a x).toNat < S1024.size a := fun v239 k0_hw1 => k0_hw1.2.1
theorem k0_idx3_inb : ∀ (v239 : IVec S16 32) (k0_hw1 : k0_chk1 v239), ∀ a x, ((![v239] : Fin 1 → IVec S16 32) a x).toNat < S1024.size a := fun v239 k0_hw1 => k0_hw1.2.2.1
theorem k0_idx4_inb : ∀ (v239 : IVec S16 32) (k0_hw1 : k0_chk1 v239), ∀ a x, ((![v239] : Fin 1 → IVec S16 32) a x).toNat < S1024.size a := fun v239 k0_hw1 => k0_hw1.2.2.2
def k0_off21 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v271 : Index := Scalar.indexCast v258
  let c0_i32_154 : BitVec 32 := 0#32
  let v272 : Index := Scalar.indexCast c0_i32_154
  let c0_i32_155 : BitVec 32 := 0#32
  let v273 : Index := Scalar.indexCast c0_i32_155
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v274 : Index := Scalar.indexCast v269
  ![v271.toNat, 0, 0, v274.toNat]
def k0_off22 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v276 : Index := Scalar.indexCast v258
  let c0_i32_156 : BitVec 32 := 0#32
  let v277 : Index := Scalar.indexCast c0_i32_156
  let c1_i32_157 : BitVec 32 := 1#32
  let v278 : Index := Scalar.indexCast c1_i32_157
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v279 : Index := Scalar.indexCast v269
  ![v276.toNat, 0, 1, v279.toNat]
def k0_off23 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v281 : Index := Scalar.indexCast v258
  let c1_i32_158 : BitVec 32 := 1#32
  let v282 : Index := Scalar.indexCast c1_i32_158
  let c0_i32_159 : BitVec 32 := 0#32
  let v283 : Index := Scalar.indexCast c0_i32_159
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v284 : Index := Scalar.indexCast v269
  ![v281.toNat, 1, 0, v284.toNat]
def k0_off24 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v286 : Index := Scalar.indexCast v258
  let c1_i32_160 : BitVec 32 := 1#32
  let v287 : Index := Scalar.indexCast c1_i32_160
  let c1_i32_161 : BitVec 32 := 1#32
  let v288 : Index := Scalar.indexCast c1_i32_161
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v289 : Index := Scalar.indexCast v269
  ![v286.toNat, 1, 1, v289.toNat]
def k0_off25 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v291 : Index := Scalar.indexCast v258
  let c2_i32_162 : BitVec 32 := 2#32
  let v292 : Index := Scalar.indexCast c2_i32_162
  let c0_i32_163 : BitVec 32 := 0#32
  let v293 : Index := Scalar.indexCast c0_i32_163
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v294 : Index := Scalar.indexCast v269
  ![v291.toNat, 2, 0, v294.toNat]
def k0_off26 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v296 : Index := Scalar.indexCast v258
  let c2_i32_164 : BitVec 32 := 2#32
  let v297 : Index := Scalar.indexCast c2_i32_164
  let c1_i32_165 : BitVec 32 := 1#32
  let v298 : Index := Scalar.indexCast c1_i32_165
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v299 : Index := Scalar.indexCast v269
  ![v296.toNat, 2, 1, v299.toNat]
def k0_off27 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v301 : Index := Scalar.indexCast v258
  let c3_i32_166 : BitVec 32 := 3#32
  let v302 : Index := Scalar.indexCast c3_i32_166
  let c0_i32_167 : BitVec 32 := 0#32
  let v303 : Index := Scalar.indexCast c0_i32_167
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v304 : Index := Scalar.indexCast v269
  ![v301.toNat, 3, 0, v304.toNat]
def k0_off28 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v306 : Index := Scalar.indexCast v258
  let c3_i32_168 : BitVec 32 := 3#32
  let v307 : Index := Scalar.indexCast c3_i32_168
  let c1_i32_169 : BitVec 32 := 1#32
  let v308 : Index := Scalar.indexCast c1_i32_169
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v309 : Index := Scalar.indexCast v269
  ![v306.toNat, 3, 1, v309.toNat]
def k0_off29 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v311 : Index := Scalar.indexCast v258
  let c4_i32_170 : BitVec 32 := 4#32
  let v312 : Index := Scalar.indexCast c4_i32_170
  let c0_i32_171 : BitVec 32 := 0#32
  let v313 : Index := Scalar.indexCast c0_i32_171
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v314 : Index := Scalar.indexCast v269
  ![v311.toNat, 4, 0, v314.toNat]
def k0_off30 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v316 : Index := Scalar.indexCast v258
  let c4_i32_172 : BitVec 32 := 4#32
  let v317 : Index := Scalar.indexCast c4_i32_172
  let c1_i32_173 : BitVec 32 := 1#32
  let v318 : Index := Scalar.indexCast c1_i32_173
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v319 : Index := Scalar.indexCast v269
  ![v316.toNat, 4, 1, v319.toNat]
def k0_off31 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v321 : Index := Scalar.indexCast v258
  let c5_i32_174 : BitVec 32 := 5#32
  let v322 : Index := Scalar.indexCast c5_i32_174
  let c0_i32_175 : BitVec 32 := 0#32
  let v323 : Index := Scalar.indexCast c0_i32_175
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v324 : Index := Scalar.indexCast v269
  ![v321.toNat, 5, 0, v324.toNat]
def k0_off32 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v326 : Index := Scalar.indexCast v258
  let c5_i32_176 : BitVec 32 := 5#32
  let v327 : Index := Scalar.indexCast c5_i32_176
  let c1_i32_177 : BitVec 32 := 1#32
  let v328 : Index := Scalar.indexCast c1_i32_177
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v329 : Index := Scalar.indexCast v269
  ![v326.toNat, 5, 1, v329.toNat]
def k0_off33 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v331 : Index := Scalar.indexCast v258
  let c6_i32_178 : BitVec 32 := 6#32
  let v332 : Index := Scalar.indexCast c6_i32_178
  let c0_i32_179 : BitVec 32 := 0#32
  let v333 : Index := Scalar.indexCast c0_i32_179
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v334 : Index := Scalar.indexCast v269
  ![v331.toNat, 6, 0, v334.toNat]
def k0_off34 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v336 : Index := Scalar.indexCast v258
  let c6_i32_180 : BitVec 32 := 6#32
  let v337 : Index := Scalar.indexCast c6_i32_180
  let c1_i32_181 : BitVec 32 := 1#32
  let v338 : Index := Scalar.indexCast c1_i32_181
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v339 : Index := Scalar.indexCast v269
  ![v336.toNat, 6, 1, v339.toNat]
def k0_off35 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v341 : Index := Scalar.indexCast v258
  let c7_i32_182 : BitVec 32 := 7#32
  let v342 : Index := Scalar.indexCast c7_i32_182
  let c0_i32_183 : BitVec 32 := 0#32
  let v343 : Index := Scalar.indexCast c0_i32_183
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v344 : Index := Scalar.indexCast v269
  ![v341.toNat, 7, 0, v344.toNat]
def k0_off36 (k0_t2 : Fin k0_t2_loop.trips) : Fin 4 → Nat :=
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v346 : Index := Scalar.indexCast v258
  let c7_i32_184 : BitVec 32 := 7#32
  let v347 : Index := Scalar.indexCast c7_i32_184
  let c1_i32_185 : BitVec 32 := 1#32
  let v348 : Index := Scalar.indexCast c1_i32_185
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v349 : Index := Scalar.indexCast v269
  ![v346.toNat, 7, 1, v349.toNat]
def k0_off37 (k0_t2 : Fin k0_t2_loop.trips) : Fin 2 → Nat :=
  let c0_i32_153 : BitVec 32 := 0#32
  let c0_i32_21 : BitVec 32 := 0#32
  let c1_i32_23 : BitVec 32 := 1#32
  let arg15 : BitVec 32 := Scf.iv c0_i32_21 c1_i32_23 k0_t2
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v270 : BitVec 32 := Scalar.addi c0_i32_153 v258
  let v427 : Index := Scalar.indexCast v270
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v428 : Index := Scalar.indexCast v269
  ![v427.toNat, v428.toNat]

def k0_chk2 (v451 : IVec S16 32) : Prop :=
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a)
theorem k0_idx5_inb : ∀ (v451 : IVec S16 32) (k0_hw2 : k0_chk2 v451), ∀ a x, ((![v451] : Fin 1 → IVec S16 32) a x).toNat < S1024.size a := fun v451 k0_hw2 => k0_hw2.1
theorem k0_idx6_inb : ∀ (v451 : IVec S16 32) (k0_hw2 : k0_chk2 v451), ∀ a x, ((![v451] : Fin 1 → IVec S16 32) a x).toNat < S1024.size a := fun v451 k0_hw2 => k0_hw2.2.1
theorem k0_idx7_inb : ∀ (v451 : IVec S16 32) (k0_hw2 : k0_chk2 v451), ∀ a x, ((![v451] : Fin 1 → IVec S16 32) a x).toNat < S1024.size a := fun v451 k0_hw2 => k0_hw2.2.2.1
theorem k0_idx8_inb : ∀ (v451 : IVec S16 32) (k0_hw2 : k0_chk2 v451), ∀ a x, ((![v451] : Fin 1 → IVec S16 32) a x).toNat < S1024.size a := fun v451 k0_hw2 => k0_hw2.2.2.2
def k0_off38 (i : grid0.Coords) : Fin 4 → Nat :=
  let c32_i32 : BitVec 32 := 32#32
  let c0_i32_31 : BitVec 32 := 0#32
  let c0_i32_32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![32, 0, 0, v2.toNat]
@[reducible] def k0_t3_loop : Scf.Loop 32 :=
  let c0_i32_37 : BitVec 32 := 0#32
  let c64_i32_38 : BitVec 32 := 64#32
  let v18 : BitVec 32 := Scalar.addi c0_i32_37 c64_i32_38
  let c1_i32_39 : BitVec 32 := 1#32
  ⟨c0_i32_37, v18, c1_i32_39⟩
def k0_off39 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v59 : Index := Scalar.indexCast v46
  let c0_i32_89 : BitVec 32 := 0#32
  let v60 : Index := Scalar.indexCast c0_i32_89
  let c0_i32_90 : BitVec 32 := 0#32
  let v61 : Index := Scalar.indexCast c0_i32_90
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v62 : Index := Scalar.indexCast v57
  ![v59.toNat, 0, 0, v62.toNat]
def k0_off40 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v64 : Index := Scalar.indexCast v46
  let c0_i32_91 : BitVec 32 := 0#32
  let v65 : Index := Scalar.indexCast c0_i32_91
  let c1_i32_92 : BitVec 32 := 1#32
  let v66 : Index := Scalar.indexCast c1_i32_92
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v67 : Index := Scalar.indexCast v57
  ![v64.toNat, 0, 1, v67.toNat]
def k0_off41 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v69 : Index := Scalar.indexCast v46
  let c1_i32_93 : BitVec 32 := 1#32
  let v70 : Index := Scalar.indexCast c1_i32_93
  let c0_i32_94 : BitVec 32 := 0#32
  let v71 : Index := Scalar.indexCast c0_i32_94
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v72 : Index := Scalar.indexCast v57
  ![v69.toNat, 1, 0, v72.toNat]
def k0_off42 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v74 : Index := Scalar.indexCast v46
  let c1_i32_95 : BitVec 32 := 1#32
  let v75 : Index := Scalar.indexCast c1_i32_95
  let c1_i32_96 : BitVec 32 := 1#32
  let v76 : Index := Scalar.indexCast c1_i32_96
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v77 : Index := Scalar.indexCast v57
  ![v74.toNat, 1, 1, v77.toNat]
def k0_off43 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v79 : Index := Scalar.indexCast v46
  let c2_i32_97 : BitVec 32 := 2#32
  let v80 : Index := Scalar.indexCast c2_i32_97
  let c0_i32_98 : BitVec 32 := 0#32
  let v81 : Index := Scalar.indexCast c0_i32_98
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v82 : Index := Scalar.indexCast v57
  ![v79.toNat, 2, 0, v82.toNat]
def k0_off44 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v84 : Index := Scalar.indexCast v46
  let c2_i32_99 : BitVec 32 := 2#32
  let v85 : Index := Scalar.indexCast c2_i32_99
  let c1_i32_100 : BitVec 32 := 1#32
  let v86 : Index := Scalar.indexCast c1_i32_100
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v87 : Index := Scalar.indexCast v57
  ![v84.toNat, 2, 1, v87.toNat]
def k0_off45 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v89 : Index := Scalar.indexCast v46
  let c3_i32 : BitVec 32 := 3#32
  let v90 : Index := Scalar.indexCast c3_i32
  let c0_i32_101 : BitVec 32 := 0#32
  let v91 : Index := Scalar.indexCast c0_i32_101
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v92 : Index := Scalar.indexCast v57
  ![v89.toNat, 3, 0, v92.toNat]
def k0_off46 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v94 : Index := Scalar.indexCast v46
  let c3_i32_102 : BitVec 32 := 3#32
  let v95 : Index := Scalar.indexCast c3_i32_102
  let c1_i32_103 : BitVec 32 := 1#32
  let v96 : Index := Scalar.indexCast c1_i32_103
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v97 : Index := Scalar.indexCast v57
  ![v94.toNat, 3, 1, v97.toNat]
def k0_off47 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v99 : Index := Scalar.indexCast v46
  let c4_i32 : BitVec 32 := 4#32
  let v100 : Index := Scalar.indexCast c4_i32
  let c0_i32_104 : BitVec 32 := 0#32
  let v101 : Index := Scalar.indexCast c0_i32_104
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v102 : Index := Scalar.indexCast v57
  ![v99.toNat, 4, 0, v102.toNat]
def k0_off48 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v104 : Index := Scalar.indexCast v46
  let c4_i32_105 : BitVec 32 := 4#32
  let v105 : Index := Scalar.indexCast c4_i32_105
  let c1_i32_106 : BitVec 32 := 1#32
  let v106 : Index := Scalar.indexCast c1_i32_106
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v107 : Index := Scalar.indexCast v57
  ![v104.toNat, 4, 1, v107.toNat]
def k0_off49 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v109 : Index := Scalar.indexCast v46
  let c5_i32 : BitVec 32 := 5#32
  let v110 : Index := Scalar.indexCast c5_i32
  let c0_i32_107 : BitVec 32 := 0#32
  let v111 : Index := Scalar.indexCast c0_i32_107
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v112 : Index := Scalar.indexCast v57
  ![v109.toNat, 5, 0, v112.toNat]
def k0_off50 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v114 : Index := Scalar.indexCast v46
  let c5_i32_108 : BitVec 32 := 5#32
  let v115 : Index := Scalar.indexCast c5_i32_108
  let c1_i32_109 : BitVec 32 := 1#32
  let v116 : Index := Scalar.indexCast c1_i32_109
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v117 : Index := Scalar.indexCast v57
  ![v114.toNat, 5, 1, v117.toNat]
def k0_off51 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v119 : Index := Scalar.indexCast v46
  let c6_i32 : BitVec 32 := 6#32
  let v120 : Index := Scalar.indexCast c6_i32
  let c0_i32_110 : BitVec 32 := 0#32
  let v121 : Index := Scalar.indexCast c0_i32_110
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v122 : Index := Scalar.indexCast v57
  ![v119.toNat, 6, 0, v122.toNat]
def k0_off52 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v124 : Index := Scalar.indexCast v46
  let c6_i32_111 : BitVec 32 := 6#32
  let v125 : Index := Scalar.indexCast c6_i32_111
  let c1_i32_112 : BitVec 32 := 1#32
  let v126 : Index := Scalar.indexCast c1_i32_112
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v127 : Index := Scalar.indexCast v57
  ![v124.toNat, 6, 1, v127.toNat]
def k0_off53 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v129 : Index := Scalar.indexCast v46
  let c7_i32 : BitVec 32 := 7#32
  let v130 : Index := Scalar.indexCast c7_i32
  let c0_i32_113 : BitVec 32 := 0#32
  let v131 : Index := Scalar.indexCast c0_i32_113
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v132 : Index := Scalar.indexCast v57
  ![v129.toNat, 7, 0, v132.toNat]
def k0_off54 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v134 : Index := Scalar.indexCast v46
  let c7_i32_114 : BitVec 32 := 7#32
  let v135 : Index := Scalar.indexCast c7_i32_114
  let c1_i32_115 : BitVec 32 := 1#32
  let v136 : Index := Scalar.indexCast c1_i32_115
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v137 : Index := Scalar.indexCast v57
  ![v134.toNat, 7, 1, v137.toNat]
def k0_off55 (k0_t3 : Fin k0_t3_loop.trips) : Fin 2 → Nat :=
  let c16_i32_88 : BitVec 32 := 16#32
  let c0_i32_37 : BitVec 32 := 0#32
  let c1_i32_39 : BitVec 32 := 1#32
  let arg15 : BitVec 32 := Scf.iv c0_i32_37 c1_i32_39 k0_t3
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v58 : BitVec 32 := Scalar.addi c16_i32_88 v46
  let v215 : Index := Scalar.indexCast v58
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v216 : Index := Scalar.indexCast v57
  ![v215.toNat, v216.toNat]

def k0_chk3 (v239 : IVec S16 32) : Prop :=
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a)
theorem k0_idx9_inb : ∀ (v239 : IVec S16 32) (k0_hw3 : k0_chk3 v239), ∀ a x, ((![v239] : Fin 1 → IVec S16 32) a x).toNat < S1024.size a := fun v239 k0_hw3 => k0_hw3.1
theorem k0_idx10_inb : ∀ (v239 : IVec S16 32) (k0_hw3 : k0_chk3 v239), ∀ a x, ((![v239] : Fin 1 → IVec S16 32) a x).toNat < S1024.size a := fun v239 k0_hw3 => k0_hw3.2.1
theorem k0_idx11_inb : ∀ (v239 : IVec S16 32) (k0_hw3 : k0_chk3 v239), ∀ a x, ((![v239] : Fin 1 → IVec S16 32) a x).toNat < S1024.size a := fun v239 k0_hw3 => k0_hw3.2.2.1
theorem k0_idx12_inb : ∀ (v239 : IVec S16 32) (k0_hw3 : k0_chk3 v239), ∀ a x, ((![v239] : Fin 1 → IVec S16 32) a x).toNat < S1024.size a := fun v239 k0_hw3 => k0_hw3.2.2.2
def k0_off56 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v271 : Index := Scalar.indexCast v258
  let c0_i32_154 : BitVec 32 := 0#32
  let v272 : Index := Scalar.indexCast c0_i32_154
  let c0_i32_155 : BitVec 32 := 0#32
  let v273 : Index := Scalar.indexCast c0_i32_155
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v274 : Index := Scalar.indexCast v269
  ![v271.toNat, 0, 0, v274.toNat]
def k0_off57 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v276 : Index := Scalar.indexCast v258
  let c0_i32_156 : BitVec 32 := 0#32
  let v277 : Index := Scalar.indexCast c0_i32_156
  let c1_i32_157 : BitVec 32 := 1#32
  let v278 : Index := Scalar.indexCast c1_i32_157
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v279 : Index := Scalar.indexCast v269
  ![v276.toNat, 0, 1, v279.toNat]
def k0_off58 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v281 : Index := Scalar.indexCast v258
  let c1_i32_158 : BitVec 32 := 1#32
  let v282 : Index := Scalar.indexCast c1_i32_158
  let c0_i32_159 : BitVec 32 := 0#32
  let v283 : Index := Scalar.indexCast c0_i32_159
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v284 : Index := Scalar.indexCast v269
  ![v281.toNat, 1, 0, v284.toNat]
def k0_off59 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v286 : Index := Scalar.indexCast v258
  let c1_i32_160 : BitVec 32 := 1#32
  let v287 : Index := Scalar.indexCast c1_i32_160
  let c1_i32_161 : BitVec 32 := 1#32
  let v288 : Index := Scalar.indexCast c1_i32_161
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v289 : Index := Scalar.indexCast v269
  ![v286.toNat, 1, 1, v289.toNat]
def k0_off60 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v291 : Index := Scalar.indexCast v258
  let c2_i32_162 : BitVec 32 := 2#32
  let v292 : Index := Scalar.indexCast c2_i32_162
  let c0_i32_163 : BitVec 32 := 0#32
  let v293 : Index := Scalar.indexCast c0_i32_163
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v294 : Index := Scalar.indexCast v269
  ![v291.toNat, 2, 0, v294.toNat]
def k0_off61 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v296 : Index := Scalar.indexCast v258
  let c2_i32_164 : BitVec 32 := 2#32
  let v297 : Index := Scalar.indexCast c2_i32_164
  let c1_i32_165 : BitVec 32 := 1#32
  let v298 : Index := Scalar.indexCast c1_i32_165
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v299 : Index := Scalar.indexCast v269
  ![v296.toNat, 2, 1, v299.toNat]
def k0_off62 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v301 : Index := Scalar.indexCast v258
  let c3_i32_166 : BitVec 32 := 3#32
  let v302 : Index := Scalar.indexCast c3_i32_166
  let c0_i32_167 : BitVec 32 := 0#32
  let v303 : Index := Scalar.indexCast c0_i32_167
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v304 : Index := Scalar.indexCast v269
  ![v301.toNat, 3, 0, v304.toNat]
def k0_off63 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v306 : Index := Scalar.indexCast v258
  let c3_i32_168 : BitVec 32 := 3#32
  let v307 : Index := Scalar.indexCast c3_i32_168
  let c1_i32_169 : BitVec 32 := 1#32
  let v308 : Index := Scalar.indexCast c1_i32_169
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v309 : Index := Scalar.indexCast v269
  ![v306.toNat, 3, 1, v309.toNat]
def k0_off64 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v311 : Index := Scalar.indexCast v258
  let c4_i32_170 : BitVec 32 := 4#32
  let v312 : Index := Scalar.indexCast c4_i32_170
  let c0_i32_171 : BitVec 32 := 0#32
  let v313 : Index := Scalar.indexCast c0_i32_171
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v314 : Index := Scalar.indexCast v269
  ![v311.toNat, 4, 0, v314.toNat]
def k0_off65 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v316 : Index := Scalar.indexCast v258
  let c4_i32_172 : BitVec 32 := 4#32
  let v317 : Index := Scalar.indexCast c4_i32_172
  let c1_i32_173 : BitVec 32 := 1#32
  let v318 : Index := Scalar.indexCast c1_i32_173
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v319 : Index := Scalar.indexCast v269
  ![v316.toNat, 4, 1, v319.toNat]
def k0_off66 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v321 : Index := Scalar.indexCast v258
  let c5_i32_174 : BitVec 32 := 5#32
  let v322 : Index := Scalar.indexCast c5_i32_174
  let c0_i32_175 : BitVec 32 := 0#32
  let v323 : Index := Scalar.indexCast c0_i32_175
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v324 : Index := Scalar.indexCast v269
  ![v321.toNat, 5, 0, v324.toNat]
def k0_off67 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v326 : Index := Scalar.indexCast v258
  let c5_i32_176 : BitVec 32 := 5#32
  let v327 : Index := Scalar.indexCast c5_i32_176
  let c1_i32_177 : BitVec 32 := 1#32
  let v328 : Index := Scalar.indexCast c1_i32_177
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v329 : Index := Scalar.indexCast v269
  ![v326.toNat, 5, 1, v329.toNat]
def k0_off68 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v331 : Index := Scalar.indexCast v258
  let c6_i32_178 : BitVec 32 := 6#32
  let v332 : Index := Scalar.indexCast c6_i32_178
  let c0_i32_179 : BitVec 32 := 0#32
  let v333 : Index := Scalar.indexCast c0_i32_179
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v334 : Index := Scalar.indexCast v269
  ![v331.toNat, 6, 0, v334.toNat]
def k0_off69 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v336 : Index := Scalar.indexCast v258
  let c6_i32_180 : BitVec 32 := 6#32
  let v337 : Index := Scalar.indexCast c6_i32_180
  let c1_i32_181 : BitVec 32 := 1#32
  let v338 : Index := Scalar.indexCast c1_i32_181
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v339 : Index := Scalar.indexCast v269
  ![v336.toNat, 6, 1, v339.toNat]
def k0_off70 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v341 : Index := Scalar.indexCast v258
  let c7_i32_182 : BitVec 32 := 7#32
  let v342 : Index := Scalar.indexCast c7_i32_182
  let c0_i32_183 : BitVec 32 := 0#32
  let v343 : Index := Scalar.indexCast c0_i32_183
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v344 : Index := Scalar.indexCast v269
  ![v341.toNat, 7, 0, v344.toNat]
def k0_off71 (k0_t3 : Fin k0_t3_loop.trips) : Fin 4 → Nat :=
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v346 : Index := Scalar.indexCast v258
  let c7_i32_184 : BitVec 32 := 7#32
  let v347 : Index := Scalar.indexCast c7_i32_184
  let c1_i32_185 : BitVec 32 := 1#32
  let v348 : Index := Scalar.indexCast c1_i32_185
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v349 : Index := Scalar.indexCast v269
  ![v346.toNat, 7, 1, v349.toNat]
def k0_off72 (k0_t3 : Fin k0_t3_loop.trips) : Fin 2 → Nat :=
  let c16_i32_153 : BitVec 32 := 16#32
  let c0_i32_37 : BitVec 32 := 0#32
  let c1_i32_39 : BitVec 32 := 1#32
  let arg15 : BitVec 32 := Scf.iv c0_i32_37 c1_i32_39 k0_t3
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v270 : BitVec 32 := Scalar.addi c16_i32_153 v258
  let v427 : Index := Scalar.indexCast v270
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v428 : Index := Scalar.indexCast v269
  ![v427.toNat, v428.toNat]

def k0_chk4 (v451 : IVec S16 32) : Prop :=
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a)
theorem k0_idx13_inb : ∀ (v451 : IVec S16 32) (k0_hw4 : k0_chk4 v451), ∀ a x, ((![v451] : Fin 1 → IVec S16 32) a x).toNat < S1024.size a := fun v451 k0_hw4 => k0_hw4.1
theorem k0_idx14_inb : ∀ (v451 : IVec S16 32) (k0_hw4 : k0_chk4 v451), ∀ a x, ((![v451] : Fin 1 → IVec S16 32) a x).toNat < S1024.size a := fun v451 k0_hw4 => k0_hw4.2.1
theorem k0_idx15_inb : ∀ (v451 : IVec S16 32) (k0_hw4 : k0_chk4 v451), ∀ a x, ((![v451] : Fin 1 → IVec S16 32) a x).toNat < S1024.size a := fun v451 k0_hw4 => k0_hw4.2.2.1
theorem k0_idx16_inb : ∀ (v451 : IVec S16 32) (k0_hw4 : k0_chk4 v451), ∀ a x, ((![v451] : Fin 1 → IVec S16 32) a x).toNat < S1024.size a := fun v451 k0_hw4 => k0_hw4.2.2.2
def k0_off73 (i : grid0.Coords) : Fin 4 → Nat :=
  let c48_i32 : BitVec 32 := 48#32
  let c0_i32_47 : BitVec 32 := 0#32
  let c0_i32_48 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![48, 0, 0, v2.toNat]
@[reducible] def k0_t4_loop : Scf.Loop 32 :=
  let c0_i32_53 : BitVec 32 := 0#32
  let c64_i32_54 : BitVec 32 := 64#32
  let v23 : BitVec 32 := Scalar.addi c0_i32_53 c64_i32_54
  let c1_i32_55 : BitVec 32 := 1#32
  ⟨c0_i32_53, v23, c1_i32_55⟩
def k0_off74 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v59 : Index := Scalar.indexCast v46
  let c0_i32_89 : BitVec 32 := 0#32
  let v60 : Index := Scalar.indexCast c0_i32_89
  let c0_i32_90 : BitVec 32 := 0#32
  let v61 : Index := Scalar.indexCast c0_i32_90
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v62 : Index := Scalar.indexCast v57
  ![v59.toNat, 0, 0, v62.toNat]
def k0_off75 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v64 : Index := Scalar.indexCast v46
  let c0_i32_91 : BitVec 32 := 0#32
  let v65 : Index := Scalar.indexCast c0_i32_91
  let c1_i32_92 : BitVec 32 := 1#32
  let v66 : Index := Scalar.indexCast c1_i32_92
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v67 : Index := Scalar.indexCast v57
  ![v64.toNat, 0, 1, v67.toNat]
def k0_off76 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v69 : Index := Scalar.indexCast v46
  let c1_i32_93 : BitVec 32 := 1#32
  let v70 : Index := Scalar.indexCast c1_i32_93
  let c0_i32_94 : BitVec 32 := 0#32
  let v71 : Index := Scalar.indexCast c0_i32_94
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v72 : Index := Scalar.indexCast v57
  ![v69.toNat, 1, 0, v72.toNat]
def k0_off77 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v74 : Index := Scalar.indexCast v46
  let c1_i32_95 : BitVec 32 := 1#32
  let v75 : Index := Scalar.indexCast c1_i32_95
  let c1_i32_96 : BitVec 32 := 1#32
  let v76 : Index := Scalar.indexCast c1_i32_96
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v77 : Index := Scalar.indexCast v57
  ![v74.toNat, 1, 1, v77.toNat]
def k0_off78 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v79 : Index := Scalar.indexCast v46
  let c2_i32_97 : BitVec 32 := 2#32
  let v80 : Index := Scalar.indexCast c2_i32_97
  let c0_i32_98 : BitVec 32 := 0#32
  let v81 : Index := Scalar.indexCast c0_i32_98
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v82 : Index := Scalar.indexCast v57
  ![v79.toNat, 2, 0, v82.toNat]
def k0_off79 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v84 : Index := Scalar.indexCast v46
  let c2_i32_99 : BitVec 32 := 2#32
  let v85 : Index := Scalar.indexCast c2_i32_99
  let c1_i32_100 : BitVec 32 := 1#32
  let v86 : Index := Scalar.indexCast c1_i32_100
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v87 : Index := Scalar.indexCast v57
  ![v84.toNat, 2, 1, v87.toNat]
def k0_off80 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v89 : Index := Scalar.indexCast v46
  let c3_i32 : BitVec 32 := 3#32
  let v90 : Index := Scalar.indexCast c3_i32
  let c0_i32_101 : BitVec 32 := 0#32
  let v91 : Index := Scalar.indexCast c0_i32_101
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v92 : Index := Scalar.indexCast v57
  ![v89.toNat, 3, 0, v92.toNat]
def k0_off81 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v94 : Index := Scalar.indexCast v46
  let c3_i32_102 : BitVec 32 := 3#32
  let v95 : Index := Scalar.indexCast c3_i32_102
  let c1_i32_103 : BitVec 32 := 1#32
  let v96 : Index := Scalar.indexCast c1_i32_103
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v97 : Index := Scalar.indexCast v57
  ![v94.toNat, 3, 1, v97.toNat]
def k0_off82 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v99 : Index := Scalar.indexCast v46
  let c4_i32 : BitVec 32 := 4#32
  let v100 : Index := Scalar.indexCast c4_i32
  let c0_i32_104 : BitVec 32 := 0#32
  let v101 : Index := Scalar.indexCast c0_i32_104
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v102 : Index := Scalar.indexCast v57
  ![v99.toNat, 4, 0, v102.toNat]
def k0_off83 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v104 : Index := Scalar.indexCast v46
  let c4_i32_105 : BitVec 32 := 4#32
  let v105 : Index := Scalar.indexCast c4_i32_105
  let c1_i32_106 : BitVec 32 := 1#32
  let v106 : Index := Scalar.indexCast c1_i32_106
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v107 : Index := Scalar.indexCast v57
  ![v104.toNat, 4, 1, v107.toNat]
def k0_off84 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v109 : Index := Scalar.indexCast v46
  let c5_i32 : BitVec 32 := 5#32
  let v110 : Index := Scalar.indexCast c5_i32
  let c0_i32_107 : BitVec 32 := 0#32
  let v111 : Index := Scalar.indexCast c0_i32_107
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v112 : Index := Scalar.indexCast v57
  ![v109.toNat, 5, 0, v112.toNat]
def k0_off85 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v114 : Index := Scalar.indexCast v46
  let c5_i32_108 : BitVec 32 := 5#32
  let v115 : Index := Scalar.indexCast c5_i32_108
  let c1_i32_109 : BitVec 32 := 1#32
  let v116 : Index := Scalar.indexCast c1_i32_109
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v117 : Index := Scalar.indexCast v57
  ![v114.toNat, 5, 1, v117.toNat]
def k0_off86 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v119 : Index := Scalar.indexCast v46
  let c6_i32 : BitVec 32 := 6#32
  let v120 : Index := Scalar.indexCast c6_i32
  let c0_i32_110 : BitVec 32 := 0#32
  let v121 : Index := Scalar.indexCast c0_i32_110
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v122 : Index := Scalar.indexCast v57
  ![v119.toNat, 6, 0, v122.toNat]
def k0_off87 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v124 : Index := Scalar.indexCast v46
  let c6_i32_111 : BitVec 32 := 6#32
  let v125 : Index := Scalar.indexCast c6_i32_111
  let c1_i32_112 : BitVec 32 := 1#32
  let v126 : Index := Scalar.indexCast c1_i32_112
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v127 : Index := Scalar.indexCast v57
  ![v124.toNat, 6, 1, v127.toNat]
def k0_off88 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v129 : Index := Scalar.indexCast v46
  let c7_i32 : BitVec 32 := 7#32
  let v130 : Index := Scalar.indexCast c7_i32
  let c0_i32_113 : BitVec 32 := 0#32
  let v131 : Index := Scalar.indexCast c0_i32_113
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v132 : Index := Scalar.indexCast v57
  ![v129.toNat, 7, 0, v132.toNat]
def k0_off89 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v134 : Index := Scalar.indexCast v46
  let c7_i32_114 : BitVec 32 := 7#32
  let v135 : Index := Scalar.indexCast c7_i32_114
  let c1_i32_115 : BitVec 32 := 1#32
  let v136 : Index := Scalar.indexCast c1_i32_115
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v137 : Index := Scalar.indexCast v57
  ![v134.toNat, 7, 1, v137.toNat]
def k0_off90 (k0_t4 : Fin k0_t4_loop.trips) : Fin 2 → Nat :=
  let c32_i32_88 : BitVec 32 := 32#32
  let c0_i32_53 : BitVec 32 := 0#32
  let c1_i32_55 : BitVec 32 := 1#32
  let arg15 : BitVec 32 := Scf.iv c0_i32_53 c1_i32_55 k0_t4
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v58 : BitVec 32 := Scalar.addi c32_i32_88 v46
  let v215 : Index := Scalar.indexCast v58
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v216 : Index := Scalar.indexCast v57
  ![v215.toNat, v216.toNat]

def k0_chk5 (v239 : IVec S16 32) : Prop :=
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a)
theorem k0_idx17_inb : ∀ (v239 : IVec S16 32) (k0_hw5 : k0_chk5 v239), ∀ a x, ((![v239] : Fin 1 → IVec S16 32) a x).toNat < S1024.size a := fun v239 k0_hw5 => k0_hw5.1
theorem k0_idx18_inb : ∀ (v239 : IVec S16 32) (k0_hw5 : k0_chk5 v239), ∀ a x, ((![v239] : Fin 1 → IVec S16 32) a x).toNat < S1024.size a := fun v239 k0_hw5 => k0_hw5.2.1
theorem k0_idx19_inb : ∀ (v239 : IVec S16 32) (k0_hw5 : k0_chk5 v239), ∀ a x, ((![v239] : Fin 1 → IVec S16 32) a x).toNat < S1024.size a := fun v239 k0_hw5 => k0_hw5.2.2.1
theorem k0_idx20_inb : ∀ (v239 : IVec S16 32) (k0_hw5 : k0_chk5 v239), ∀ a x, ((![v239] : Fin 1 → IVec S16 32) a x).toNat < S1024.size a := fun v239 k0_hw5 => k0_hw5.2.2.2
def k0_off91 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v271 : Index := Scalar.indexCast v258
  let c0_i32_154 : BitVec 32 := 0#32
  let v272 : Index := Scalar.indexCast c0_i32_154
  let c0_i32_155 : BitVec 32 := 0#32
  let v273 : Index := Scalar.indexCast c0_i32_155
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v274 : Index := Scalar.indexCast v269
  ![v271.toNat, 0, 0, v274.toNat]
def k0_off92 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v276 : Index := Scalar.indexCast v258
  let c0_i32_156 : BitVec 32 := 0#32
  let v277 : Index := Scalar.indexCast c0_i32_156
  let c1_i32_157 : BitVec 32 := 1#32
  let v278 : Index := Scalar.indexCast c1_i32_157
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v279 : Index := Scalar.indexCast v269
  ![v276.toNat, 0, 1, v279.toNat]
def k0_off93 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v281 : Index := Scalar.indexCast v258
  let c1_i32_158 : BitVec 32 := 1#32
  let v282 : Index := Scalar.indexCast c1_i32_158
  let c0_i32_159 : BitVec 32 := 0#32
  let v283 : Index := Scalar.indexCast c0_i32_159
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v284 : Index := Scalar.indexCast v269
  ![v281.toNat, 1, 0, v284.toNat]
def k0_off94 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v286 : Index := Scalar.indexCast v258
  let c1_i32_160 : BitVec 32 := 1#32
  let v287 : Index := Scalar.indexCast c1_i32_160
  let c1_i32_161 : BitVec 32 := 1#32
  let v288 : Index := Scalar.indexCast c1_i32_161
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v289 : Index := Scalar.indexCast v269
  ![v286.toNat, 1, 1, v289.toNat]
def k0_off95 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v291 : Index := Scalar.indexCast v258
  let c2_i32_162 : BitVec 32 := 2#32
  let v292 : Index := Scalar.indexCast c2_i32_162
  let c0_i32_163 : BitVec 32 := 0#32
  let v293 : Index := Scalar.indexCast c0_i32_163
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v294 : Index := Scalar.indexCast v269
  ![v291.toNat, 2, 0, v294.toNat]
def k0_off96 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v296 : Index := Scalar.indexCast v258
  let c2_i32_164 : BitVec 32 := 2#32
  let v297 : Index := Scalar.indexCast c2_i32_164
  let c1_i32_165 : BitVec 32 := 1#32
  let v298 : Index := Scalar.indexCast c1_i32_165
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v299 : Index := Scalar.indexCast v269
  ![v296.toNat, 2, 1, v299.toNat]
def k0_off97 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v301 : Index := Scalar.indexCast v258
  let c3_i32_166 : BitVec 32 := 3#32
  let v302 : Index := Scalar.indexCast c3_i32_166
  let c0_i32_167 : BitVec 32 := 0#32
  let v303 : Index := Scalar.indexCast c0_i32_167
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v304 : Index := Scalar.indexCast v269
  ![v301.toNat, 3, 0, v304.toNat]
def k0_off98 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v306 : Index := Scalar.indexCast v258
  let c3_i32_168 : BitVec 32 := 3#32
  let v307 : Index := Scalar.indexCast c3_i32_168
  let c1_i32_169 : BitVec 32 := 1#32
  let v308 : Index := Scalar.indexCast c1_i32_169
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v309 : Index := Scalar.indexCast v269
  ![v306.toNat, 3, 1, v309.toNat]
def k0_off99 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v311 : Index := Scalar.indexCast v258
  let c4_i32_170 : BitVec 32 := 4#32
  let v312 : Index := Scalar.indexCast c4_i32_170
  let c0_i32_171 : BitVec 32 := 0#32
  let v313 : Index := Scalar.indexCast c0_i32_171
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v314 : Index := Scalar.indexCast v269
  ![v311.toNat, 4, 0, v314.toNat]
def k0_off100 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v316 : Index := Scalar.indexCast v258
  let c4_i32_172 : BitVec 32 := 4#32
  let v317 : Index := Scalar.indexCast c4_i32_172
  let c1_i32_173 : BitVec 32 := 1#32
  let v318 : Index := Scalar.indexCast c1_i32_173
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v319 : Index := Scalar.indexCast v269
  ![v316.toNat, 4, 1, v319.toNat]
def k0_off101 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v321 : Index := Scalar.indexCast v258
  let c5_i32_174 : BitVec 32 := 5#32
  let v322 : Index := Scalar.indexCast c5_i32_174
  let c0_i32_175 : BitVec 32 := 0#32
  let v323 : Index := Scalar.indexCast c0_i32_175
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v324 : Index := Scalar.indexCast v269
  ![v321.toNat, 5, 0, v324.toNat]
def k0_off102 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v326 : Index := Scalar.indexCast v258
  let c5_i32_176 : BitVec 32 := 5#32
  let v327 : Index := Scalar.indexCast c5_i32_176
  let c1_i32_177 : BitVec 32 := 1#32
  let v328 : Index := Scalar.indexCast c1_i32_177
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v329 : Index := Scalar.indexCast v269
  ![v326.toNat, 5, 1, v329.toNat]
def k0_off103 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v331 : Index := Scalar.indexCast v258
  let c6_i32_178 : BitVec 32 := 6#32
  let v332 : Index := Scalar.indexCast c6_i32_178
  let c0_i32_179 : BitVec 32 := 0#32
  let v333 : Index := Scalar.indexCast c0_i32_179
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v334 : Index := Scalar.indexCast v269
  ![v331.toNat, 6, 0, v334.toNat]
def k0_off104 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v336 : Index := Scalar.indexCast v258
  let c6_i32_180 : BitVec 32 := 6#32
  let v337 : Index := Scalar.indexCast c6_i32_180
  let c1_i32_181 : BitVec 32 := 1#32
  let v338 : Index := Scalar.indexCast c1_i32_181
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v339 : Index := Scalar.indexCast v269
  ![v336.toNat, 6, 1, v339.toNat]
def k0_off105 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v341 : Index := Scalar.indexCast v258
  let c7_i32_182 : BitVec 32 := 7#32
  let v342 : Index := Scalar.indexCast c7_i32_182
  let c0_i32_183 : BitVec 32 := 0#32
  let v343 : Index := Scalar.indexCast c0_i32_183
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v344 : Index := Scalar.indexCast v269
  ![v341.toNat, 7, 0, v344.toNat]
def k0_off106 (k0_t4 : Fin k0_t4_loop.trips) : Fin 4 → Nat :=
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v346 : Index := Scalar.indexCast v258
  let c7_i32_184 : BitVec 32 := 7#32
  let v347 : Index := Scalar.indexCast c7_i32_184
  let c1_i32_185 : BitVec 32 := 1#32
  let v348 : Index := Scalar.indexCast c1_i32_185
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v349 : Index := Scalar.indexCast v269
  ![v346.toNat, 7, 1, v349.toNat]
def k0_off107 (k0_t4 : Fin k0_t4_loop.trips) : Fin 2 → Nat :=
  let c32_i32_153 : BitVec 32 := 32#32
  let c0_i32_53 : BitVec 32 := 0#32
  let c1_i32_55 : BitVec 32 := 1#32
  let arg15 : BitVec 32 := Scf.iv c0_i32_53 c1_i32_55 k0_t4
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v270 : BitVec 32 := Scalar.addi c32_i32_153 v258
  let v427 : Index := Scalar.indexCast v270
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v428 : Index := Scalar.indexCast v269
  ![v427.toNat, v428.toNat]

def k0_chk6 (v451 : IVec S16 32) : Prop :=
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a)
theorem k0_idx21_inb : ∀ (v451 : IVec S16 32) (k0_hw6 : k0_chk6 v451), ∀ a x, ((![v451] : Fin 1 → IVec S16 32) a x).toNat < S1024.size a := fun v451 k0_hw6 => k0_hw6.1
theorem k0_idx22_inb : ∀ (v451 : IVec S16 32) (k0_hw6 : k0_chk6 v451), ∀ a x, ((![v451] : Fin 1 → IVec S16 32) a x).toNat < S1024.size a := fun v451 k0_hw6 => k0_hw6.2.1
theorem k0_idx23_inb : ∀ (v451 : IVec S16 32) (k0_hw6 : k0_chk6 v451), ∀ a x, ((![v451] : Fin 1 → IVec S16 32) a x).toNat < S1024.size a := fun v451 k0_hw6 => k0_hw6.2.2.1
theorem k0_idx24_inb : ∀ (v451 : IVec S16 32) (k0_hw6 : k0_chk6 v451), ∀ a x, ((![v451] : Fin 1 → IVec S16 32) a x).toNat < S1024.size a := fun v451 k0_hw6 => k0_hw6.2.2.2
@[reducible] def k0_t5_loop : Scf.Loop 32 :=
  let c0_i32_64 : BitVec 32 := 0#32
  let c64_i32_65 : BitVec 32 := 64#32
  let v26 : BitVec 32 := Scalar.addi c0_i32_64 c64_i32_65
  let c1_i32_66 : BitVec 32 := 1#32
  ⟨c0_i32_64, v26, c1_i32_66⟩
def k0_off108 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v59 : Index := Scalar.indexCast v46
  let c0_i32_89 : BitVec 32 := 0#32
  let v60 : Index := Scalar.indexCast c0_i32_89
  let c0_i32_90 : BitVec 32 := 0#32
  let v61 : Index := Scalar.indexCast c0_i32_90
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v62 : Index := Scalar.indexCast v57
  ![v59.toNat, 0, 0, v62.toNat]
def k0_off109 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v64 : Index := Scalar.indexCast v46
  let c0_i32_91 : BitVec 32 := 0#32
  let v65 : Index := Scalar.indexCast c0_i32_91
  let c1_i32_92 : BitVec 32 := 1#32
  let v66 : Index := Scalar.indexCast c1_i32_92
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v67 : Index := Scalar.indexCast v57
  ![v64.toNat, 0, 1, v67.toNat]
def k0_off110 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v69 : Index := Scalar.indexCast v46
  let c1_i32_93 : BitVec 32 := 1#32
  let v70 : Index := Scalar.indexCast c1_i32_93
  let c0_i32_94 : BitVec 32 := 0#32
  let v71 : Index := Scalar.indexCast c0_i32_94
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v72 : Index := Scalar.indexCast v57
  ![v69.toNat, 1, 0, v72.toNat]
def k0_off111 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v74 : Index := Scalar.indexCast v46
  let c1_i32_95 : BitVec 32 := 1#32
  let v75 : Index := Scalar.indexCast c1_i32_95
  let c1_i32_96 : BitVec 32 := 1#32
  let v76 : Index := Scalar.indexCast c1_i32_96
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v77 : Index := Scalar.indexCast v57
  ![v74.toNat, 1, 1, v77.toNat]
def k0_off112 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v79 : Index := Scalar.indexCast v46
  let c2_i32_97 : BitVec 32 := 2#32
  let v80 : Index := Scalar.indexCast c2_i32_97
  let c0_i32_98 : BitVec 32 := 0#32
  let v81 : Index := Scalar.indexCast c0_i32_98
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v82 : Index := Scalar.indexCast v57
  ![v79.toNat, 2, 0, v82.toNat]
def k0_off113 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v84 : Index := Scalar.indexCast v46
  let c2_i32_99 : BitVec 32 := 2#32
  let v85 : Index := Scalar.indexCast c2_i32_99
  let c1_i32_100 : BitVec 32 := 1#32
  let v86 : Index := Scalar.indexCast c1_i32_100
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v87 : Index := Scalar.indexCast v57
  ![v84.toNat, 2, 1, v87.toNat]
def k0_off114 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v89 : Index := Scalar.indexCast v46
  let c3_i32 : BitVec 32 := 3#32
  let v90 : Index := Scalar.indexCast c3_i32
  let c0_i32_101 : BitVec 32 := 0#32
  let v91 : Index := Scalar.indexCast c0_i32_101
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v92 : Index := Scalar.indexCast v57
  ![v89.toNat, 3, 0, v92.toNat]
def k0_off115 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v94 : Index := Scalar.indexCast v46
  let c3_i32_102 : BitVec 32 := 3#32
  let v95 : Index := Scalar.indexCast c3_i32_102
  let c1_i32_103 : BitVec 32 := 1#32
  let v96 : Index := Scalar.indexCast c1_i32_103
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v97 : Index := Scalar.indexCast v57
  ![v94.toNat, 3, 1, v97.toNat]
def k0_off116 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v99 : Index := Scalar.indexCast v46
  let c4_i32 : BitVec 32 := 4#32
  let v100 : Index := Scalar.indexCast c4_i32
  let c0_i32_104 : BitVec 32 := 0#32
  let v101 : Index := Scalar.indexCast c0_i32_104
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v102 : Index := Scalar.indexCast v57
  ![v99.toNat, 4, 0, v102.toNat]
def k0_off117 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v104 : Index := Scalar.indexCast v46
  let c4_i32_105 : BitVec 32 := 4#32
  let v105 : Index := Scalar.indexCast c4_i32_105
  let c1_i32_106 : BitVec 32 := 1#32
  let v106 : Index := Scalar.indexCast c1_i32_106
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v107 : Index := Scalar.indexCast v57
  ![v104.toNat, 4, 1, v107.toNat]
def k0_off118 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v109 : Index := Scalar.indexCast v46
  let c5_i32 : BitVec 32 := 5#32
  let v110 : Index := Scalar.indexCast c5_i32
  let c0_i32_107 : BitVec 32 := 0#32
  let v111 : Index := Scalar.indexCast c0_i32_107
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v112 : Index := Scalar.indexCast v57
  ![v109.toNat, 5, 0, v112.toNat]
def k0_off119 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v114 : Index := Scalar.indexCast v46
  let c5_i32_108 : BitVec 32 := 5#32
  let v115 : Index := Scalar.indexCast c5_i32_108
  let c1_i32_109 : BitVec 32 := 1#32
  let v116 : Index := Scalar.indexCast c1_i32_109
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v117 : Index := Scalar.indexCast v57
  ![v114.toNat, 5, 1, v117.toNat]
def k0_off120 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v119 : Index := Scalar.indexCast v46
  let c6_i32 : BitVec 32 := 6#32
  let v120 : Index := Scalar.indexCast c6_i32
  let c0_i32_110 : BitVec 32 := 0#32
  let v121 : Index := Scalar.indexCast c0_i32_110
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v122 : Index := Scalar.indexCast v57
  ![v119.toNat, 6, 0, v122.toNat]
def k0_off121 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v124 : Index := Scalar.indexCast v46
  let c6_i32_111 : BitVec 32 := 6#32
  let v125 : Index := Scalar.indexCast c6_i32_111
  let c1_i32_112 : BitVec 32 := 1#32
  let v126 : Index := Scalar.indexCast c1_i32_112
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v127 : Index := Scalar.indexCast v57
  ![v124.toNat, 6, 1, v127.toNat]
def k0_off122 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v129 : Index := Scalar.indexCast v46
  let c7_i32 : BitVec 32 := 7#32
  let v130 : Index := Scalar.indexCast c7_i32
  let c0_i32_113 : BitVec 32 := 0#32
  let v131 : Index := Scalar.indexCast c0_i32_113
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v132 : Index := Scalar.indexCast v57
  ![v129.toNat, 7, 0, v132.toNat]
def k0_off123 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v134 : Index := Scalar.indexCast v46
  let c7_i32_114 : BitVec 32 := 7#32
  let v135 : Index := Scalar.indexCast c7_i32_114
  let c1_i32_115 : BitVec 32 := 1#32
  let v136 : Index := Scalar.indexCast c1_i32_115
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v137 : Index := Scalar.indexCast v57
  ![v134.toNat, 7, 1, v137.toNat]
def k0_off124 (k0_t5 : Fin k0_t5_loop.trips) : Fin 2 → Nat :=
  let c48_i32_88 : BitVec 32 := 48#32
  let c0_i32_64 : BitVec 32 := 0#32
  let c1_i32_66 : BitVec 32 := 1#32
  let arg15 : BitVec 32 := Scf.iv c0_i32_64 c1_i32_66 k0_t5
  let c2_i32_72 : BitVec 32 := 2#32
  let v28 : BitVec 32 := Scalar.muli arg15 c2_i32_72
  let c0_i32_73 : BitVec 32 := 0#32
  let v29 : BitVec 32 := Scalar.addi v28 c0_i32_73
  let c0_i32_75 : BitVec 32 := 0#32
  let v31 : BitVec 1 := Scalar.cmpi .sgt v29 c0_i32_75
  let v32 : BitVec 32 := Scalar.extui v31
  let c0_i32_76 : BitVec 32 := 0#32
  let v33 : BitVec 1 := Scalar.cmpi .slt v29 c0_i32_76
  let v34 : BitVec 32 := Scalar.extui v33
  let v35 : BitVec 32 := Scalar.subi v32 v34
  let c8_i32_74 : BitVec 32 := 8#32
  let c0_i32_77 : BitVec 32 := 0#32
  let v36 : BitVec 1 := Scalar.cmpi .sgt c8_i32_74 c0_i32_77
  let v37 : BitVec 32 := Scalar.extui v36
  let c0_i32_78 : BitVec 32 := 0#32
  let v38 : BitVec 1 := Scalar.cmpi .slt c8_i32_74 c0_i32_78
  let v39 : BitVec 32 := Scalar.extui v38
  let v40 : BitVec 32 := Scalar.subi v37 v39
  let v41 : BitVec 1 := Scalar.cmpi .ne v35 v40
  let v42 : BitVec 32 := Scalar.remsi v29 c8_i32_74
  let c0_i32_79 : BitVec 32 := 0#32
  let v43 : BitVec 1 := Scalar.cmpi .ne v42 c0_i32_79
  let v44 : BitVec 1 := Scalar.andi v41 v43
  let v30 : BitVec 32 := Scalar.divsi v29 c8_i32_74
  let c1_i32_80 : BitVec 32 := 1#32
  let v45 : BitVec 32 := Scalar.subi v30 c1_i32_80
  let v46 : BitVec 32 := Scalar.select v44 v45 v30
  let v58 : BitVec 32 := Scalar.addi c48_i32_88 v46
  let v215 : Index := Scalar.indexCast v58
  let c8_i32_81 : BitVec 32 := 8#32
  let c0_i32_82 : BitVec 32 := 0#32
  let v47 : BitVec 1 := Scalar.cmpi .eq c8_i32_81 c0_i32_82
  let c1_i32_83 : BitVec 32 := 1#32
  let v48 : BitVec 32 := Scalar.select v47 c1_i32_83 c8_i32_81
  let v49 : BitVec 32 := Scalar.remsi v29 v48
  let c0_i32_85 : BitVec 32 := 0#32
  let v51 : BitVec 1 := Scalar.cmpi .slt v49 c0_i32_85
  let c0_i32_86 : BitVec 32 := 0#32
  let v52 : BitVec 1 := Scalar.cmpi .slt v48 c0_i32_86
  let v53 : BitVec 1 := Scalar.xori v51 v52
  let c0_i32_84 : BitVec 32 := 0#32
  let v50 : BitVec 1 := Scalar.cmpi .ne v49 c0_i32_84
  let v54 : BitVec 1 := Scalar.andi v53 v50
  let v55 : BitVec 32 := Scalar.addi v49 v48
  let v56 : BitVec 32 := Scalar.select v54 v55 v49
  let c16_i32_87 : BitVec 32 := 16#32
  let v57 : BitVec 32 := Scalar.muli v56 c16_i32_87
  let v216 : Index := Scalar.indexCast v57
  ![v215.toNat, v216.toNat]

def k0_chk7 (v239 : IVec S16 32) : Prop :=
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a)
theorem k0_idx25_inb : ∀ (v239 : IVec S16 32) (k0_hw7 : k0_chk7 v239), ∀ a x, ((![v239] : Fin 1 → IVec S16 32) a x).toNat < S1024.size a := fun v239 k0_hw7 => k0_hw7.1
theorem k0_idx26_inb : ∀ (v239 : IVec S16 32) (k0_hw7 : k0_chk7 v239), ∀ a x, ((![v239] : Fin 1 → IVec S16 32) a x).toNat < S1024.size a := fun v239 k0_hw7 => k0_hw7.2.1
theorem k0_idx27_inb : ∀ (v239 : IVec S16 32) (k0_hw7 : k0_chk7 v239), ∀ a x, ((![v239] : Fin 1 → IVec S16 32) a x).toNat < S1024.size a := fun v239 k0_hw7 => k0_hw7.2.2.1
theorem k0_idx28_inb : ∀ (v239 : IVec S16 32) (k0_hw7 : k0_chk7 v239), ∀ a x, ((![v239] : Fin 1 → IVec S16 32) a x).toNat < S1024.size a := fun v239 k0_hw7 => k0_hw7.2.2.2
def k0_off125 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v271 : Index := Scalar.indexCast v258
  let c0_i32_154 : BitVec 32 := 0#32
  let v272 : Index := Scalar.indexCast c0_i32_154
  let c0_i32_155 : BitVec 32 := 0#32
  let v273 : Index := Scalar.indexCast c0_i32_155
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v274 : Index := Scalar.indexCast v269
  ![v271.toNat, 0, 0, v274.toNat]
def k0_off126 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v276 : Index := Scalar.indexCast v258
  let c0_i32_156 : BitVec 32 := 0#32
  let v277 : Index := Scalar.indexCast c0_i32_156
  let c1_i32_157 : BitVec 32 := 1#32
  let v278 : Index := Scalar.indexCast c1_i32_157
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v279 : Index := Scalar.indexCast v269
  ![v276.toNat, 0, 1, v279.toNat]
def k0_off127 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v281 : Index := Scalar.indexCast v258
  let c1_i32_158 : BitVec 32 := 1#32
  let v282 : Index := Scalar.indexCast c1_i32_158
  let c0_i32_159 : BitVec 32 := 0#32
  let v283 : Index := Scalar.indexCast c0_i32_159
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v284 : Index := Scalar.indexCast v269
  ![v281.toNat, 1, 0, v284.toNat]
def k0_off128 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v286 : Index := Scalar.indexCast v258
  let c1_i32_160 : BitVec 32 := 1#32
  let v287 : Index := Scalar.indexCast c1_i32_160
  let c1_i32_161 : BitVec 32 := 1#32
  let v288 : Index := Scalar.indexCast c1_i32_161
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v289 : Index := Scalar.indexCast v269
  ![v286.toNat, 1, 1, v289.toNat]
def k0_off129 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v291 : Index := Scalar.indexCast v258
  let c2_i32_162 : BitVec 32 := 2#32
  let v292 : Index := Scalar.indexCast c2_i32_162
  let c0_i32_163 : BitVec 32 := 0#32
  let v293 : Index := Scalar.indexCast c0_i32_163
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v294 : Index := Scalar.indexCast v269
  ![v291.toNat, 2, 0, v294.toNat]
def k0_off130 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v296 : Index := Scalar.indexCast v258
  let c2_i32_164 : BitVec 32 := 2#32
  let v297 : Index := Scalar.indexCast c2_i32_164
  let c1_i32_165 : BitVec 32 := 1#32
  let v298 : Index := Scalar.indexCast c1_i32_165
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v299 : Index := Scalar.indexCast v269
  ![v296.toNat, 2, 1, v299.toNat]
def k0_off131 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v301 : Index := Scalar.indexCast v258
  let c3_i32_166 : BitVec 32 := 3#32
  let v302 : Index := Scalar.indexCast c3_i32_166
  let c0_i32_167 : BitVec 32 := 0#32
  let v303 : Index := Scalar.indexCast c0_i32_167
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v304 : Index := Scalar.indexCast v269
  ![v301.toNat, 3, 0, v304.toNat]
def k0_off132 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v306 : Index := Scalar.indexCast v258
  let c3_i32_168 : BitVec 32 := 3#32
  let v307 : Index := Scalar.indexCast c3_i32_168
  let c1_i32_169 : BitVec 32 := 1#32
  let v308 : Index := Scalar.indexCast c1_i32_169
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v309 : Index := Scalar.indexCast v269
  ![v306.toNat, 3, 1, v309.toNat]
def k0_off133 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v311 : Index := Scalar.indexCast v258
  let c4_i32_170 : BitVec 32 := 4#32
  let v312 : Index := Scalar.indexCast c4_i32_170
  let c0_i32_171 : BitVec 32 := 0#32
  let v313 : Index := Scalar.indexCast c0_i32_171
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v314 : Index := Scalar.indexCast v269
  ![v311.toNat, 4, 0, v314.toNat]
def k0_off134 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v316 : Index := Scalar.indexCast v258
  let c4_i32_172 : BitVec 32 := 4#32
  let v317 : Index := Scalar.indexCast c4_i32_172
  let c1_i32_173 : BitVec 32 := 1#32
  let v318 : Index := Scalar.indexCast c1_i32_173
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v319 : Index := Scalar.indexCast v269
  ![v316.toNat, 4, 1, v319.toNat]
def k0_off135 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v321 : Index := Scalar.indexCast v258
  let c5_i32_174 : BitVec 32 := 5#32
  let v322 : Index := Scalar.indexCast c5_i32_174
  let c0_i32_175 : BitVec 32 := 0#32
  let v323 : Index := Scalar.indexCast c0_i32_175
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v324 : Index := Scalar.indexCast v269
  ![v321.toNat, 5, 0, v324.toNat]
def k0_off136 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v326 : Index := Scalar.indexCast v258
  let c5_i32_176 : BitVec 32 := 5#32
  let v327 : Index := Scalar.indexCast c5_i32_176
  let c1_i32_177 : BitVec 32 := 1#32
  let v328 : Index := Scalar.indexCast c1_i32_177
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v329 : Index := Scalar.indexCast v269
  ![v326.toNat, 5, 1, v329.toNat]
def k0_off137 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v331 : Index := Scalar.indexCast v258
  let c6_i32_178 : BitVec 32 := 6#32
  let v332 : Index := Scalar.indexCast c6_i32_178
  let c0_i32_179 : BitVec 32 := 0#32
  let v333 : Index := Scalar.indexCast c0_i32_179
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v334 : Index := Scalar.indexCast v269
  ![v331.toNat, 6, 0, v334.toNat]
def k0_off138 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v336 : Index := Scalar.indexCast v258
  let c6_i32_180 : BitVec 32 := 6#32
  let v337 : Index := Scalar.indexCast c6_i32_180
  let c1_i32_181 : BitVec 32 := 1#32
  let v338 : Index := Scalar.indexCast c1_i32_181
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v339 : Index := Scalar.indexCast v269
  ![v336.toNat, 6, 1, v339.toNat]
def k0_off139 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v341 : Index := Scalar.indexCast v258
  let c7_i32_182 : BitVec 32 := 7#32
  let v342 : Index := Scalar.indexCast c7_i32_182
  let c0_i32_183 : BitVec 32 := 0#32
  let v343 : Index := Scalar.indexCast c0_i32_183
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v344 : Index := Scalar.indexCast v269
  ![v341.toNat, 7, 0, v344.toNat]
def k0_off140 (k0_t5 : Fin k0_t5_loop.trips) : Fin 4 → Nat :=
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v346 : Index := Scalar.indexCast v258
  let c7_i32_184 : BitVec 32 := 7#32
  let v347 : Index := Scalar.indexCast c7_i32_184
  let c1_i32_185 : BitVec 32 := 1#32
  let v348 : Index := Scalar.indexCast c1_i32_185
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v349 : Index := Scalar.indexCast v269
  ![v346.toNat, 7, 1, v349.toNat]
def k0_off141 (k0_t5 : Fin k0_t5_loop.trips) : Fin 2 → Nat :=
  let c48_i32_153 : BitVec 32 := 48#32
  let c0_i32_64 : BitVec 32 := 0#32
  let c1_i32_66 : BitVec 32 := 1#32
  let arg15 : BitVec 32 := Scf.iv c0_i32_64 c1_i32_66 k0_t5
  let c2_i32_137 : BitVec 32 := 2#32
  let v240 : BitVec 32 := Scalar.muli arg15 c2_i32_137
  let c1_i32_138 : BitVec 32 := 1#32
  let v241 : BitVec 32 := Scalar.addi v240 c1_i32_138
  let c0_i32_140 : BitVec 32 := 0#32
  let v243 : BitVec 1 := Scalar.cmpi .sgt v241 c0_i32_140
  let v244 : BitVec 32 := Scalar.extui v243
  let c0_i32_141 : BitVec 32 := 0#32
  let v245 : BitVec 1 := Scalar.cmpi .slt v241 c0_i32_141
  let v246 : BitVec 32 := Scalar.extui v245
  let v247 : BitVec 32 := Scalar.subi v244 v246
  let c8_i32_139 : BitVec 32 := 8#32
  let c0_i32_142 : BitVec 32 := 0#32
  let v248 : BitVec 1 := Scalar.cmpi .sgt c8_i32_139 c0_i32_142
  let v249 : BitVec 32 := Scalar.extui v248
  let c0_i32_143 : BitVec 32 := 0#32
  let v250 : BitVec 1 := Scalar.cmpi .slt c8_i32_139 c0_i32_143
  let v251 : BitVec 32 := Scalar.extui v250
  let v252 : BitVec 32 := Scalar.subi v249 v251
  let v253 : BitVec 1 := Scalar.cmpi .ne v247 v252
  let v254 : BitVec 32 := Scalar.remsi v241 c8_i32_139
  let c0_i32_144 : BitVec 32 := 0#32
  let v255 : BitVec 1 := Scalar.cmpi .ne v254 c0_i32_144
  let v256 : BitVec 1 := Scalar.andi v253 v255
  let v242 : BitVec 32 := Scalar.divsi v241 c8_i32_139
  let c1_i32_145 : BitVec 32 := 1#32
  let v257 : BitVec 32 := Scalar.subi v242 c1_i32_145
  let v258 : BitVec 32 := Scalar.select v256 v257 v242
  let v270 : BitVec 32 := Scalar.addi c48_i32_153 v258
  let v427 : Index := Scalar.indexCast v270
  let c8_i32_146 : BitVec 32 := 8#32
  let c0_i32_147 : BitVec 32 := 0#32
  let v259 : BitVec 1 := Scalar.cmpi .eq c8_i32_146 c0_i32_147
  let c1_i32_148 : BitVec 32 := 1#32
  let v260 : BitVec 32 := Scalar.select v259 c1_i32_148 c8_i32_146
  let v261 : BitVec 32 := Scalar.remsi v241 v260
  let c0_i32_150 : BitVec 32 := 0#32
  let v263 : BitVec 1 := Scalar.cmpi .slt v261 c0_i32_150
  let c0_i32_151 : BitVec 32 := 0#32
  let v264 : BitVec 1 := Scalar.cmpi .slt v260 c0_i32_151
  let v265 : BitVec 1 := Scalar.xori v263 v264
  let c0_i32_149 : BitVec 32 := 0#32
  let v262 : BitVec 1 := Scalar.cmpi .ne v261 c0_i32_149
  let v266 : BitVec 1 := Scalar.andi v265 v262
  let v267 : BitVec 32 := Scalar.addi v261 v260
  let v268 : BitVec 32 := Scalar.select v266 v267 v261
  let c16_i32_152 : BitVec 32 := 16#32
  let v269 : BitVec 32 := Scalar.muli v268 c16_i32_152
  let v428 : Index := Scalar.indexCast v269
  ![v427.toNat, v428.toNat]

def k0_chk8 (v451 : IVec S16 32) : Prop :=
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a) ∧
  (∀ a x, ((![v451] : Fin 1 → IVec S16 32) a x).toNat < S1024.size a)
theorem k0_idx29_inb : ∀ (v451 : IVec S16 32) (k0_hw8 : k0_chk8 v451), ∀ a x, ((![v451] : Fin 1 → IVec S16 32) a x).toNat < S1024.size a := fun v451 k0_hw8 => k0_hw8.1
theorem k0_idx30_inb : ∀ (v451 : IVec S16 32) (k0_hw8 : k0_chk8 v451), ∀ a x, ((![v451] : Fin 1 → IVec S16 32) a x).toNat < S1024.size a := fun v451 k0_hw8 => k0_hw8.2.1
theorem k0_idx31_inb : ∀ (v451 : IVec S16 32) (k0_hw8 : k0_chk8 v451), ∀ a x, ((![v451] : Fin 1 → IVec S16 32) a x).toNat < S1024.size a := fun v451 k0_hw8 => k0_hw8.2.2.1
theorem k0_idx32_inb : ∀ (v451 : IVec S16 32) (k0_hw8 : k0_chk8 v451), ∀ a x, ((![v451] : Fin 1 → IVec S16 32) a x).toNat < S1024.size a := fun v451 k0_hw8 => k0_hw8.2.2.2
@[reducible] def k0_t6_loop : Scf.Loop 32 :=
  let c0_i32_69 : BitVec 32 := 0#32
  let c8_i32 : BitVec 32 := 8#32
  let v27 : BitVec 32 := Scalar.addi c0_i32_69 c8_i32
  let c1_i32_70 : BitVec 32 := 1#32
  ⟨c0_i32_69, v27, c1_i32_70⟩
def k0_off142 (k0_t6 : Fin k0_t6_loop.trips) (c0_i32_73 : BitVec 32) : Fin 1 → Nat :=
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v29 : BitVec 32 := Scalar.addi c0_i32_73 v28
  let v30 : Index := Scalar.indexCast v29
  ![v30.toNat]
def k0_off143 (k0_t6 : Fin k0_t6_loop.trips) : Fin 3 → Nat :=
  let c0_i32_76 : BitVec 32 := 0#32
  let v39 : Index := Scalar.indexCast c0_i32_76
  let c0_i32_77 : BitVec 32 := 0#32
  let v40 : Index := Scalar.indexCast c0_i32_77
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v41 : Index := Scalar.indexCast v28
  ![0, 0, v41.toNat]
def k0_off144 (k0_t6 : Fin k0_t6_loop.trips) : Fin 3 → Nat :=
  let c1_i32_78 : BitVec 32 := 1#32
  let v46 : Index := Scalar.indexCast c1_i32_78
  let c0_i32_79 : BitVec 32 := 0#32
  let v47 : Index := Scalar.indexCast c0_i32_79
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v48 : Index := Scalar.indexCast v28
  ![1, 0, v48.toNat]
def k0_off145 (k0_t6 : Fin k0_t6_loop.trips) : Fin 3 → Nat :=
  let c2_i32_80 : BitVec 32 := 2#32
  let v53 : Index := Scalar.indexCast c2_i32_80
  let c0_i32_81 : BitVec 32 := 0#32
  let v54 : Index := Scalar.indexCast c0_i32_81
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v55 : Index := Scalar.indexCast v28
  ![2, 0, v55.toNat]
def k0_off146 (k0_t6 : Fin k0_t6_loop.trips) : Fin 3 → Nat :=
  let c0_i32_85 : BitVec 32 := 0#32
  let v67 : Index := Scalar.indexCast c0_i32_85
  let c1_i32_86 : BitVec 32 := 1#32
  let v68 : Index := Scalar.indexCast c1_i32_86
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v69 : Index := Scalar.indexCast v28
  ![0, 1, v69.toNat]
def k0_off147 (k0_t6 : Fin k0_t6_loop.trips) : Fin 3 → Nat :=
  let c1_i32_87 : BitVec 32 := 1#32
  let v74 : Index := Scalar.indexCast c1_i32_87
  let c1_i32_88 : BitVec 32 := 1#32
  let v75 : Index := Scalar.indexCast c1_i32_88
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v76 : Index := Scalar.indexCast v28
  ![1, 1, v76.toNat]
def k0_off148 (k0_t6 : Fin k0_t6_loop.trips) : Fin 3 → Nat :=
  let c2_i32_89 : BitVec 32 := 2#32
  let v81 : Index := Scalar.indexCast c2_i32_89
  let c1_i32_90 : BitVec 32 := 1#32
  let v82 : Index := Scalar.indexCast c1_i32_90
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v83 : Index := Scalar.indexCast v28
  ![2, 1, v83.toNat]
def k0_off149 (k0_t6 : Fin k0_t6_loop.trips) : Fin 3 → Nat :=
  let c0_i32_93 : BitVec 32 := 0#32
  let v95 : Index := Scalar.indexCast c0_i32_93
  let c2_i32_94 : BitVec 32 := 2#32
  let v96 : Index := Scalar.indexCast c2_i32_94
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v97 : Index := Scalar.indexCast v28
  ![0, 2, v97.toNat]
def k0_off150 (k0_t6 : Fin k0_t6_loop.trips) : Fin 3 → Nat :=
  let c1_i32_95 : BitVec 32 := 1#32
  let v102 : Index := Scalar.indexCast c1_i32_95
  let c2_i32_96 : BitVec 32 := 2#32
  let v103 : Index := Scalar.indexCast c2_i32_96
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v104 : Index := Scalar.indexCast v28
  ![1, 2, v104.toNat]
def k0_off151 (k0_t6 : Fin k0_t6_loop.trips) : Fin 3 → Nat :=
  let c2_i32_97 : BitVec 32 := 2#32
  let v109 : Index := Scalar.indexCast c2_i32_97
  let c2_i32_98 : BitVec 32 := 2#32
  let v110 : Index := Scalar.indexCast c2_i32_98
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v111 : Index := Scalar.indexCast v28
  ![2, 2, v111.toNat]
def k0_off152 (k0_t6 : Fin k0_t6_loop.trips) : Fin 3 → Nat :=
  let c0_i32_101 : BitVec 32 := 0#32
  let v123 : Index := Scalar.indexCast c0_i32_101
  let c3_i32 : BitVec 32 := 3#32
  let v124 : Index := Scalar.indexCast c3_i32
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v125 : Index := Scalar.indexCast v28
  ![0, 3, v125.toNat]
def k0_off153 (k0_t6 : Fin k0_t6_loop.trips) : Fin 3 → Nat :=
  let c1_i32_102 : BitVec 32 := 1#32
  let v130 : Index := Scalar.indexCast c1_i32_102
  let c3_i32_103 : BitVec 32 := 3#32
  let v131 : Index := Scalar.indexCast c3_i32_103
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v132 : Index := Scalar.indexCast v28
  ![1, 3, v132.toNat]
def k0_off154 (k0_t6 : Fin k0_t6_loop.trips) : Fin 3 → Nat :=
  let c2_i32_104 : BitVec 32 := 2#32
  let v137 : Index := Scalar.indexCast c2_i32_104
  let c3_i32_105 : BitVec 32 := 3#32
  let v138 : Index := Scalar.indexCast c3_i32_105
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v139 : Index := Scalar.indexCast v28
  ![2, 3, v139.toNat]
def k0_off155 (k0_t6 : Fin k0_t6_loop.trips) : Fin 3 → Nat :=
  let c0_i32_108 : BitVec 32 := 0#32
  let v151 : Index := Scalar.indexCast c0_i32_108
  let c4_i32 : BitVec 32 := 4#32
  let v152 : Index := Scalar.indexCast c4_i32
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v153 : Index := Scalar.indexCast v28
  ![0, 4, v153.toNat]
def k0_off156 (k0_t6 : Fin k0_t6_loop.trips) : Fin 3 → Nat :=
  let c1_i32_109 : BitVec 32 := 1#32
  let v158 : Index := Scalar.indexCast c1_i32_109
  let c4_i32_110 : BitVec 32 := 4#32
  let v159 : Index := Scalar.indexCast c4_i32_110
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v160 : Index := Scalar.indexCast v28
  ![1, 4, v160.toNat]
def k0_off157 (k0_t6 : Fin k0_t6_loop.trips) : Fin 3 → Nat :=
  let c2_i32_111 : BitVec 32 := 2#32
  let v165 : Index := Scalar.indexCast c2_i32_111
  let c4_i32_112 : BitVec 32 := 4#32
  let v166 : Index := Scalar.indexCast c4_i32_112
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v167 : Index := Scalar.indexCast v28
  ![2, 4, v167.toNat]
def k0_off158 (k0_t6 : Fin k0_t6_loop.trips) : Fin 3 → Nat :=
  let c0_i32_115 : BitVec 32 := 0#32
  let v179 : Index := Scalar.indexCast c0_i32_115
  let c5_i32 : BitVec 32 := 5#32
  let v180 : Index := Scalar.indexCast c5_i32
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v181 : Index := Scalar.indexCast v28
  ![0, 5, v181.toNat]
def k0_off159 (k0_t6 : Fin k0_t6_loop.trips) : Fin 3 → Nat :=
  let c1_i32_116 : BitVec 32 := 1#32
  let v186 : Index := Scalar.indexCast c1_i32_116
  let c5_i32_117 : BitVec 32 := 5#32
  let v187 : Index := Scalar.indexCast c5_i32_117
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v188 : Index := Scalar.indexCast v28
  ![1, 5, v188.toNat]
def k0_off160 (k0_t6 : Fin k0_t6_loop.trips) : Fin 3 → Nat :=
  let c2_i32_118 : BitVec 32 := 2#32
  let v193 : Index := Scalar.indexCast c2_i32_118
  let c5_i32_119 : BitVec 32 := 5#32
  let v194 : Index := Scalar.indexCast c5_i32_119
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v195 : Index := Scalar.indexCast v28
  ![2, 5, v195.toNat]
def k0_off161 (k0_t6 : Fin k0_t6_loop.trips) : Fin 3 → Nat :=
  let c0_i32_122 : BitVec 32 := 0#32
  let v207 : Index := Scalar.indexCast c0_i32_122
  let c6_i32 : BitVec 32 := 6#32
  let v208 : Index := Scalar.indexCast c6_i32
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v209 : Index := Scalar.indexCast v28
  ![0, 6, v209.toNat]
def k0_off162 (k0_t6 : Fin k0_t6_loop.trips) : Fin 3 → Nat :=
  let c1_i32_123 : BitVec 32 := 1#32
  let v214 : Index := Scalar.indexCast c1_i32_123
  let c6_i32_124 : BitVec 32 := 6#32
  let v215 : Index := Scalar.indexCast c6_i32_124
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v216 : Index := Scalar.indexCast v28
  ![1, 6, v216.toNat]
def k0_off163 (k0_t6 : Fin k0_t6_loop.trips) : Fin 3 → Nat :=
  let c2_i32_125 : BitVec 32 := 2#32
  let v221 : Index := Scalar.indexCast c2_i32_125
  let c6_i32_126 : BitVec 32 := 6#32
  let v222 : Index := Scalar.indexCast c6_i32_126
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v223 : Index := Scalar.indexCast v28
  ![2, 6, v223.toNat]
def k0_off164 (k0_t6 : Fin k0_t6_loop.trips) : Fin 3 → Nat :=
  let c0_i32_129 : BitVec 32 := 0#32
  let v235 : Index := Scalar.indexCast c0_i32_129
  let c7_i32 : BitVec 32 := 7#32
  let v236 : Index := Scalar.indexCast c7_i32
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v237 : Index := Scalar.indexCast v28
  ![0, 7, v237.toNat]
def k0_off165 (k0_t6 : Fin k0_t6_loop.trips) : Fin 3 → Nat :=
  let c1_i32_130 : BitVec 32 := 1#32
  let v242 : Index := Scalar.indexCast c1_i32_130
  let c7_i32_131 : BitVec 32 := 7#32
  let v243 : Index := Scalar.indexCast c7_i32_131
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v244 : Index := Scalar.indexCast v28
  ![1, 7, v244.toNat]
def k0_off166 (k0_t6 : Fin k0_t6_loop.trips) : Fin 3 → Nat :=
  let c2_i32_132 : BitVec 32 := 2#32
  let v249 : Index := Scalar.indexCast c2_i32_132
  let c7_i32_133 : BitVec 32 := 7#32
  let v250 : Index := Scalar.indexCast c7_i32_133
  let c0_i32_69 : BitVec 32 := 0#32
  let c1_i32_70 : BitVec 32 := 1#32
  let arg15 : BitVec 32 := Scf.iv c0_i32_69 c1_i32_70 k0_t6
  let c16_i32_72 : BitVec 32 := 16#32
  let v28 : BitVec 32 := Scalar.muli arg15 c16_i32_72
  let v251 : Index := Scalar.indexCast v28
  ![2, 7, v251.toNat]
def k0_off167 (i : grid0.Coords) : Fin 3 → Nat :=
  let c0_i32_72_r0 : BitVec 32 := 0#32
  let c0_i32_73_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
def k0_off168 (i : grid0.Coords) : Fin 2 → Nat :=
  let c0_i32_72_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "half_pi" => some (((1 / 2) * Real.pi : ℝ) : EReal)
  | "inv_bin" => some ((4 * Real.pi⁻¹ : ℝ) : EReal)
  | "pi" => some ((Real.pi : ℝ) : EReal)
  | "quarter_pi" => some (((1 / 4) * Real.pi : ℝ) : EReal)
  | "two_pi" => some ((2 * Real.pi : ℝ) : EReal)
  | _ => none
-- ==== ReferenceIdeal.lean ====
abbrev S4096x8x2 : Shape := ⟨3, ![4096, 8, 2]⟩
abbrev S4096x64x8x2 : Shape := ⟨4, ![4096, 64, 8, 2]⟩
abbrev S4096x64x1x2 : Shape := ⟨4, ![4096, 64, 1, 2]⟩
abbrev S4096x64x2 : Shape := ⟨3, ![4096, 64, 2]⟩
abbrev S_ : Shape := ⟨0, ![]⟩
abbrev S4096x64 : Shape := ⟨2, ![4096, 64]⟩
abbrev S4096x64x1 : Shape := ⟨3, ![4096, 64, 1]⟩
abbrev S4096x64x3 : Shape := ⟨3, ![4096, 64, 3]⟩
abbrev S8 : Shape := ⟨1, ![8]⟩
abbrev S4096x1x64 : Shape := ⟨3, ![4096, 1, 64]⟩
abbrev S1x8x1 : Shape := ⟨3, ![1, 8, 1]⟩
abbrev S4096x8x64 : Shape := ⟨3, ![4096, 8, 64]⟩
abbrev S4096x8 : Shape := ⟨2, ![4096, 8]⟩
abbrev S4096x8x64x1 : Shape := ⟨4, ![4096, 8, 64, 1]⟩
abbrev S4096x1x64x3 : Shape := ⟨4, ![4096, 1, 64, 3]⟩
abbrev S4096x8x64x3 : Shape := ⟨4, ![4096, 8, 64, 3]⟩
abbrev S4096x8x3 : Shape := ⟨3, ![4096, 8, 3]⟩
abbrev S4096x8x1 : Shape := ⟨3, ![4096, 8, 1]⟩

abbrev nBuf : Space → Nat
  | .hbm => 194
  | .vmem => 0
  | .smem => 0
  | _ => 0

abbrev hbmTy0_0 (i : Nat) : BufTy := match i % 128 with
  | 0 => ⟨S4096x8x2, .f32⟩
  | 1 => ⟨S4096x64x8x2, .f32⟩
  | 2 => ⟨S4096x64x1x2, .f32⟩
  | 3 => ⟨S4096x64x2, .f32⟩
  | 4 => ⟨S4096x64x1x2, .f32⟩
  | 5 => ⟨S4096x64x2, .f32⟩
  | 6 => ⟨S4096x64x2, .f32⟩
  | 7 => ⟨S4096x64x1x2, .f32⟩
  | 8 => ⟨S4096x64x2, .f32⟩
  | 9 => ⟨S4096x64x2, .f32⟩
  | 10 => ⟨S_, .f32⟩
  | 11 => ⟨S4096x64, .f32⟩
  | 12 => ⟨S4096x64, .f32⟩
  | 13 => ⟨S4096x64x2, .f32⟩
  | 14 => ⟨S_, .f32⟩
  | 15 => ⟨S4096x64, .f32⟩
  | 16 => ⟨S4096x64, .f32⟩
  | 17 => ⟨S4096x64x1, .f32⟩
  | 18 => ⟨S4096x64, .f32⟩
  | 19 => ⟨S4096x64x1, .f32⟩
  | 20 => ⟨S4096x64, .f32⟩
  | 21 => ⟨S_, .f32⟩
  | 22 => ⟨S_, .f32⟩
  | 23 => ⟨S_, .f32⟩
  | 24 => ⟨S4096x64, .f32⟩
  | 25 => ⟨S_, .f32⟩
  | 26 => ⟨S_, .f32⟩
  | 27 => ⟨S4096x64, .f32⟩
  | 28 => ⟨S4096x64, .f32⟩
  | 29 => ⟨S_, .f32⟩
  | 30 => ⟨S4096x64, .f32⟩
  | 31 => ⟨S4096x64, .i1⟩
  | 32 => ⟨S_, .f32⟩
  | 33 => ⟨S4096x64, .f32⟩
  | 34 => ⟨S4096x64, .i1⟩
  | 35 => ⟨S_, .f32⟩
  | 36 => ⟨S_, .i1⟩
  | 37 => ⟨S4096x64, .i1⟩
  | 38 => ⟨S4096x64, .i1⟩
  | 39 => ⟨S4096x64, .i1⟩
  | 40 => ⟨S4096x64, .f32⟩
  | 41 => ⟨S4096x64, .f32⟩
  | 42 => ⟨S4096x64, .f32⟩
  | 43 => ⟨S_, .f32⟩
  | 44 => ⟨S_, .f32⟩
  | 45 => ⟨S_, .f32⟩
  | 46 => ⟨S_, .f32⟩
  | 47 => ⟨S4096x64, .f32⟩
  | 48 => ⟨S4096x64, .f32⟩
  | 49 => ⟨S4096x64, .i32⟩
  | 50 => ⟨S_, .f32⟩
  | 51 => ⟨S4096x64, .f32⟩
  | 52 => ⟨S_, .f32⟩
  | 53 => ⟨S4096x64, .f32⟩
  | 54 => ⟨S4096x64, .i1⟩
  | 55 => ⟨S4096x64, .i32⟩
  | 56 => ⟨S4096x64, .i32⟩
  | 57 => ⟨S_, .i32⟩
  | 58 => ⟨S4096x64, .i32⟩
  | 59 => ⟨S4096x64, .i32⟩
  | 60 => ⟨S_, .i32⟩
  | 61 => ⟨S4096x64, .i32⟩
  | 62 => ⟨S4096x64, .i32⟩
  | 63 => ⟨S4096x64, .i32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S_, .f32⟩
  | 71 => ⟨S4096x64, .f32⟩
  | 72 => ⟨S4096x64, .f32⟩
  | 73 => ⟨S4096x64, .i1⟩
  | 74 => ⟨S_, .f32⟩
  | 75 => ⟨S_, .f32⟩
  | 76 => ⟨S4096x64, .f32⟩
  | 77 => ⟨S4096x64, .f32⟩
  | 78 => ⟨S_, .f32⟩
  | 79 => ⟨S4096x64, .f32⟩
  | 80 => ⟨S4096x64, .f32⟩
  | 81 => ⟨S4096x64, .f32⟩
  | 82 => ⟨S4096x64, .f32⟩
  | 83 => ⟨S_, .f32⟩
  | 84 => ⟨S4096x64, .f32⟩
  | 85 => ⟨S4096x64, .f32⟩
  | 86 => ⟨S_, .f32⟩
  | 87 => ⟨S4096x64, .f32⟩
  | 88 => ⟨S4096x64, .f32⟩
  | 89 => ⟨S4096x64, .f32⟩
  | 90 => ⟨S_, .f32⟩
  | 91 => ⟨S4096x64, .f32⟩
  | 92 => ⟨S4096x64, .f32⟩
  | 93 => ⟨S4096x64, .f32⟩
  | 94 => ⟨S_, .f32⟩
  | 95 => ⟨S4096x64, .f32⟩
  | 96 => ⟨S4096x64, .f32⟩
  | 97 => ⟨S4096x64, .f32⟩
  | 98 => ⟨S_, .f32⟩
  | 99 => ⟨S4096x64, .f32⟩
  | 100 => ⟨S4096x64, .f32⟩
  | 101 => ⟨S4096x64, .f32⟩
  | 102 => ⟨S4096x64, .f32⟩
  | 103 => ⟨S4096x64, .f32⟩
  | 104 => ⟨S4096x64, .f32⟩
  | 105 => ⟨S4096x64, .f32⟩
  | 106 => ⟨S_, .f32⟩
  | 107 => ⟨S4096x64, .f32⟩
  | 108 => ⟨S4096x64, .f32⟩
  | 109 => ⟨S4096x64, .f32⟩
  | 110 => ⟨S4096x64, .f32⟩
  | 111 => ⟨S_, .f32⟩
  | 112 => ⟨S4096x64, .f32⟩
  | 113 => ⟨S4096x64, .f32⟩
  | 114 => ⟨S_, .f32⟩
  | 115 => ⟨S4096x64, .f32⟩
  | 116 => ⟨S4096x64, .f32⟩
  | 117 => ⟨S4096x64, .f32⟩
  | 118 => ⟨S_, .f32⟩
  | 119 => ⟨S4096x64, .f32⟩
  | 120 => ⟨S4096x64, .f32⟩
  | 121 => ⟨S4096x64, .f32⟩
  | 122 => ⟨S_, .f32⟩
  | 123 => ⟨S4096x64, .f32⟩
  | 124 => ⟨S4096x64, .f32⟩
  | 125 => ⟨S4096x64, .f32⟩
  | 126 => ⟨S_, .f32⟩
  | 127 => ⟨S4096x64, .f32⟩
  | _ => ⟨S4096x8x2, .f32⟩

abbrev hbmTy0_1 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S4096x64, .f32⟩
  | 5 => ⟨S4096x64, .f32⟩
  | 6 => ⟨S4096x64, .f32⟩
  | 7 => ⟨S4096x64, .i1⟩
  | 8 => ⟨S_, .f32⟩
  | 9 => ⟨S_, .f32⟩
  | 10 => ⟨S4096x64, .f32⟩
  | 11 => ⟨S4096x64, .f32⟩
  | 12 => ⟨S4096x64, .f32⟩
  | 13 => ⟨S_, .f32⟩
  | 14 => ⟨S4096x64, .f32⟩
  | 15 => ⟨S4096x64, .i1⟩
  | 16 => ⟨S4096x64, .f32⟩
  | 17 => ⟨S4096x64, .f32⟩
  | 18 => ⟨S4096x64, .f32⟩
  | 19 => ⟨S_, .f32⟩
  | 20 => ⟨S4096x64, .f32⟩
  | 21 => ⟨S4096x64, .i1⟩
  | 22 => ⟨S_, .f32⟩
  | 23 => ⟨S_, .f32⟩
  | 24 => ⟨S4096x64, .f32⟩
  | 25 => ⟨S4096x64, .f32⟩
  | 26 => ⟨S4096x64, .f32⟩
  | 27 => ⟨S4096x64, .f32⟩
  | 28 => ⟨S4096x64, .f32⟩
  | 29 => ⟨S_, .f32⟩
  | 30 => ⟨S4096x64, .f32⟩
  | 31 => ⟨S4096x64, .i1⟩
  | 32 => ⟨S4096x64, .f32⟩
  | 33 => ⟨S4096x64, .f32⟩
  | 34 => ⟨S4096x64, .f32⟩
  | 35 => ⟨S_, .f32⟩
  | 36 => ⟨S4096x64, .f32⟩
  | 37 => ⟨S4096x64, .i1⟩
  | 38 => ⟨S4096x64, .i1⟩
  | 39 => ⟨S4096x64, .f32⟩
  | 40 => ⟨S4096x64x1, .f32⟩
  | 41 => ⟨S4096x64x1, .f32⟩
  | 42 => ⟨S4096x64x1, .f32⟩
  | 43 => ⟨S4096x64x3, .f32⟩
  | 44 => ⟨S8, .i32⟩
  | 45 => ⟨S4096x1x64, .i32⟩
  | 46 => ⟨S1x8x1, .i32⟩
  | 47 => ⟨S4096x8x64, .i32⟩
  | 48 => ⟨S4096x8x64, .i32⟩
  | 49 => ⟨S4096x8x64, .i1⟩
  | 50 => ⟨S4096x8x64, .f32⟩
  | 51 => ⟨S_, .f32⟩
  | 52 => ⟨S4096x8, .f32⟩
  | 53 => ⟨S_, .f32⟩
  | 54 => ⟨S4096x8, .f32⟩
  | 55 => ⟨S4096x8, .f32⟩
  | 56 => ⟨S4096x8x64x1, .f32⟩
  | 57 => ⟨S4096x1x64x3, .f32⟩
  | 58 => ⟨S4096x8x64x3, .f32⟩
  | 59 => ⟨S4096x8x64x3, .f32⟩
  | 60 => ⟨S4096x8x64x3, .f32⟩
  | 61 => ⟨S_, .f32⟩
  | 62 => ⟨S4096x8x3, .f32⟩
  | 63 => ⟨S4096x8x1, .f32⟩
  | 64 => ⟨S4096x8x3, .f32⟩
  | 65 => ⟨S4096x8x3, .f32⟩
  | _ => ⟨S4096x8x2, .f32⟩

abbrev hbmTy (i : Nat) : BufTy := match i / 128 with
  | 0 => hbmTy0_0 i
  | 1 => hbmTy0_1 i
  | _ => ⟨S4096x8x2, .f32⟩

abbrev bufTy : (tb : Table) → Fin (tcTables nBuf tb) → BufTy
  | .hbm, ⟨i, _⟩ => hbmTy i
  | _, _ => ⟨S4096x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v7 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_call2_v0 : Ref sig .tc := ⟨.hbm, 27, rfl⟩
abbrev main_call2_v1 : Ref sig .tc := ⟨.hbm, 28, rfl⟩
abbrev main_call2_cst : Ref sig .tc := ⟨.hbm, 29, rfl⟩
abbrev main_call2_v2 : Ref sig .tc := ⟨.hbm, 30, rfl⟩
abbrev main_call2_v3 : Ref sig .tc := ⟨.hbm, 31, rfl⟩
abbrev main_call2_cst_0 : Ref sig .tc := ⟨.hbm, 32, rfl⟩
abbrev main_call2_v4 : Ref sig .tc := ⟨.hbm, 33, rfl⟩
abbrev main_call2_v5 : Ref sig .tc := ⟨.hbm, 34, rfl⟩
abbrev main_call2_cst_1 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c : Ref sig .tc := ⟨.hbm, 57, rfl⟩
abbrev main_v27 : Ref sig .tc := ⟨.hbm, 58, rfl⟩
abbrev main_v28 : Ref sig .tc := ⟨.hbm, 59, rfl⟩
abbrev main_c_6 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_8 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_10 : Ref sig .tc := ⟨.hbm, 83, rfl⟩
abbrev main_v48 : Ref sig .tc := ⟨.hbm, 84, rfl⟩
abbrev main_v49 : Ref sig .tc := ⟨.hbm, 85, rfl⟩
abbrev main_cst_11 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_14 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_15 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_16 : Ref sig .tc := ⟨.hbm, 111, rfl⟩
abbrev main_v70 : Ref sig .tc := ⟨.hbm, 112, rfl⟩
abbrev main_v71 : Ref sig .tc := ⟨.hbm, 113, rfl⟩
abbrev main_cst_17 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_18 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_19 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_20 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_21 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_22 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_23 : Ref sig .tc := ⟨.hbm, 147, rfl⟩
abbrev main_v99 : Ref sig .tc := ⟨.hbm, 148, rfl⟩
abbrev main_v100 : Ref sig .tc := ⟨.hbm, 149, rfl⟩
abbrev main_cst_24 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_26 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_27 : Ref sig .tc := ⟨.hbm, 179, rfl⟩
abbrev main_v127 : Ref sig .tc := ⟨.hbm, 180, rfl⟩
abbrev main_cst_28 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_29 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩

abbrev nD : Nat := 1
abbrev τ : Topo := Topo.v7x

variable {F : FTy → Type} [FloatOps F]
-- ==== Proof.Sector.lean ====
/-
  What one lane of the kernel computes from the sixteen coordinates of one neighbour's track, as functions of
  scalars: the sum of the coordinates, the neighbour's speed, distance and direction, the sector it stands in (or
  -1), whether it is counted, and the accumulator word it is counted at. And what the accumulators hold after a
  number of neighbours. Everything here is over any reading of the floats.
-/
module

public import proofs.«01_k».proof.Proof.Gen.KernelIdeal
public import proofs.«01_k».proof.Proof.Gen.KernelIdeal.Skeleton

@[expose] public section

noncomputable section

namespace Cert.Proof.Sector

open Cert.KernelIdeal Cert.KernelIdeal.Gen
open Idealize.ShloMosaic

variable {F : FTy → Type} [FloatOps F] [Named F]

/-! ## One neighbour, from its coordinates `v (2 t + c)` (time `t`, axis `c`) -/

/-- The sum of the sixteen coordinates, paired as the kernel pairs them. -/
def total (v : Fin 16 → F .f32) : F .f32 :=
  FloatOps.addf
    (FloatOps.addf (FloatOps.addf (FloatOps.addf (v 0) (v 1)) (FloatOps.addf (v 2) (v 3)))
      (FloatOps.addf (FloatOps.addf (v 4) (v 5)) (FloatOps.addf (v 6) (v 7))))
    (FloatOps.addf (FloatOps.addf (FloatOps.addf (v 8) (v 9)) (FloatOps.addf (v 10) (v 11)))
      (FloatOps.addf (FloatOps.addf (v 12) (v 13)) (FloatOps.addf (v 14) (v 15))))

/-- The length of the vector `(x, y)`. -/
def length (x y : F .f32) : F .f32 := FloatOps.sqrt (FloatOps.addf (FloatOps.mulf x x) (FloatOps.mulf y y))

/-- The neighbour's speed: how far it went from its first position to its last. -/
def speed (v : Fin 16 → F .f32) : F .f32 := length (FloatOps.subf (v 14) (v 0)) (FloatOps.subf (v 15) (v 1))

/-- The neighbour's distance. -/
def dist (v : Fin 16 → F .f32) : F .f32 := length (v 14) (v 15)

/-- The larger and the smaller of the two absolute values. -/
def larger (x y : F .f32) : F .f32 := FloatOps.maximumf (FloatOps.absf x) (FloatOps.absf y)
def smaller (x y : F .f32) : F .f32 := FloatOps.minimumf (FloatOps.absf x) (FloatOps.absf y)

/-- Whether the direction is nearer a diagonal than an axis. -/
def nearDiag (x y : F .f32) : BitVec 1 :=
  FloatOps.cmpf .ogt (smaller x y) (FloatOps.mulf (Scalar.ofBits .f32 0x3ED413CD#32) (larger x y))

/-- The tangent of the angle from the nearer axis or diagonal. -/
def ratio (x y : F .f32) : F .f32 :=
  FloatOps.divf (Scalar.select (nearDiag x y) (FloatOps.subf (smaller x y) (larger x y)) (smaller x y))
    (FloatOps.maximumf (Scalar.select (nearDiag x y) (FloatOps.addf (smaller x y) (larger x y)) (larger x y))
      (Scalar.ofBits .f32 0x02081CEA#32))

/-- The arctangent's series as the kernel sums it. -/
def series (w : F .f32) : F .f32 :=
  let w2 := FloatOps.mulf w w
  FloatOps.addf w (FloatOps.mulf w (FloatOps.mulf w2
    (FloatOps.addf (Scalar.ofBits .f32 0xBEAAAAAB#32) (FloatOps.mulf w2
      (FloatOps.addf (Scalar.ofBits .f32 0x3E4CCCCD#32) (FloatOps.mulf w2
        (FloatOps.addf (Scalar.ofBits .f32 0xBE124925#32) (FloatOps.mulf w2
          (FloatOps.addf (Scalar.ofBits .f32 0x3DE38E39#32) (FloatOps.mulf w2
            (FloatOps.addf (Scalar.ofBits .f32 0xBDBA2E8C#32) (FloatOps.mulf w2 (Scalar.ofBits .f32 0x00000000#32)))))))))))))

/-- The angle within the octant. -/
def octant (x y : F .f32) : F .f32 :=
  Scalar.select (nearDiag x y)
    (FloatOps.addf (Named.named κ "quarter_pi" (φ := .f32) 0x3F490FDB#32) (series (ratio x y))) (series (ratio x y))

/-- The angle within the quadrant. -/
def quadrant (x y : F .f32) : F .f32 :=
  Scalar.select (FloatOps.cmpf .ogt (FloatOps.absf x) (FloatOps.absf y))
    (FloatOps.subf (Named.named κ "half_pi" (φ := .f32) 0x3FC90FDB#32) (octant x y)) (octant x y)

/-- The angle from the y axis within the half plane. -/
def halfPlane (x y : F .f32) : F .f32 :=
  Scalar.select (FloatOps.cmpf .olt y (Scalar.ofBits .f32 0x00000000#32))
    (FloatOps.subf (Named.named κ "pi" (φ := .f32) 0x40490FDB#32) (quadrant x y)) (quadrant x y)

/-- The direction in which `(x, y)` stands. -/
def direction (x y : F .f32) : F .f32 :=
  Scalar.select (FloatOps.cmpf .olt x (Scalar.ofBits .f32 0x00000000#32))
    (FloatOps.subf (Named.named κ "two_pi" (φ := .f32) 0x40C90FDB#32) (halfPlane x y)) (halfPlane x y)

/-- The neighbour's direction. -/
def dir (v : Fin 16 → F .f32) : F .f32 := direction (v 14) (v 15)

/-- The sector it stands in, `-1` when its coordinates sum to zero. -/
def sector (v : Fin 16 → F .f32) : BitVec 32 :=
  Scalar.select
    (IntOp.ori (FloatOps.cmpf .olt (total v) (Scalar.ofBits .f32 0x00000000#32))
      (FloatOps.cmpf .ogt (total v) (Scalar.ofBits .f32 0x00000000#32)))
    (FloatOps.fptosi 32 (FloatOps.mulf (dir v) (Named.named κ "inv_bin" (φ := .f32) 0x3FA2F983#32))) 4294967295#32

/-- Whether it is counted: its sector is one of the eight. -/
def counted (v : Fin 16 → F .f32) : BitVec 1 := IntOp.andi (IntOp.cmpi .sge (sector v) 0#32) (IntOp.cmpi .slt (sector v) 8#32)

/-- The accumulator word it is counted at, for the lane whose agent is `a` of the tile's 128. -/
def word (v : Fin 16 → F .f32) (a : BitVec 32) : BitVec 32 :=
  IntOp.addi (IntOp.muli (Scalar.select (counted v) (sector v) 0#32) 128#32) a

/-! ## Sixteen lanes at once -/

/-- The coordinates lane `x` holds. -/
abbrev lane (w : Fin 16 → Vec F S16 .f32) (x : S16.Idx) : Fin 16 → F .f32 := fun k => w k x

def lanes : IVec S16 32 := iota .scVector S16 32 [0] iota_S16_d0_w32_scVector

def dirV (w : Fin 16 → Vec F S16 .f32) : FVec F S16 .f32 := fun x => dir (lane w x)
def speedV (w : Fin 16 → Vec F S16 .f32) : FVec F S16 .f32 := fun x => speed (lane w x)
def distV (w : Fin 16 → Vec F S16 .f32) : FVec F S16 .f32 := fun x => dist (lane w x)
def oneV : FVec F S16 .f32 := fun _ => Scalar.ofBits .f32 0x3F800000#32
def countedV (w : Fin 16 → Vec F S16 .f32) : IVec S16 1 := fun x => counted (lane w x)
def wordV (w : Fin 16 → Vec F S16 .f32) (a0 : BitVec 32) : IVec S16 32 := fun x => word (lane w x) (IntOp.addi a0 (lanes x))

end Cert.Proof.Sector

end
-- ==== Proof.Half.lean ====
/-
  The kernel's inner step. Each trip of the four chunk loops handles two groups of sixteen agents against one
  neighbour; one such half of a trip is the program `half` below: sixteen loads of coordinates, the direction stored,
  the accumulator words checked, four masked scatter-adds. Every loop's body is two halves.
-/
module

public import proofs.«01_k».proof.Proof.Sector

@[expose] public section

set_option maxRecDepth 65536

noncomputable section

namespace Cert.Proof.Sector

open Cert.KernelIdeal Cert.KernelIdeal.Gen
open Idealize.ShloMosaic Idealize.SL.Sem

variable {F : FTy → Type} [FloatOps F] [Named F]

/-- What a half does once the coordinates `w` of its sixteen lanes are loaded: the direction stored at `foff`, the
    scatters for the lanes from `a0`; then `rest`. -/
def halfTail (i : grid0.Coords) (arg8 : Memref sig .scVector .vmem S64x128 .f32)
    (arg9 arg10 arg11 arg12 : Memref sig .scVector .vmem S1024 .f32) (w : Fin 16 → Vec F S16 .f32)
    (foff : Fin 2 → Nat) (hfoff : ∀ a, foff a + S1x16.size a ≤ S64x128.size a) (a0 : BitVec 32)
    (rest : Prog (TpuEff nD τ sig (Elt F) Λ₀ (.scVector ((i 0).castLE hcore0) ((i 1).castLE hsub0))) PUnit) :
    Prog (TpuEff nD τ sig (Elt F) Λ₀ (.scVector ((i 0).castLE hcore0) ((i 1).castLE hsub0))) PUnit := do
  let _ ← (Prog.lift (.load arg8 (Rect.unit (s := S64x128) foff S1x16.size hfoff).toLoadRect (View.loadsAt_vmem h_S1x16)) :
    Prog (TpuEff nD τ sig (Elt F) Λ₀ (.scVector ((i 0).castLE hcore0) ((i 1).castLE hsub0))) (Vec F S1x16 .f32))
  Prog.lift (.store arg8 (Rect.unit (s := S64x128) foff S1x16.size hfoff) (shapeCast S1x16 (dirV w) shapeCasts_S16_S1x16) Finset.univ (View.stores_vmem_bits_univ h_S1x16 rfl) (.inl rfl))
  have hw : k0_chk1 (wordV w a0) := (← Prog.lift (TpuEff.assume (k0_chk1 (wordV w a0)) (k0_chk1.dec (wordV w a0)))).down
  SparseCore.vectorStoreIdx arg9 ![wordV w a0] (speedV w) (countedV w) true (k0_idx1_inb _ hw) (View.stores_vmem_bits_univ h_S1024 rfl)
  SparseCore.vectorStoreIdx arg10 ![wordV w a0] (distV w) (countedV w) true (k0_idx1_inb _ hw) (View.stores_vmem_bits_univ h_S1024 rfl)
  SparseCore.vectorStoreIdx arg11 ![wordV w a0] (dirV w) (countedV w) true (k0_idx1_inb _ hw) (View.stores_vmem_bits_univ h_S1024 rfl)
  SparseCore.vectorStoreIdx arg12 ![wordV w a0] (oneV (F := F)) (countedV w) true (k0_idx1_inb _ hw) (View.stores_vmem_bits_univ h_S1024 rfl)
  rest

/-- One half of a trip: the loads from `buf` at the offsets `off k`, the direction stored at `foff`, the scatters for
    the lanes from `a0`; then `rest`. -/
def half (i : grid0.Coords) (buf : Memref sig .scVector .vmem S16x8x2x128 .f32) (arg8 : Memref sig .scVector .vmem S64x128 .f32)
    (arg9 arg10 arg11 arg12 : Memref sig .scVector .vmem S1024 .f32)
    (off : Fin 16 → Fin 4 → Nat) (hoff : ∀ k a, off k a + S1x1x1x16.size a ≤ S16x8x2x128.size a)
    (foff : Fin 2 → Nat) (hfoff : ∀ a, foff a + S1x16.size a ≤ S64x128.size a) (a0 : BitVec 32)
    (rest : Prog (TpuEff nD τ sig (Elt F) Λ₀ (.scVector ((i 0).castLE hcore0) ((i 1).castLE hsub0))) PUnit) :
    Prog (TpuEff nD τ sig (Elt F) Λ₀ (.scVector ((i 0).castLE hcore0) ((i 1).castLE hsub0))) PUnit := do
  let get (k : Fin 16) : Prog (TpuEff nD τ sig (Elt F) Λ₀ (.scVector ((i 0).castLE hcore0) ((i 1).castLE hsub0))) (Vec F S1x1x1x16 .f32) :=
    Prog.lift (.load buf (Rect.unit (s := S16x8x2x128) (off k) S1x1x1x16.size (hoff k)).toLoadRect (View.loadsAt_vmem h_S1x1x1x16))
  let u0 ← get 0
  let u1 ← get 1
  let u2 ← get 2
  let u3 ← get 3
  let u4 ← get 4
  let u5 ← get 5
  let u6 ← get 6
  let u7 ← get 7
  let u8 ← get 8
  let u9 ← get 9
  let u10 ← get 10
  let u11 ← get 11
  let u12 ← get 12
  let u13 ← get 13
  let u14 ← get 14
  let u15 ← get 15
  let w : Fin 16 → Vec F S16 .f32 := fun k =>
    shapeCast S16 ((![u0, u1, u2, u3, u4, u5, u6, u7, u8, u9, u10, u11, u12, u13, u14, u15] : Fin 16 → Vec F S1x1x1x16 .f32) k) shapeCasts_S1x1x1x16_S16
  halfTail i arg8 arg9 arg10 arg11 arg12 w foff hfoff a0 rest

variable (i : grid0.Coords) (arg2 : Memref sig .scVector .hbm S64x8x2x4096 .f32) (harg2 : arg2.IsWhole) (arg3 : Memref sig .scVector .hbm S3x8x4096 .f32) (harg3 : arg3.IsWhole) (arg4 : Memref sig .scVector .hbm S64x4096 .f32) (harg4 : arg4.IsWhole) (arg5 : Memref sig .scVector .vmem S16x8x2x128 .f32) (harg5 : arg5.IsWhole) (arg6 : Memref sig .scVector .vmem S16x8x2x128 .f32) (harg6 : arg6.IsWhole) (arg7 : Memref sig .scVector .vmem S3x8x128 .f32) (harg7 : arg7.IsWhole) (arg8 : Memref sig .scVector .vmem S64x128 .f32) (harg8 : arg8.IsWhole) (arg9 : Memref sig .scVector .vmem S1024 .f32) (harg9 : arg9.IsWhole) (arg10 : Memref sig .scVector .vmem S1024 .f32) (harg10 : arg10.IsWhole) (arg11 : Memref sig .scVector .vmem S1024 .f32) (harg11 : arg11.IsWhole) (arg12 : Memref sig .scVector .vmem S1024 .f32) (harg12 : arg12.IsWhole) (arg13 : DmaSems sig S_) (arg14 : DmaSems sig S_) (v28_r0 : DmaSems sig S_) (v28_r1 : DmaSems sig S_)

/-- Where a half's coordinates lie in the chunk's buffer: `s` counts the halves of the chunk. -/
def coff (s k : Nat) : Fin 4 → Nat := ![s / 8, k / 2, k % 2, s % 8 * 16]

/-- Where a half's directions go: `s` counts the halves of all chunks. -/
def cfoff (s : Nat) : Fin 2 → Nat := ![s / 8, s % 8 * 16]

/-- The first of the sixteen agents a half handles, as the kernel computes it from the trip `t` and the half `h`. -/
def laneBase (t h : BitVec 32) : BitVec 32 :=
  let s : BitVec 32 := Scalar.addi (Scalar.muli t 2#32) h
  let m : BitVec 32 := Scalar.select (Scalar.cmpi .eq 8#32 0#32) 1#32 8#32
  let r : BitVec 32 := Scalar.remsi s m
  let fix : BitVec 1 := Scalar.andi (Scalar.xori (Scalar.cmpi .slt r 0#32) (Scalar.cmpi .slt m 0#32)) (Scalar.cmpi .ne r 0#32)
  Scalar.muli (Scalar.select fix (Scalar.addi r m) r) 16#32

/-- Where a trip's half starts among the agents. -/
theorem laneBase_eq : ∀ (t : Fin 64) (h : Fin 2),
    laneBase (Scf.iv 0#32 1#32 t) (BitVec.ofNat 32 h.val) = BitVec.ofNat 32 ((2 * t.val + h.val) % 8 * 16) := by decide +kernel

/-- A coordinate's sixteen lanes lie in the buffer. -/
theorem coff_inb (s k : Nat) (hs : s < 128) (hk : k < 16) : ∀ a, coff s k a + S1x1x1x16.size a ≤ S16x8x2x128.size a := by
  intro a; fin_cases a <;> simp [coff] <;> omega

/-! ## Chunk 0 -/

/-- The offsets chunk 0's loop reads at, as functions of the trip and the half. -/
def off0 (t : Fin k0_t2_loop.trips) : Fin 2 → Fin 16 → Fin 4 → Nat
  | 0 => ![k0_off4 t, k0_off5 t, k0_off6 t, k0_off7 t, k0_off8 t, k0_off9 t, k0_off10 t, k0_off11 t, k0_off12 t, k0_off13 t, k0_off14 t, k0_off15 t, k0_off16 t, k0_off17 t, k0_off18 t, k0_off19 t]
  | 1 => ![k0_off21 t, k0_off22 t, k0_off23 t, k0_off24 t, k0_off25 t, k0_off26 t, k0_off27 t, k0_off28 t, k0_off29 t, k0_off30 t, k0_off31 t, k0_off32 t, k0_off33 t, k0_off34 t, k0_off35 t, k0_off36 t]

/-- Where chunk 0's trips read, in closed form. -/
theorem off0_eq : ∀ (t : Fin k0_t2_loop.trips) (h : Fin 2) (k : Fin 16), off0 t h k = coff (2 * t.val + h.val) k.val := by decide +kernel

/-- Where chunk 0's trips write the directions, in closed form. -/
theorem foff0_eq : ∀ (t : Fin k0_t2_loop.trips),
    k0_off20 t = cfoff (128 * 0 + 2 * t.val) ∧ k0_off37 t = cfoff (128 * 0 + 2 * t.val + 1) := by decide +kernel

/-- Chunk 0's reads lie in the buffer. -/
theorem off0_inb (t : Fin k0_t2_loop.trips) (h : Fin 2) (k : Fin 16) : ∀ a, off0 t h k a + S1x1x1x16.size a ≤ S16x8x2x128.size a := by
  have ht : t.val < 64 := t.isLt
  rw [off0_eq]; exact coff_inb _ _ (by omega) k.isLt

/-- Chunk 0's loop body is two halves. -/
theorem t2_body_eq (t : Fin k0_t2_loop.trips) :
    k0_t2_body (F := F) i arg2 harg2 arg3 harg3 arg4 harg4 arg5 harg5 arg6 harg6 arg7 harg7 arg8 harg8 arg9 harg9 arg10 harg10 arg11 harg11 arg12 harg12 arg13 arg14 v28_r0 v28_r1 lanes t ()
      = half i arg5 arg8 arg9 arg10 arg11 arg12 (off0 t 0) (off0_inb t 0) (k0_off20 t) (k0_off20_inb t) (laneBase (Scf.iv 0#32 1#32 t) 0#32)
          (half i arg5 arg8 arg9 arg10 arg11 arg12 (off0 t 1) (off0_inb t 1) (k0_off37 t) (k0_off37_inb t) (laneBase (Scf.iv 0#32 1#32 t) 1#32) (pure ())) := by
  unfold k0_t2_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  rfl

/-! ## Chunk 1 -/

/-- The offsets chunk 1's loop reads at, as functions of the trip and the half. -/
def off1 (t : Fin k0_t3_loop.trips) : Fin 2 → Fin 16 → Fin 4 → Nat
  | 0 => ![k0_off39 t, k0_off40 t, k0_off41 t, k0_off42 t, k0_off43 t, k0_off44 t, k0_off45 t, k0_off46 t, k0_off47 t, k0_off48 t, k0_off49 t, k0_off50 t, k0_off51 t, k0_off52 t, k0_off53 t, k0_off54 t]
  | 1 => ![k0_off56 t, k0_off57 t, k0_off58 t, k0_off59 t, k0_off60 t, k0_off61 t, k0_off62 t, k0_off63 t, k0_off64 t, k0_off65 t, k0_off66 t, k0_off67 t, k0_off68 t, k0_off69 t, k0_off70 t, k0_off71 t]

/-- Where chunk 1's trips read, in closed form. -/
theorem off1_eq : ∀ (t : Fin k0_t3_loop.trips) (h : Fin 2) (k : Fin 16), off1 t h k = coff (2 * t.val + h.val) k.val := by decide +kernel

/-- Where chunk 1's trips write the directions, in closed form. -/
theorem foff1_eq : ∀ (t : Fin k0_t3_loop.trips),
    k0_off55 t = cfoff (128 * 1 + 2 * t.val) ∧ k0_off72 t = cfoff (128 * 1 + 2 * t.val + 1) := by decide +kernel

/-- Chunk 1's reads lie in the buffer. -/
theorem off1_inb (t : Fin k0_t3_loop.trips) (h : Fin 2) (k : Fin 16) : ∀ a, off1 t h k a + S1x1x1x16.size a ≤ S16x8x2x128.size a := by
  have ht : t.val < 64 := t.isLt
  rw [off1_eq]; exact coff_inb _ _ (by omega) k.isLt

/-- Chunk 1's loop body is two halves. -/
theorem t3_body_eq (t : Fin k0_t3_loop.trips) :
    k0_t3_body (F := F) i arg2 harg2 arg3 harg3 arg4 harg4 arg5 harg5 arg6 harg6 arg7 harg7 arg8 harg8 arg9 harg9 arg10 harg10 arg11 harg11 arg12 harg12 arg13 arg14 v28_r0 v28_r1 lanes (oneV (F := F)) t ()
      = half i arg6 arg8 arg9 arg10 arg11 arg12 (off1 t 0) (off1_inb t 0) (k0_off55 t) (k0_off55_inb t) (laneBase (Scf.iv 0#32 1#32 t) 0#32)
          (half i arg6 arg8 arg9 arg10 arg11 arg12 (off1 t 1) (off1_inb t 1) (k0_off72 t) (k0_off72_inb t) (laneBase (Scf.iv 0#32 1#32 t) 1#32) (pure ())) := by
  unfold k0_t3_body
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  rfl

/-! ## Chunk 2 -/

/-- The offsets chunk 2's loop reads at, as functions of the trip and the half. -/
def off2 (t : Fin k0_t4_loop.trips) : Fin 2 → Fin 16 → Fin 4 → Nat
  | 0 => ![k0_off74 t, k0_off75 t, k0_off76 t, k0_off77 t, k0_off78 t, k0_off79 t, k0_off80 t, k0_off81 t, k0_off82 t, k0_off83 t, k0_off84 t, k0_off85 t, k0_off86 t, k0_off87 t, k0_off88 t, k0_off89 t]
  | 1 => ![k0_off91 t, k0_off92 t, k0_off93 t, k0_off94 t, k0_off95 t, k0_off96 t, k0_off97 t, k0_off98 t, k0_off99 t, k0_off100 t, k0_off101 t, k0_off102 t, k0_off103 t, k0_off104 t, k0_off105 t, k0_off106 t]

/-- Where chunk 2's trips read, in closed form. -/
theorem off2_eq : ∀ (t : Fin k0_t4_loop.trips) (h : Fin 2) (k : Fin 16), off2 t h k = coff (2 * t.val + h.val) k.val := by decide +kernel

/-- Where chunk 2's trips write the directions, in closed form. -/
theorem foff2_eq : ∀ (t : Fin k0_t4_loop.trips),
    k0_off90 t = cfoff (128 * 2 + 2 * t.val) ∧ k0_off107 t = cfoff (128 * 2 + 2 * t.val + 1) := by decide +kernel

/-- Chunk 2's reads lie in the buffer. -/
theorem off2_inb (t : Fin k0_t4_loop.trips) (h : Fin 2) (k : Fin 16) : ∀ a, off2 t h k a + S1x1x1x16.size a ≤ S16x8x2x128.size a := by
  have ht : t.val < 64 := t.isLt
  rw [off2_eq]; exact coff_inb _ _ (by omega) k.isLt

/-- Chunk 2's loop body is two halves. -/
theorem t4_body_eq (t : Fin k0_t4_loop.trips) :
    k0_t4_body (F := F) i arg2 harg2 arg3 harg3 arg4 harg4 arg5 harg5 arg6 harg6 arg7 harg7 arg8 harg8 arg9 harg9 arg10 harg10 arg11 harg11 arg12 harg12 arg13 arg14 v28_r0 v28_r1 lanes (oneV (F := F)) t ()
      = half i arg5 arg8 arg9 arg10 arg11 arg12 (off2 t 0) (off2_inb t 0) (k0_off90 t) (k0_off90_inb t) (laneBase (Scf.iv 0#32 1#32 t) 0#32)
          (half i arg5 arg8 arg9 arg10 arg11 arg12 (off2 t 1) (off2_inb t 1) (k0_off107 t) (k0_off107_inb t) (laneBase (Scf.iv 0#32 1#32 t) 1#32) (pure ())) := by
  unfold k0_t4_body
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  rfl

/-! ## Chunk 3 -/

/-- The offsets chunk 3's loop reads at, as functions of the trip and the half. -/
def off3 (t : Fin k0_t5_loop.trips) : Fin 2 → Fin 16 → Fin 4 → Nat
  | 0 => ![k0_off108 t, k0_off109 t, k0_off110 t, k0_off111 t, k0_off112 t, k0_off113 t, k0_off114 t, k0_off115 t, k0_off116 t, k0_off117 t, k0_off118 t, k0_off119 t, k0_off120 t, k0_off121 t, k0_off122 t, k0_off123 t]
  | 1 => ![k0_off125 t, k0_off126 t, k0_off127 t, k0_off128 t, k0_off129 t, k0_off130 t, k0_off131 t, k0_off132 t, k0_off133 t, k0_off134 t, k0_off135 t, k0_off136 t, k0_off137 t, k0_off138 t, k0_off139 t, k0_off140 t]

/-- Where chunk 3's trips read, in closed form. -/
theorem off3_eq : ∀ (t : Fin k0_t5_loop.trips) (h : Fin 2) (k : Fin 16), off3 t h k = coff (2 * t.val + h.val) k.val := by decide +kernel

/-- Where chunk 3's trips write the directions, in closed form. -/
theorem foff3_eq : ∀ (t : Fin k0_t5_loop.trips),
    k0_off124 t = cfoff (128 * 3 + 2 * t.val) ∧ k0_off141 t = cfoff (128 * 3 + 2 * t.val + 1) := by decide +kernel

/-- Chunk 3's reads lie in the buffer. -/
theorem off3_inb (t : Fin k0_t5_loop.trips) (h : Fin 2) (k : Fin 16) : ∀ a, off3 t h k a + S1x1x1x16.size a ≤ S16x8x2x128.size a := by
  have ht : t.val < 64 := t.isLt
  rw [off3_eq]; exact coff_inb _ _ (by omega) k.isLt

/-- Chunk 3's loop body is two halves. -/
theorem t5_body_eq (t : Fin k0_t5_loop.trips) :
    k0_t5_body (F := F) i arg2 harg2 arg3 harg3 arg4 harg4 arg5 harg5 arg6 harg6 arg7 harg7 arg8 harg8 arg9 harg9 arg10 harg10 arg11 harg11 arg12 harg12 arg13 arg14 v28_r0 v28_r1 lanes (oneV (F := F)) t ()
      = half i arg6 arg8 arg9 arg10 arg11 arg12 (off3 t 0) (off3_inb t 0) (k0_off124 t) (k0_off124_inb t) (laneBase (Scf.iv 0#32 1#32 t) 0#32)
          (half i arg6 arg8 arg9 arg10 arg11 arg12 (off3 t 1) (off3_inb t 1) (k0_off141 t) (k0_off141_inb t) (laneBase (Scf.iv 0#32 1#32 t) 1#32) (pure ())) := by
  unfold k0_t5_body
  simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  rfl

end Cert.Proof.Sector

end
-- ==== Proof.Accum.lean ====
/-
  What the accumulators and the direction buffer of one tile hold after a number of halves, and what one half does to
  them: the scatter of one half takes the accumulators of `s` halves to those of `s + 1`, a stored row takes the
  directions of `s` halves to those of `s + 1`. Over any reading of the floats; the tile's coordinates are
  `X n k a` (neighbour `n`, coordinate `k`, agent `a` of the tile's 128).
-/
module

public import proofs.«01_k».proof.Proof.Sector

@[expose] public section

noncomputable section

namespace Cert.Proof.Sector

open Cert.KernelIdeal Cert.KernelIdeal.Gen
open Idealize.ShloMosaic

variable {F : FTy → Type} [FloatOps F] [Named F]

/-! ## Words -/

/-- A counted sector is one of the eight. -/
theorem counted_lt (v : Fin 16 → F .f32) (h : counted v = 1#1) : (sector v).toNat < 8 := by
  have key : ∀ b : BitVec 32, IntOp.andi (IntOp.cmpi .sge b 0#32) (IntOp.cmpi .slt b 8#32) = 1#1 → b.toNat < 8 := by
    intro b e
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  exact key _ h

/-- The sector a neighbour is put in, `0` for one not counted. -/
def place (v : Fin 16 → F .f32) : BitVec 32 := Scalar.select (counted v) (sector v) 0#32

/-- The sector that a lane's address is taken from is one of the eight, counted or not. -/
theorem place_lt (v : Fin 16 → F .f32) : (place v).toNat < 8 := by
  unfold place Scalar.select
  split
  · exact counted_lt v ‹_›
  · decide

/-- Of a counted lane it is the lane's sector. -/
theorem place_of_counted (v : Fin 16 → F .f32) (h : counted v = 1#1) : place v = sector v := by
  unfold place Scalar.select; exact if_pos h

/-- The word of a neighbour at agent `a`: its sector's row, its agent's place in the row. -/
theorem word_toNat (v : Fin 16 → F .f32) (a : BitVec 32) (ha : a.toNat < 128) : (word v a).toNat = (place v).toNat * 128 + a.toNat := by
  have hp := place_lt v
  show ((place v) * 128#32 + a).toNat = _
  rw [BitVec.toNat_add, BitVec.toNat_mul]
  simp only [BitVec.toNat_ofNat, Nat.reducePow, Nat.reduceMod]
  rw [Nat.mod_eq_of_lt (a := (place v).toNat * 128) (by omega), Nat.mod_eq_of_lt (by omega)]

/-- The number of a lane. -/
theorem lanes_toNat (x : S16.Idx) : (lanes x).toNat = (x 0).val := by
  have hx : (x 0).val < 16 := (x 0).isLt
  show (BitVec.ofNat 32 (0 * S16.size 0 + (x 0).val)).toNat = _
  rw [BitVec.toNat_ofNat, Nat.mod_eq_of_lt] <;> omega

/-- The number of a lane's agent among the tile's. -/
theorem agent_toNat (a0 : Nat) (h : a0 + 16 ≤ 128) (x : S16.Idx) :
    (IntOp.addi (BitVec.ofNat 32 a0) (lanes x)).toNat = a0 + (x 0).val := by
  have hx : (x 0).val < 16 := (x 0).isLt
  show (BitVec.ofNat 32 a0 + lanes x).toNat = _
  rw [BitVec.toNat_add, lanes_toNat, BitVec.toNat_ofNat]
  omega

/-- The accumulator word that a lane adds to: its sector's row, its agent's column. -/
theorem wordV_toNat (w : Fin 16 → Vec F S16 .f32) (a0 : Nat) (h : a0 + 16 ≤ 128) (x : S16.Idx) :
    (wordV w (BitVec.ofNat 32 a0) x).toNat = (place (lane w x)).toNat * 128 + (a0 + (x 0).val) := by
  have hx : (x 0).val < 16 := (x 0).isLt
  unfold wordV
  rw [word_toNat _ _ (by rw [agent_toNat a0 h]; omega), agent_toNat a0 h]

/-- Every word of a half is one of the accumulator's. -/
theorem wordV_chk (w : Fin 16 → Vec F S16 .f32) (a0 : Nat) (h : a0 + 16 ≤ 128) : k0_chk1 (wordV w (BitVec.ofNat 32 a0)) := by
  have key : ∀ a x, ((![wordV w (BitVec.ofNat 32 a0)] : Fin 1 → IVec S16 32) a x).toNat < S1024.size a := by
    intro a x
    obtain rfl : a = 0 := Subsingleton.elim _ _
    have hp := place_lt (lane w x)
    have hx : (x 0).val < 16 := (x 0).isLt
    show (wordV w (BitVec.ofNat 32 a0) x).toNat < 1024
    rw [wordV_toNat w a0 h]; omega
  exact ⟨key, key, key, key⟩

/-! ## A masked scatter-add whose lanes name distinct words -/

variable {d : Fin 1 → Nat}

/-- One lane of a scatter-add. -/
def scatterStep {s : Shape} (idxs : Fin s.rank → IVec ⟨1, d⟩ 32) (v : Vec F ⟨1, d⟩ .f32) (mask : IVec ⟨1, d⟩ 1)
    (h : ∀ a x, (idxs a x).toNat < s.size a) (g : Vec F s .f32) (k : Fin (d 0)) : Vec F s .f32 :=
  if mask (Shape.ofLane k) = 1 then
    (fun j => if (∀ a, (j a).val = (idxAt idxs h (Shape.ofLane k) a).val) then
      Elt.idxAdd .f32 (g (idxAt idxs h (Shape.ofLane k))) (v (Shape.ofLane k)) else g j)
  else g

/-- An indexed store of the lanes, as one lane's after another's. -/
theorem storeIdx_fold {s : Shape} (f : Vec F s .f32) (idxs : Fin s.rank → IVec ⟨1, d⟩ 32) (v : Vec F ⟨1, d⟩ .f32) (mask : IVec ⟨1, d⟩ 1)
    (h : ∀ a x, (idxs a x).toNat < s.size a) :
    storeIdx f idxs v mask true h = (List.finRange (d 0)).foldl (scatterStep idxs v mask h) f := by
  unfold storeIdx
  refine congrArg (fun st => List.foldl st f _) (funext fun g => funext fun k => ?_)
  unfold scatterStep
  simp only [if_true]

/-- The lanes of a list none of which names the word `j` leave it as it was. -/
theorem scatter_miss {s : Shape} (idxs : Fin s.rank → IVec ⟨1, d⟩ 32) (v : Vec F ⟨1, d⟩ .f32) (mask : IVec ⟨1, d⟩ 1)
    (h : ∀ a x, (idxs a x).toNat < s.size a) (j : s.Idx) (l : List (Fin (d 0)))
    (hl : ∀ k ∈ l, mask (Shape.ofLane k) = 1 → ¬ ∀ a, (j a).val = (idxs a (Shape.ofLane k)).toNat) (f : Vec F s .f32) :
    (l.foldl (scatterStep idxs v mask h) f) j = f j := by
  induction l generalizing f with
  | nil => rfl
  | cons k l ih =>
    rw [List.foldl_cons, ih fun k' hk' => hl k' (List.mem_cons_of_mem _ hk')]
    unfold scatterStep
    by_cases hm : mask (Shape.ofLane k) = 1
    · rw [if_pos hm]; exact if_neg (hl k List.mem_cons_self hm)
    · rw [if_neg hm]

/-- The scatter at a word that no marked lane names. -/
theorem storeIdx_miss {s : Shape} (f : Vec F s .f32) (idxs : Fin s.rank → IVec ⟨1, d⟩ 32) (v : Vec F ⟨1, d⟩ .f32) (mask : IVec ⟨1, d⟩ 1)
    (h : ∀ a x, (idxs a x).toNat < s.size a) (j : s.Idx)
    (hj : ∀ k : Fin (d 0), mask (Shape.ofLane k) = 1 → ¬ ∀ a, (j a).val = (idxs a (Shape.ofLane k)).toNat) :
    storeIdx f idxs v mask true h j = f j := by
  rw [storeIdx_fold]; exact scatter_miss idxs v mask h j _ (fun k _ => hj k) f

/-- The scatter at a word that one marked lane alone names. -/
theorem storeIdx_hit {s : Shape} (f : Vec F s .f32) (idxs : Fin s.rank → IVec ⟨1, d⟩ 32) (v : Vec F ⟨1, d⟩ .f32) (mask : IVec ⟨1, d⟩ 1)
    (h : ∀ a x, (idxs a x).toNat < s.size a) (j : s.Idx) (k : Fin (d 0)) (hm : mask (Shape.ofLane k) = 1)
    (hk : ∀ a, (j a).val = (idxs a (Shape.ofLane k)).toNat)
    (hj : ∀ k' : Fin (d 0), k' ≠ k → ¬ ∀ a, (j a).val = (idxs a (Shape.ofLane k')).toNat) :
    storeIdx f idxs v mask true h j = Elt.idxAdd .f32 (f j) (v (Shape.ofLane k)) := by
  obtain ⟨l₁, l₂, hl⟩ := List.append_of_mem (List.mem_finRange k)
  have hnd : (l₁ ++ k :: l₂).Nodup := hl ▸ List.nodup_finRange _
  have h1 : ∀ k' ∈ l₁, k' ≠ k := fun k' h' e => by
    subst e
    exact (List.disjoint_of_nodup_append hnd) h' List.mem_cons_self
  have h2 : ∀ k' ∈ l₂, k' ≠ k := fun k' h' e => by
    subst e
    exact (List.nodup_cons.mp (List.Nodup.of_append_right hnd)).1 h'
  have hjk : idxAt idxs h (Shape.ofLane k) = j := funext fun a => Fin.ext (hk a).symm
  rw [storeIdx_fold, hl, List.foldl_append, List.foldl_cons, scatter_miss idxs v mask h j l₂ (fun k' hk' _ => hj k' (h2 k' hk'))]
  conv_lhs => unfold scatterStep
  rw [if_pos hm]
  show (if _ then _ else _) = _
  rw [if_pos (fun a => by rw [hjk]), hjk]
  exact congrArg (Elt.idxAdd (F := F) .f32 · _) (scatter_miss idxs v mask h j l₁ (fun k' hk' _ => hj k' (h1 k' hk')) f)

/-! ## The accumulators after some halves -/

/-- How many neighbours of agent `a` are handled after `s` halves. -/
def done (s a : Nat) : Nat := (s + 7 - a / 16) / 8

variable (X : Nat → Fin 16 → Nat → F .f32)

/-- Whether neighbour `n` of agent `j % 128` is counted at the accumulator word `j`. -/
def hits (n j : Nat) : Prop :=
  counted (fun k => X n k (j % 128)) = 1#1 ∧ (sector fun k => X n k (j % 128)).toNat = j / 128

instance (n j : Nat) : Decidable (hits X n j) := by unfold hits; infer_instance

/-- What the values `val n a` of the first `n` neighbours add up to in the accumulator word `j`. -/
def acc (val : Nat → Nat → F .f32) (j : Nat) : Nat → F .f32
  | 0 => Scalar.ofBits .f32 0x00000000#32
  | n + 1 => if hits X n j then Elt.idxAdd (F := F) .f32 (acc val j n) (val n (j % 128)) else acc val j n

/-- The accumulator of the values `val` after `s` halves. -/
def accAt (val : Nat → Nat → F .f32) (s : Nat) : Vec F S1024 .f32 := fun j => acc X val (j 0).val (done s ((j 0).val % 128))

/-- The direction buffer after `s` halves, from contents `f`. -/
def dirAt (f : Vec F S64x128 .f32) (s : Nat) : Vec F S64x128 .f32 := fun y =>
  if 8 * (y 0).val + (y 1).val / 16 < s then dir fun k => X (y 0).val k (y 1).val else f y

/-- One half's scatter of `val` takes the accumulator of `s` halves to that of `s + 1`. -/
theorem accAt_step (val : Nat → Nat → F .f32) (s : Nat) (w : Fin 16 → Vec F S16 .f32) (v : Vec F S16 .f32)
    (hw : ∀ k x, w k x = X (s / 8) k (s % 8 * 16 + (x 0).val)) (hv : ∀ x, v x = val (s / 8) (s % 8 * 16 + (x 0).val))
    (h : ∀ a x, ((![wordV w (BitVec.ofNat 32 (s % 8 * 16))] : Fin 1 → IVec S16 32) a x).toNat < S1024.size a) :
    storeIdx (accAt X val s) ![wordV w (BitVec.ofNat 32 (s % 8 * 16))] v (countedV w) true h = accAt X val (s + 1) := by
  have hs16 : s % 8 * 16 + 16 ≤ 128 := by omega
  have hlane : ∀ x : S16.Idx, lane w x = fun k => X (s / 8) k (s % 8 * 16 + (x 0).val) := fun x => funext fun k => hw k x
  have hword : ∀ k : Fin 16, (wordV w (BitVec.ofNat 32 (s % 8 * 16)) (Shape.ofLane (d := ![16]) k)).toNat
      = (place (lane w (Shape.ofLane (d := ![16]) k))).toNat * 128 + (s % 8 * 16 + k.val) := fun k => wordV_toNat w _ hs16 _
  funext j
  have hj : (j 0).val < 1024 := (j 0).isLt
  set a := (j 0).val % 128 with ha
  have ha128 : a < 128 := Nat.mod_lt _ (by norm_num)
  by_cases hg : a / 16 = s % 8
  · -- the agent is one of this half's sixteen
    let k : Fin 16 := ⟨a % 16, Nat.mod_lt _ (by norm_num)⟩
    have hka : s % 8 * 16 + k.val = a := by show _ + a % 16 = a; omega
    have hlk : lane w (Shape.ofLane (d := ![16]) k) = fun k => X (s / 8) k a := (hlane _).trans (by
      show (fun k' => X (s / 8) k' (s % 8 * 16 + k.val)) = _
      rw [hka])
    have hd0 : done s a = s / 8 := by unfold done; omega
    have hd1 : done (s + 1) a = s / 8 + 1 := by unfold done; omega
    have hother : ∀ k' : Fin 16, k' ≠ k → ¬ ∀ b, (j b).val = ((![wordV w (BitVec.ofNat 32 (s % 8 * 16))] : Fin 1 → IVec S16 32) b (Shape.ofLane (d := ![16]) k')).toNat := by
      intro k' hk' e
      have e0 : (j 0).val = (wordV w (BitVec.ofNat 32 (s % 8 * 16)) (Shape.ofLane (d := ![16]) k')).toNat := e 0
      have e0 := e0.trans (hword k')
      have := k'.isLt
      apply hk'; apply Fin.ext
      show k'.val = a % 16
      omega
    show _ = acc X val (j 0).val (done (s + 1) a)
    rw [hd1, acc]
    by_cases hh : hits X (s / 8) (j 0).val
    · rw [if_pos hh]
      have hc : counted (lane w (Shape.ofLane (d := ![16]) k)) = 1#1 := by rw [hlk]; exact hh.1
      refine (storeIdx_hit (d := ![16]) (accAt X val s) _ v (countedV w) h j k hc ?_ hother).trans ?_
      · intro b
        obtain rfl : b = 0 := Subsingleton.elim _ _
        show (j 0).val = (wordV w (BitVec.ofNat 32 (s % 8 * 16)) (Shape.ofLane (d := ![16]) k)).toNat
        rw [hword, place_of_counted _ hc, hlk, show (sector fun k => X (s / 8) k a).toNat = (j 0).val / 128 from hh.2]
        omega
      · rw [hv]
        show Elt.idxAdd (F := F) .f32 (acc X val (j 0).val (done s a)) (val (s / 8) (s % 8 * 16 + k.val)) = _
        rw [hd0, hka]
    · rw [if_neg hh]
      refine (storeIdx_miss (d := ![16]) (accAt X val s) _ v (countedV w) h j ?_).trans ?_
      · intro k' hm e
        by_cases hk' : k' = k
        · subst hk'
          have hc : counted (lane w (Shape.ofLane (d := ![16]) k)) = 1#1 := hm
          have e0 : (j 0).val = (wordV w (BitVec.ofNat 32 (s % 8 * 16)) (Shape.ofLane (d := ![16]) k)).toNat := e 0
          rw [hword, place_of_counted _ hc] at e0
          rw [hlk] at hc e0
          exact hh ⟨hc, by show (sector fun k => X (s / 8) k a).toNat = _; omega⟩
        · exact hother k' hk' e
      · show acc X val (j 0).val (done s a) = _
        rw [hd0]
  · -- the agent is of another group
    have hd : done (s + 1) a = done s a := by unfold done; omega
    refine (storeIdx_miss (d := ![16]) (accAt X val s) _ v (countedV w) h j ?_).trans ?_
    · intro k' _ e
      have e0 : (j 0).val = (wordV w (BitVec.ofNat 32 (s % 8 * 16)) (Shape.ofLane (d := ![16]) k')).toNat := e 0
      have e0 := e0.trans (hword k')
      have : k'.val < 16 := k'.isLt
      omega
    · show acc X val (j 0).val (done s a) = acc X val (j 0).val (done (s + 1) a)
      rw [hd]

end Cert.Proof.Sector

end
-- ==== Proof.Step.lean ====
/-
  One half, run: from the buffers after `s` halves it leaves the buffers after `s + 1`.
-/
module

public import proofs.«01_k».proof.Proof.Half
public import proofs.«01_k».proof.Proof.Accum
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.ValueIdxCore

@[expose] public section

noncomputable section

namespace Cert.Proof.Sector

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

abbrev UH : Type := URounds (GSem nD τ sig) ℕ
abbrev UU : Type := UH × Counters

local notation "𝕄" => MT nD τ sig (HIx 1) (Elt F) ℕ UU ℕ

abbrev 𝒱₀ : Variants := Variants.none

/-- The vector subcore of a grid point. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

abbrev dirM : Memref sig .scVector .vmem S64x128 .f32 := Memref.whole cc0_scratch3
abbrev velM : Memref sig .scVector .vmem S1024 .f32 := Memref.whole cc0_scratch4
abbrev distM : Memref sig .scVector .vmem S1024 .f32 := Memref.whole cc0_scratch5
abbrev angM : Memref sig .scVector .vmem S1024 .f32 := Memref.whole cc0_scratch6
abbrev cntM : Memref sig .scVector .vmem S1024 .f32 := Memref.whole cc0_scratch7

/-- The direction buffer and the four accumulators of a tile, at given contents. -/
def five (d : Dev nD) (i : grid0.Coords) (fd : Buf (Elt F) (dirM.view.loc (thr d i))) (fv : Buf (Elt F) (velM.view.loc (thr d i)))
    (fs : Buf (Elt F) (distM.view.loc (thr d i))) (fa : Buf (Elt F) (angM.view.loc (thr d i))) (fc : Buf (Elt F) (cntM.view.loc (thr d i))) : sProp 𝕄 :=
  iprop((dirM.view.loc (thr d i) ↦{fullShare} fd) ∗ (velM.view.loc (thr d i) ↦{fullShare} fv)
    ∗ (distM.view.loc (thr d i) ↦{fullShare} fs) ∗ (angM.view.loc (thr d i) ↦{fullShare} fa) ∗ (cntM.view.loc (thr d i) ↦{fullShare} fc))

/-- The contents of the direction buffer and of the accumulators after `s` halves. -/
def accs (X : Nat → Fin 16 → Nat → F .f32) (d : Dev nD) (i : grid0.Coords) (fd : Vec F S64x128 .f32) (s : Nat) : sProp 𝕄 :=
  five d i (dirAt X fd s) (accAt X (fun n a => speed fun k => X n k a) s) (accAt X (fun n a => dist fun k => X n k a) s)
    (accAt X (fun n a => dir fun k => X n k a) s) (accAt X (fun _ _ => Scalar.ofBits .f32 0x3F800000#32) s)

/-- The row a half stores takes the directions of `s` halves to those of `s + 1`. -/
theorem dirAt_step (X : Nat → Fin 16 → Nat → F .f32) (s : Nat)
    (w : Fin 16 → Vec F S16 .f32) (hw : ∀ k x, w k x = X (s / 8) k (s % 8 * 16 + (x 0).val))
    (foff : Fin 2 → Nat) (hfoff : ∀ a, foff a + S1x16.size a ≤ S64x128.size a) (efoff : foff = cfoff s) (fd : Vec F S64x128 .f32) :
    dirM.view.writes (Elt F) (dirAt X fd s) [⟨Rect.unit foff ![1, 16] hfoff, shapeCast S1x16 (dirV w) shapeCasts_S16_S1x16⟩]
      = dirAt X fd (s + 1) := by
  have key : dirM.view.read (Elt F) (dirM.view.writes (Elt F) (dirAt X fd s) [⟨Rect.unit foff ![1, 16] hfoff, shapeCast S1x16 (dirV w) shapeCasts_S16_S1x16⟩])
      = dirAt X fd (s + 1) := by
    funext y
    have hy1 : (y 1).val < 128 := (y 1).isLt
    rw [View.read_writes_cons_unit dirM.view (dirAt X fd s) hfoff _ [] y efoff]
    by_cases h : s / 8 = (y 0).val ∧ s % 8 * 16 ≤ (y 1).val ∧ (y 1).val < s % 8 * 16 + 16
    · rw [dif_pos (by intro a; fin_cases a <;> simp [cfoff] <;> omega)]
      have hx : (y 1).val - s % 8 * 16 < 16 := by omega
      refine (?_ : _ = dir (lane w (Shape.ofLane (d := ![16]) (⟨(y 1).val - s % 8 * 16, hx⟩ : Fin 16)))).trans ?_
      · refine congrArg (fun z => dir (lane w z)) ?_
        exact Shape.reshapeEquiv_eq_of_rowMajor _ (by
          rw [Shape.rowMajor_val_two, Shape.rowMajor_val_one]
          have e1 : ((Shape.ofLane (d := ![16]) (⟨(y 1).val - s % 8 * 16, hx⟩ : Fin 16)) 0).val = (y 1).val - s % 8 * 16 := rfl
          rw [e1]
          simp [cfoff, Rect.unitLocal])
      · unfold dirAt
        rw [if_pos (by omega)]
        refine congrArg dir (funext fun k => (hw k _).trans ?_)
        rw [h.1]
        exact congrArg _ (by show s % 8 * 16 + ((y 1).val - s % 8 * 16) = _; omega)
    · rw [dif_neg (by intro hall; have h0 := hall 0; have h1 := hall 1; simp [cfoff] at h0 h1; omega)]
      show dirAt X fd s y = dirAt X fd (s + 1) y
      unfold dirAt
      by_cases hh : 8 * (y 0).val + (y 1).val / 16 < s
      · rw [if_pos hh, if_pos (by omega)]
      · rw [if_neg hh, if_neg (by omega)]
  exact key

/-- A scatter into a whole buffer `m`, from contents `f` to the contents `g` that the scatter makes of them. -/
theorem wp_scatter (d : Dev nD) (i : grid0.Coords) (m : Memref sig .scVector .vmem S1024 .f32) (f g : Buf (Elt F) (m.view.loc (thr d i)))
    {idxs : Fin S1024.rank → IVec S16 32} {v : Vec F S16 .f32} {mask : IVec S16 1} {h : ∀ a x, (idxs a x).toNat < S1024.size a}
    {hs : (m.access (.whole S1024)).Stores Finset.univ} (hm : m.view.set = Finset.univ)
    (hg : storeIdx (m.view.read (Elt F) f) idxs v mask true h = m.view.read (Elt F) g)
    {k : PUnit → Prog (TpuEff nD τ sig (Elt F) Λ₀ (.scVector ((i 0).castLE hcore0) ((i 1).castLE hsub0))) PUnit} {Q : PUnit → sProp 𝕄} :
    (m.view.loc (thr d i) ↦{fullShare} f)
      ⊢ iprop(((m.view.loc (thr d i) ↦{fullShare} g) -∗ wp frame (wpE (defs₀ (F := F)) 𝒱₀ (thr d i) none) Set.univ (k ⟨⟩) Q)
        -∗ wp frame (wpE (defs₀ (F := F)) 𝒱₀ (thr d i) none) Set.univ (SparseCore.vectorStoreIdx m idxs v mask true h hs >>= k) Q) := by
  have hset : (m.access (.whole S1024)).set = Finset.univ := by
    show (m.view.slice (Rect.whole S1024)).set = _
    rw [View.set_slice, Rect.set_whole]; exact hm
  have hread : (m.access (.whole S1024)).read (Elt F) f = m.view.read (Elt F) f := by
    funext y
    show m.view.read (Elt F) f ((Rect.whole S1024).emb y) = _
    rw [Rect.emb_whole_apply]
  have hwrite : (m.access (.whole S1024)).write (Elt F) f (storeIdx ((m.access (.whole S1024)).read (Elt F) f) idxs v mask true h) Finset.univ = g := by
    refine View.contents_ext m.view (fun y => ?_) (fun j hj => ?_)
    · rw [← hg, hread]
      exact (congrArg _ (Rect.emb_whole_apply S1024 y).symm).trans (View.read_slice_write_emb (v := m.view) (Rect.whole S1024) f _ (Finset.mem_univ y))
    · have : j ∈ m.view.set := by rw [hm]; exact Finset.mem_univ j
      obtain ⟨y, -, hy⟩ := Finset.mem_map.mp this
      exact absurd hy (hj y)
  have key := SparseCore.wp_vectorStoreIdx (Ix := HIx 1) (Name := ℕ) (U := UU) (Lvl := ℕ) (defs := defs₀ (F := F)) 𝒱₀ (thr d i) none Set.univ
    (base := m) (idxs := idxs) (v := v) (mask := mask) (add := true) (h := h) (hs := hs) (k := k) (Q := Q) (f := f)
  rw [hwrite, hset] at key
  exact key

/-- A half trip from the sector on: four masked additions. -/
theorem wp_halfTail (X : Nat → Fin 16 → Nat → F .f32) (d : Dev nD) (i : grid0.Coords) (s : Nat) (hs : s < 512)
    (w : Fin 16 → Vec F S16 .f32) (hw : ∀ k x, w k x = X (s / 8) k (s % 8 * 16 + (x 0).val))
    (foff : Fin 2 → Nat) (hfoff : ∀ a, foff a + S1x16.size a ≤ S64x128.size a) (efoff : foff = cfoff s)
    (a0 : BitVec 32) (ea : a0 = BitVec.ofNat 32 (s % 8 * 16)) (fd : Vec F S64x128 .f32)
    (rest : Prog (TpuEff nD τ sig (Elt F) Λ₀ (.scVector ((i 0).castLE hcore0) ((i 1).castLE hsub0))) PUnit) (Q : PUnit → sProp 𝕄) :
    iprop(accs X d i fd s
        ∗ (accs X d i fd (s + 1) -∗ wp frame (wpE (defs₀ (F := F)) 𝒱₀ (thr d i) none) Set.univ rest Q))
      ⊢ wp frame (wpE (defs₀ (F := F)) 𝒱₀ (thr d i) none) Set.univ
          (halfTail i dirM velM distM angM cntM w foff hfoff a0 rest) Q := by
  subst ea
  unfold halfTail
  simp only [Prog.lift, Prog.bind_op, Prog.bind_ret, Prog.pure_eq_ret]
  unfold accs
  unfold five
  iintro ⟨⟨Hd, Hv, Hs, Ha, Hc⟩, Hk⟩
  sl_exec
  rw [dirAt_step X s w hw foff hfoff efoff fd,
    wp_assume_of (Ix := HIx 1) (Name := ℕ) (U := UU) (Lvl := ℕ) 𝒱₀ (thr d i) none Set.univ (wordV_chk w _ (by omega))]
  have eHv := accAt_step X (fun n a => speed fun k => X n k a) s w (speedV w) hw (fun x => congrArg speed (funext fun k => hw k x))
  iapply (wp_scatter d i velM (accAt X (fun n a => speed fun k => X n k a) s) (accAt X (fun n a => speed fun k => X n k a) (s + 1))
    (View.set_whole _) (eHv _)) $$ Hv; iintro Hv
  have eHs := accAt_step X (fun n a => dist fun k => X n k a) s w (distV w) hw (fun x => congrArg dist (funext fun k => hw k x))
  iapply (wp_scatter d i distM (accAt X (fun n a => dist fun k => X n k a) s) (accAt X (fun n a => dist fun k => X n k a) (s + 1))
    (View.set_whole _) (eHs _)) $$ Hs; iintro Hs
  have eHa := accAt_step X (fun n a => dir fun k => X n k a) s w (dirV w) hw (fun x => congrArg dir (funext fun k => hw k x))
  iapply (wp_scatter d i angM (accAt X (fun n a => dir fun k => X n k a) s) (accAt X (fun n a => dir fun k => X n k a) (s + 1))
    (View.set_whole _) (eHa _)) $$ Ha; iintro Ha
  have eHc := accAt_step X (fun _ _ => Scalar.ofBits .f32 0x3F800000#32) s w oneV hw (fun x => rfl)
  iapply (wp_scatter d i cntM (accAt X (fun _ _ => Scalar.ofBits .f32 0x3F800000#32) s) (accAt X (fun _ _ => Scalar.ofBits .f32 0x3F800000#32) (s + 1))
    (View.set_whole _) (eHc _)) $$ Hc; iintro Hc
  iapply Hk
  isplitl [Hd]; · iexact Hd
  isplitl [Hv]; · iexact Hv
  isplitl [Hs]; · iexact Hs
  isplitl [Ha]; · iexact Ha
  iexact Hc

/-- The buffer's contents read as chunk `ci` of the coordinates `X`. -/
def Chunk (X : Nat → Fin 16 → Nat → F .f32) (ci : Nat) (c : Vec F S16x8x2x128 .f32) : Prop :=
  ∀ (y : S16x8x2x128.Idx) (k : Fin 16), k.val = 2 * (y 1).val + (y 2).val → c y = X (16 * ci + (y 0).val) k (y 3).val

/-- What a half's load `k` of a chunk gives at a lane. -/
theorem readAt_chunk (X : Nat → Fin 16 → Nat → F .f32) (buf : Memref sig .scVector .vmem S16x8x2x128 .f32)
    (f : buf.view.ty.Contents (Elt F)) (ci s : Nat) (hs : s < 128) (hV : Chunk X ci (buf.view.read (Elt F) f))
    (off : Fin 4 → Nat) (hoff : ∀ a, off a + S1x1x1x16.size a ≤ S16x8x2x128.size a) (k : Fin 16) (eoff : off = coff s k.val) (x : S16.Idx) :
    shapeCast S16 (buf.view.readAt (Elt F) (Rect.unit (s := S16x8x2x128) off S1x1x1x16.size hoff).toLoadRect f) shapeCasts_S1x1x1x16_S16 x
      = X ((128 * ci + s) / 8) k ((128 * ci + s) % 8 * 16 + (x 0).val) := by
  subst eoff
  have hx : (x 0).val < 16 := (x 0).isLt
  have hk := k.isLt
  have hz : Shape.reshapeEquiv (s := S1x1x1x16) (s' := S16) shapeCasts_S1x1x1x16_S16 x = (ix4 0 0 0 (x 0) : S1x1x1x16.Idx) :=
    Shape.reshapeEquiv_eq_of_rowMajor _ (by rw [Shape.rowMajor_val_four, Shape.rowMajor_val_one]; simp)
  show buf.view.read (Elt F) f _ = _
  rw [hz, hV _ k ?_]
  · show X (16 * ci + (s / 8 + 1 * 0)) k (s % 8 * 16 + 1 * (x 0).val) = _
    congr 1 <;> omega
  · show k.val = 2 * (k.val / 2 + 1 * 0) + (k.val % 2 + 1 * 0)
    omega

/-- A half trip: sixteen agents and one neighbour. -/
theorem wp_half (X : Nat → Fin 16 → Nat → F .f32) (d : Dev nD) (i : grid0.Coords) (buf : Memref sig .scVector .vmem S16x8x2x128 .f32)
    (f : Buf (Elt F) (buf.view.loc (thr d i))) (ci s : Nat) (hci : ci < 4) (hs : s < 128) (hV : Chunk X ci (buf.view.read (Elt F) f))
    (off : Fin 16 → Fin 4 → Nat) (hoff : ∀ k a, off k a + S1x1x1x16.size a ≤ S16x8x2x128.size a) (eoff : ∀ k, off k = coff s k.val)
    (foff : Fin 2 → Nat) (hfoff : ∀ a, foff a + S1x16.size a ≤ S64x128.size a) (efoff : foff = cfoff (128 * ci + s))
    (a0 : BitVec 32) (ea : a0 = BitVec.ofNat 32 (s % 8 * 16)) (fd : Vec F S64x128 .f32)
    (rest : Prog (TpuEff nD τ sig (Elt F) Λ₀ (.scVector ((i 0).castLE hcore0) ((i 1).castLE hsub0))) PUnit) (Q : PUnit → sProp 𝕄) :
    iprop((buf.view.loc (thr d i) ↦{fullShare} f) ∗ accs X d i fd (128 * ci + s)
        ∗ (((buf.view.loc (thr d i) ↦{fullShare} f) ∗ accs X d i fd (128 * ci + (s + 1)))
            -∗ wp frame (wpE (defs₀ (F := F)) 𝒱₀ (thr d i) none) Set.univ rest Q))
      ⊢ wp frame (wpE (defs₀ (F := F)) 𝒱₀ (thr d i) none) Set.univ
          (half i buf dirM velM distM angM cntM off hoff foff hfoff a0 rest) Q := by
  unfold half
  simp only [Prog.lift, Prog.bind_op, Prog.bind_ret, Prog.pure_eq_ret]
  iintro ⟨Hb, Ha, Hk⟩
  sl_exec
  iapply (wp_halfTail X d i (128 * ci + s) (by omega) _ (fun k x => ?hw) foff hfoff efoff a0 ?ha fd rest Q) $$ [Ha Hb Hk]
  case ha => rw [ea]; congr 1; omega
  case hw =>
    refine Eq.trans ?_ (readAt_chunk X buf f ci s hs hV (off k) (hoff k) k (eoff k) x)
    fin_cases k <;> rfl
  isplitl [Ha]; · iexact Ha
  iintro Ha
  iapply Hk
  isplitl [Hb]; · iexact Hb
  iexact Ha

end Cert.Proof.Sector

end
-- ==== Proof.Means.lean ====
/-
  The kernel's first and last loops: the accumulators are zeroed, and at the end each sector's sums are multiplied by
  the reciprocal of its count. One sector of one group of sixteen agents is the program `row` below; the last loop's
  body is eight of them.
-/
module

public import proofs.«01_k».proof.Proof.Step

@[expose] public section

set_option maxRecDepth 65536

noncomputable section

namespace Cert.Proof.Sector

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

/-- A sum times the reciprocal of its count, the count a little enlarged. -/
def mean (c v : F .f32) : F .f32 :=
  FloatOps.mulf v (FloatOps.divf (Scalar.ofBits .f32 0x3F800000#32) (FloatOps.addf c (Scalar.ofBits .f32 0x38D1B717#32)))

def meanV (c v : Vec F S16 .f32) : FVec F S16 .f32 := fun x => mean (c x) (v x)

/-- One sector of one group of agents: the count loaded, then each of three sums loaded and its mean stored. -/
def row (i : grid0.Coords) (arg7 : Memref sig .scVector .vmem S3x8x128 .f32) (arg9 arg10 arg11 arg12 : Memref sig .scVector .vmem S1024 .f32)
    (aoff : Fin 1 → Nat) (haoff : ∀ a, aoff a + S16.size a ≤ S1024.size a)
    (o : Fin 3 → Fin 3 → Nat) (ho : ∀ q a, o q a + S1x1x16.size a ≤ S3x8x128.size a)
    (rest : Prog (TpuEff nD τ sig (Elt F) Λ₀ (.scVector ((i 0).castLE hcore0) ((i 1).castLE hsub0))) PUnit) :
    Prog (TpuEff nD τ sig (Elt F) Λ₀ (.scVector ((i 0).castLE hcore0) ((i 1).castLE hsub0))) PUnit := do
  let get (m : Memref sig .scVector .vmem S1024 .f32) : Prog (TpuEff nD τ sig (Elt F) Λ₀ (.scVector ((i 0).castLE hcore0) ((i 1).castLE hsub0))) (Vec F S16 .f32) :=
    Prog.lift (.load m (Rect.unit (s := S1024) aoff S16.size haoff).toLoadRect (View.loadsAt_vmem h_S16))
  let old (q : Fin 3) : Prog (TpuEff nD τ sig (Elt F) Λ₀ (.scVector ((i 0).castLE hcore0) ((i 1).castLE hsub0))) (Vec F S1x1x16 .f32) :=
    Prog.lift (.load arg7 (Rect.unit (s := S3x8x128) (o q) S1x1x16.size (ho q)).toLoadRect (View.loadsAt_vmem h_S1x1x16))
  let put (q : Fin 3) (v : FVec F S16 .f32) : Prog (TpuEff nD τ sig (Elt F) Λ₀ (.scVector ((i 0).castLE hcore0) ((i 1).castLE hsub0))) PUnit :=
    Prog.lift (.store arg7 (Rect.unit (s := S3x8x128) (o q) S1x1x16.size (ho q)) (shapeCast S1x1x16 v shapeCasts_S16_S1x1x16) Finset.univ (View.stores_vmem_bits_univ h_S1x1x16 rfl) (.inl rfl))
  let c ← get arg12
  let v0 ← get arg9
  let _ ← old 0
  put 0 (meanV c v0)
  let v1 ← get arg10
  let _ ← old 1
  put 1 (meanV c v1)
  let v2 ← get arg11
  let _ ← old 2
  put 2 (meanV c v2)
  rest

/-- Where the three means of sector `p` go in the last loop's trip `t`. -/
def ooff (t : Fin k0_t6_loop.trips) : Fin 8 → Fin 3 → Fin 3 → Nat
  | 0 => ![k0_off143 t, k0_off144 t, k0_off145 t]
  | 1 => ![k0_off146 t, k0_off147 t, k0_off148 t]
  | 2 => ![k0_off149 t, k0_off150 t, k0_off151 t]
  | 3 => ![k0_off152 t, k0_off153 t, k0_off154 t]
  | 4 => ![k0_off155 t, k0_off156 t, k0_off157 t]
  | 5 => ![k0_off158 t, k0_off159 t, k0_off160 t]
  | 6 => ![k0_off161 t, k0_off162 t, k0_off163 t]
  | 7 => ![k0_off164 t, k0_off165 t, k0_off166 t]

/-- Where a trip writes a mean, in closed form. -/
theorem ooff_eq : ∀ (t : Fin k0_t6_loop.trips) (p : Fin 8) (q : Fin 3), ooff t p q = ![q.val, p.val, 16 * t.val] := by decide +kernel

/-- A mean's sixteen lanes lie in the buffer. -/
theorem ooff_inb (t : Fin k0_t6_loop.trips) (p : Fin 8) (q : Fin 3) : ∀ a, ooff t p q a + S1x1x16.size a ≤ S3x8x128.size a := by
  have ht : t.val < 8 := t.isLt
  intro a; rw [ooff_eq]; fin_cases a <;> simp <;> omega

/-- The rows `p`, …, `7` of trip `t`. -/
def rows (i : grid0.Coords) (arg7 : Memref sig .scVector .vmem S3x8x128 .f32) (arg9 arg10 arg11 arg12 : Memref sig .scVector .vmem S1024 .f32)
    (t : Fin k0_t6_loop.trips) : List (Fin 8) → Prog (TpuEff nD τ sig (Elt F) Λ₀ (.scVector ((i 0).castLE hcore0) ((i 1).castLE hsub0))) PUnit
  | [] => pure ()
  | p :: l => row i arg7 arg9 arg10 arg11 arg12 (k0_off142 t (BitVec.ofNat 32 (128 * p.val))) (k0_off142_inb t p) (ooff t p) (ooff_inb t p)
      (rows i arg7 arg9 arg10 arg11 arg12 t l)

section

variable (i : grid0.Coords) (arg2 : Memref sig .scVector .hbm S64x8x2x4096 .f32) (harg2 : arg2.IsWhole) (arg3 : Memref sig .scVector .hbm S3x8x4096 .f32) (harg3 : arg3.IsWhole) (arg4 : Memref sig .scVector .hbm S64x4096 .f32) (harg4 : arg4.IsWhole) (arg5 : Memref sig .scVector .vmem S16x8x2x128 .f32) (harg5 : arg5.IsWhole) (arg6 : Memref sig .scVector .vmem S16x8x2x128 .f32) (harg6 : arg6.IsWhole) (arg7 : Memref sig .scVector .vmem S3x8x128 .f32) (harg7 : arg7.IsWhole) (arg8 : Memref sig .scVector .vmem S64x128 .f32) (harg8 : arg8.IsWhole) (arg9 : Memref sig .scVector .vmem S1024 .f32) (harg9 : arg9.IsWhole) (arg10 : Memref sig .scVector .vmem S1024 .f32) (harg10 : arg10.IsWhole) (arg11 : Memref sig .scVector .vmem S1024 .f32) (harg11 : arg11.IsWhole) (arg12 : Memref sig .scVector .vmem S1024 .f32) (harg12 : arg12.IsWhole) (arg13 : DmaSems sig S_) (arg14 : DmaSems sig S_) (v28_r0 : DmaSems sig S_) (v28_r1 : DmaSems sig S_)

/-- The last loop's body is eight rows. -/
theorem t6_body_eq (t : Fin k0_t6_loop.trips) :
    k0_t6_body (F := F) i arg2 harg2 arg3 harg3 arg4 harg4 arg5 harg5 arg6 harg6 arg7 harg7 arg8 harg8 arg9 harg9 arg10 harg10 arg11 harg11 arg12 harg12 arg13 arg14 v28_r0 v28_r1 t ()
      = rows i arg7 arg9 arg10 arg11 arg12 t [0, 1, 2, 3, 4, 5, 6, 7] := by
  unfold k0_t6_body
  simp only [k0_part41_eq_skeleton, k0_part42_eq_skeleton, k0_part43_eq_skeleton, k0_part44_eq_skeleton, k0_part45_eq_skeleton]
  rfl

end

/-! ## The last loop -/

/-- What the last loop makes of the accumulators. -/
def means (fv fs fa fc : Vec F S1024 .f32) : Vec F S3x8x128 .f32 := fun y =>
  have h : 128 * (y 1).val + (y 2).val < 1024 := by have := (y 1).isLt; have := (y 2).isLt; simp at *; omega
  mean (fc (ix1 ⟨128 * (y 1).val + (y 2).val, h⟩))
    ((![fv, fs, fa] : Fin 3 → Vec F S1024 .f32) (y 0) (ix1 ⟨128 * (y 1).val + (y 2).val, h⟩))

/-- The output buffer when `s` rows are stored, from contents `f`. -/
def outAt (g f : Vec F S3x8x128 .f32) (s : Nat) : Vec F S3x8x128 .f32 := fun y => if 8 * ((y 2).val / 16) + (y 1).val < s then g y else f y

abbrev outM : Memref sig .scVector .vmem S3x8x128 .f32 := Memref.whole cc0_scratch2

/-- The output buffer of a tile at given contents. -/
def outPts (d : Dev nD) (i : grid0.Coords) (g : Buf (Elt F) (outM.view.loc (thr d i))) : sProp 𝕄 := outM.view.loc (thr d i) ↦{fullShare} g

/-- Three stores that put what `g` holds at sector `p` of a group of agents `16 t, …`. -/
theorem outAt_writes (g f : Vec F S3x8x128 .f32) (t p : Nat) (w : Fin 3 → S1x1x16.Idx → Elt F .f32)
    (hw : ∀ (q : Fin 3) (z : S1x1x16.Idx) (y : S3x8x128.Idx), (y 0).val = q.val → (y 1).val = p → (y 2).val = 16 * t + (z 2).val → w q z = g y)
    (hp : p < 8) (o : Fin 3 → Fin 3 → Nat) (ho : ∀ q a, o q a + S1x1x16.size a ≤ S3x8x128.size a) (eo : ∀ q, o q = ![q.val, p, 16 * t]) :
    outM.view.writes (Elt F) (outAt g f (8 * t + p))
      [⟨Rect.unit (o 2) ![1, 1, 16] (ho 2), w 2⟩, ⟨Rect.unit (o 1) ![1, 1, 16] (ho 1), w 1⟩, ⟨Rect.unit (o 0) ![1, 1, 16] (ho 0), w 0⟩]
      = outAt g f (8 * t + p + 1) := by
  funext y
  have hy0 : (y 0).val < 3 := (y 0).isLt
  have hy1 : (y 1).val < 8 := (y 1).isLt
  have hread : ∀ h : Vec F S3x8x128 .f32, h = outM.view.read (Elt F) h := fun _ => rfl
  refine (congrFun (hread _) y).trans ?_
  by_cases hy : (y 1).val = p ∧ (y 2).val / 16 = t
  · have hz : (y 2).val - 16 * t < 16 := by omega
    have hit (q : Fin 3) (hq : (y 0).val = q.val) (f' : outM.view.ty.Contents (Elt F)) (L) :
        outM.view.read (Elt F) (outM.view.writes (Elt F) f' (⟨Rect.unit (o q) ![1, 1, 16] (ho q), w q⟩ :: L)) y = outAt g f (8 * t + p + 1) y := by
      refine (View.read_writes_cons_unit_of_mem outM.view f' (ho q) (w q) L y (ix3 (0 : Fin 1) (0 : Fin 1) (⟨(y 2).val - 16 * t, hz⟩ : Fin 16)) (eo q) ?_).trans ?_
      · intro a; fin_cases a <;> simp <;> omega
      · unfold outAt
        rw [if_pos (by omega)]
        exact hw q _ y hq hy.1 (by show (y 2).val = 16 * t + ((y 2).val - 16 * t); omega)
    have miss (q : Fin 3) (hq : (y 0).val ≠ q.val) (f' : outM.view.ty.Contents (Elt F)) (L) :
        outM.view.read (Elt F) (outM.view.writes (Elt F) f' (⟨Rect.unit (o q) ![1, 1, 16] (ho q), w q⟩ :: L)) y
          = outM.view.read (Elt F) (outM.view.writes (Elt F) f' L) y :=
      View.read_writes_cons_unit_of_not_mem outM.view f' (ho q) (w q) L y (eo q) (0 : Fin 3) (by
        show (y 0).val < q.val ∨ q.val + 1 ≤ (y 0).val
        omega)
    have : (y 0).val = 0 ∨ (y 0).val = 1 ∨ (y 0).val = 2 := by omega
    rcases this with h | h | h
    · rw [miss 2 (by rw [h]; decide), miss 1 (by rw [h]; decide)]; exact hit 0 h _ _
    · rw [miss 2 (by rw [h]; decide)]; exact hit 1 h _ _
    · exact hit 2 h _ _
  · have miss (q : Fin 3) (f' : outM.view.ty.Contents (Elt F)) (L) :
        outM.view.read (Elt F) (outM.view.writes (Elt F) f' (⟨Rect.unit (o q) ![1, 1, 16] (ho q), w q⟩ :: L)) y
          = outM.view.read (Elt F) (outM.view.writes (Elt F) f' L) y := by
      by_cases h1 : (y 1).val = p
      · exact View.read_writes_cons_unit_of_not_mem outM.view f' (ho q) (w q) L y (eo q) (2 : Fin 3) (by
          show (y 2).val < 16 * t ∨ 16 * t + 16 ≤ (y 2).val
          omega)
      · exact View.read_writes_cons_unit_of_not_mem outM.view f' (ho q) (w q) L y (eo q) (1 : Fin 3) (by
          show (y 1).val < p ∨ p + 1 ≤ (y 1).val
          omega)
    rw [miss, miss, miss]
    show outAt g f (8 * t + p) y = outAt g f (8 * t + p + 1) y
    unfold outAt
    by_cases hh : 8 * ((y 2).val / 16) + (y 1).val < 8 * t + p
    · rw [if_pos hh, if_pos (by omega)]
    · rw [if_neg hh, if_neg (by omega)]

/-- What the means stored for sector `p` of the agents `16 t, …` are. -/
theorem mean_value (c v : Vec F S1024 .f32) (t p : Nat) (aoff : Fin 1 → Nat) (haoff : ∀ a, aoff a + S16.size a ≤ S1024.size a)
    (eaoff : aoff = ![128 * p + 16 * t]) (z : S1x1x16.Idx) (n : Fin 1024) (hn : n.val = 128 * p + 16 * t + (z 2).val) :
    (shapeCast S1x1x16 (meanV (fun x => c ((Rect.unit (s := S1024) aoff ![16] haoff).toLoadRect.idx x))
        (fun x => v ((Rect.unit (s := S1024) aoff ![16] haoff).toLoadRect.idx x))) shapeCasts_S16_S1x1x16 : S1x1x16.Idx → Elt F .f32) z
      = mean (c (ix1 n)) (v (ix1 n)) := by
  subst eaoff
  have e : ∀ x : S16.Idx, (x 0).val = (z 2).val → (Rect.unit (s := S1024) ![128 * p + 16 * t] ![16] haoff).toLoadRect.idx x = ix1 n := by
    intro x hx
    funext a
    obtain rfl : a = 0 := Subsingleton.elim _ _
    apply Fin.ext
    show 128 * p + 16 * t + 1 * (x 0).val = n.val
    omega
  have h0 : (z 0).val < 1 := (z 0).isLt
  have h1 : (z 1).val < 1 := (z 1).isLt
  have hz : Shape.reshapeEquiv (s := S16) (s' := S1x1x16) shapeCasts_S16_S1x1x16 z = (ix1 (⟨(z 2).val, (z 2).isLt⟩ : Fin 16) : S16.Idx) :=
    Shape.reshapeEquiv_eq_of_rowMajor _ (by
      rw [Shape.rowMajor_val_one, Shape.rowMajor_val_three]
      show (z 2).val = ((z 0).val * 1 + (z 1).val) * 16 + (z 2).val
      omega)
  show meanV _ _ (Shape.reshapeEquiv _ z) = _
  rw [hz]
  show mean (c _) (v _) = _
  rw [e _ rfl]

/-- A trip writes sixteen agents' means more. -/
theorem outAt_step (fv fs fa fc : Vec F S1024 .f32) (f : Vec F S3x8x128 .f32) (t : Fin k0_t6_loop.trips) (p : Fin 8)
    (aoff : Fin 1 → Nat) (haoff : ∀ a, aoff a + S16.size a ≤ S1024.size a) (eaoff : aoff = ![128 * p.val + 16 * t.val])
    (o : Fin 3 → Fin 3 → Nat) (ho : ∀ q a, o q a + S1x1x16.size a ≤ S3x8x128.size a) (eo : ∀ q, o q = ![q.val, p.val, 16 * t.val]) :
    outM.view.writes (Elt F) (outAt (means fv fs fa fc) f (8 * t.val + p.val))
      [⟨Rect.unit (o 2) ![1, 1, 16] (ho 2), shapeCast S1x1x16 (meanV (cntM.view.readAt (Elt F) (Rect.unit (s := S1024) aoff ![16] haoff).toLoadRect fc)
          (angM.view.readAt (Elt F) (Rect.unit (s := S1024) aoff ![16] haoff).toLoadRect fa)) shapeCasts_S16_S1x1x16⟩,
        ⟨Rect.unit (o 1) ![1, 1, 16] (ho 1), shapeCast S1x1x16 (meanV (cntM.view.readAt (Elt F) (Rect.unit (s := S1024) aoff ![16] haoff).toLoadRect fc)
          (distM.view.readAt (Elt F) (Rect.unit (s := S1024) aoff ![16] haoff).toLoadRect fs)) shapeCasts_S16_S1x1x16⟩,
        ⟨Rect.unit (o 0) ![1, 1, 16] (ho 0), shapeCast S1x1x16 (meanV (cntM.view.readAt (Elt F) (Rect.unit (s := S1024) aoff ![16] haoff).toLoadRect fc)
          (velM.view.readAt (Elt F) (Rect.unit (s := S1024) aoff ![16] haoff).toLoadRect fv)) shapeCasts_S16_S1x1x16⟩]
      = outAt (means fv fs fa fc) f (8 * t.val + p.val + 1) := by
  have hp := p.isLt
  refine outAt_writes (means fv fs fa fc) f t.val p.val (fun q => shapeCast S1x1x16 (meanV (fun x => fc ((Rect.unit (s := S1024) aoff ![16] haoff).toLoadRect.idx x))
        (fun x => (![fv, fs, fa] : Fin 3 → Vec F S1024 .f32) q ((Rect.unit (s := S1024) aoff ![16] haoff).toLoadRect.idx x))) shapeCasts_S16_S1x1x16)
    (fun q z y h0 h1 h2 => ?_) hp o ho eo
  have hq : y 0 = q := Fin.ext h0
  have hy1 : (y 1).val < 8 := (y 1).isLt
  have hy2 : (y 2).val < 128 := (y 2).isLt
  refine (mean_value fc _ t.val p.val aoff haoff eaoff z ⟨128 * (y 1).val + (y 2).val, by omega⟩ (by show 128 * (y 1).val + (y 2).val = _; omega)).trans ?_
  unfold means
  rw [hq]

/-- A trip's three stores of one sector. -/
theorem wp_row (d : Dev nD) (i : grid0.Coords) (fd : Vec F S64x128 .f32) (fv fs fa fc : Vec F S1024 .f32) (f : Vec F S3x8x128 .f32) (t : Fin k0_t6_loop.trips) (p : Fin 8)
    (aoff : Fin 1 → Nat) (haoff : ∀ a, aoff a + S16.size a ≤ S1024.size a) (eaoff : aoff = ![128 * p.val + 16 * t.val])
    (o : Fin 3 → Fin 3 → Nat) (ho : ∀ q a, o q a + S1x1x16.size a ≤ S3x8x128.size a) (eo : ∀ q, o q = ![q.val, p.val, 16 * t.val])
    (rest : Prog (TpuEff nD τ sig (Elt F) Λ₀ (.scVector ((i 0).castLE hcore0) ((i 1).castLE hsub0))) PUnit) (Q : PUnit → sProp 𝕄) :
    iprop(five d i fd fv fs fa fc ∗ outPts d i (outAt (means fv fs fa fc) f (8 * t.val + p.val))
        ∗ ((five d i fd fv fs fa fc ∗ outPts d i (outAt (means fv fs fa fc) f (8 * t.val + p.val + 1)))
            -∗ wp frame (wpE (defs₀ (F := F)) 𝒱₀ (thr d i) none) Set.univ rest Q))
      ⊢ wp frame (wpE (defs₀ (F := F)) 𝒱₀ (thr d i) none) Set.univ (row i outM velM distM angM cntM aoff haoff o ho rest) Q := by
  unfold row
  simp only [Prog.lift, Prog.bind_op, Prog.bind_ret, Prog.pure_eq_ret]
  unfold five outPts
  iintro ⟨⟨Hd, Hv, Hs, Ha, Hc⟩, Ho, Hk⟩
  sl_exec
  rw [outAt_step fv fs fa fc f t p aoff haoff eaoff o ho eo]
  iapply Hk
  isplitr [Ho]
  · isplitl [Hd]; · iexact Hd
    isplitl [Hv]; · iexact Hv
    isplitl [Hs]; · iexact Hs
    isplitl [Ha]; · iexact Ha
    iexact Hc
  · iexact Ho

end Cert.Proof.Sector

end
-- ==== Proof.Loops.lean ====
/-
  The loops of a tile, run: the one that clears the accumulators, the four over the chunks of neighbours, and the one
  that takes the means.
-/
module

public import proofs.«01_k».proof.Proof.Step
public import proofs.«01_k».proof.Proof.Means

@[expose] public section

noncomputable section

namespace Cert.Proof.Sector

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

/-! ## Clearing the accumulators -/

/-- An accumulator whose first `16 s` words are cleared, from contents `f`. -/
def zeroAt (f : Vec F S1024 .f32) (s : Nat) : Vec F S1024 .f32 := fun j => if (j 0).val < 16 * s then Scalar.ofBits .f32 0x00000000#32 else f j

/-- A store of sixteen zeros, read back. -/
theorem read_zeros (M : Memref sig .scVector .vmem S1024 .f32) (f : M.view.ty.Contents (Elt F)) (t : Nat)
    (off : Fin 1 → Nat) (hoff : ∀ a, off a + S16.size a ≤ S1024.size a) (eoff : off = ![16 * t]) (y : S1024.Idx) :
    M.view.read (Elt F) (M.view.writes (Elt F) f [⟨Rect.unit (s := S1024) off ![16] hoff, k0_pay302 (F := F)⟩]) y
      = if 16 * t ≤ (y 0).val ∧ (y 0).val < 16 * t + 16 then Scalar.ofBits .f32 0x00000000#32 else M.view.read (Elt F) f y := by
  rw [View.read_writes_cons_unit M.view f hoff _ [] y eoff]
  by_cases h : 16 * t ≤ (y 0).val ∧ (y 0).val < 16 * t + 16
  · rw [dif_pos (by intro a; obtain rfl : a = 0 := Subsingleton.elim _ _; exact h), if_pos h]
    rfl
  · rw [dif_neg (fun hall => h (hall 0)), if_neg h]
    rfl

/-- A trip clears sixteen words more. -/
theorem zeroAt_step (f : Vec F S1024 .f32) (s : Nat) (y : S1024.Idx) :
    (if 16 * s ≤ (y 0).val ∧ (y 0).val < 16 * s + 16 then Scalar.ofBits .f32 0x00000000#32 else zeroAt f s y) = zeroAt f (s + 1) y := by
  unfold zeroAt
  by_cases h1 : (y 0).val < 16 * s
  · rw [if_neg (by omega), if_pos h1, if_pos (by omega)]
  · by_cases h2 : (y 0).val < 16 * s + 16
    · rw [if_pos ⟨by omega, h2⟩, if_pos (by omega)]
    · rw [if_neg (by omega), if_neg h1, if_neg (by omega)]

/-- All 1024 words cleared: the accumulator before the first half. -/
theorem zeroAt_all (X : Nat → Fin 16 → Nat → F .f32) (val : Nat → Nat → F .f32) (f : Vec F S1024 .f32) : zeroAt f 64 = accAt X val 0 := by
  funext y
  have hy : (y 0).val < 1024 := (y 0).isLt
  unfold zeroAt accAt
  rw [if_pos (by omega), show done 0 ((y 0).val % 128) = 0 from by unfold done; omega]
  rfl

/-- The direction buffer and the accumulators when `s` trips of the clearing loop are done. -/
def cleared (d : Dev nD) (i : grid0.Coords) (fd : Vec F S64x128 .f32) (fv fs fa fc : Vec F S1024 .f32) (s : Nat) : sProp 𝕄 :=
  five d i fd (zeroAt fv s) (zeroAt fs s) (zeroAt fa s) (zeroAt fc s)

/-- After the last trip the accumulators are cleared. -/
theorem cleared_all (X : Nat → Fin 16 → Nat → F .f32) (d : Dev nD) (i : grid0.Coords) (fd : Vec F S64x128 .f32) (fv fs fa fc : Vec F S1024 .f32) :
    cleared d i fd fv fs fa fc 64 = accs X d i fd 0 := by
  unfold cleared accs
  rw [zeroAt_all X (fun n a => speed fun k => X n k a), zeroAt_all X (fun n a => dist fun k => X n k a),
    zeroAt_all X (fun n a => dir fun k => X n k a), zeroAt_all X (fun _ _ => Scalar.ofBits .f32 0x3F800000#32)]
  congr 1

/-- Before the first trip nothing is asked. -/
theorem cleared_zero (d : Dev nD) (i : grid0.Coords) (fd : Vec F S64x128 .f32) (fv fs fa fc : Vec F S1024 .f32) :
    cleared d i fd fv fs fa fc 0 = five d i fd fv fs fa fc := by
  unfold cleared
  congr 1

section Body

variable (i : grid0.Coords)
  (arg2 : Memref sig .scVector .hbm S64x8x2x4096 .f32) (harg2 : arg2.IsWhole) (arg3 : Memref sig .scVector .hbm S3x8x4096 .f32) (harg3 : arg3.IsWhole)
  (arg4 : Memref sig .scVector .hbm S64x4096 .f32) (harg4 : arg4.IsWhole)
  (arg5 : Memref sig .scVector .vmem S16x8x2x128 .f32) (harg5 : arg5.IsWhole) (arg6 : Memref sig .scVector .vmem S16x8x2x128 .f32) (harg6 : arg6.IsWhole)
  (arg7 : Memref sig .scVector .vmem S3x8x128 .f32) (harg7 : arg7.IsWhole)
  (hdir : (dirM : Memref sig .scVector .vmem S64x128 .f32).IsWhole) (hvel : (velM : Memref sig .scVector .vmem S1024 .f32).IsWhole)
  (hdist : (distM : Memref sig .scVector .vmem S1024 .f32).IsWhole) (hang : (angM : Memref sig .scVector .vmem S1024 .f32).IsWhole)
  (hcnt : (cntM : Memref sig .scVector .vmem S1024 .f32).IsWhole)
  (arg13 arg14 v28_r0 v28_r1 : DmaSems sig S_)

/-- One trip of the clearing loop. -/
theorem wp_clear (d : Dev nD) (fd : Vec F S64x128 .f32) (fv fs fa fc : Vec F S1024 .f32) (t : Fin k0_t1_loop.trips) (acc : Unit) :
    cleared d i fd fv fs fa fc t.val
      ⊢ wp frame (wpE (defs₀ (F := F)) 𝒱₀ (thr d i) none) Set.univ (k0_t1_body (F := F) i arg2 harg2 arg3 harg3 arg4 harg4 arg5 harg5 arg6 harg6 arg7 harg7 dirM hdir velM hvel distM hdist angM hang cntM hcnt arg13 arg14 v28_r0 v28_r1 t acc)
          fun _ => cleared d i fd fv fs fa fc (t.val + 1) := by
  have step (f : Vec F S1024 .f32) (M : Memref sig .scVector .vmem S1024 .f32) (g : M.view.ty.Contents (Elt F)) (hg : M.view.read (Elt F) g = zeroAt f t.val) :
      M.view.read (Elt F) (M.view.writes (Elt F) g [⟨Rect.unit (s := S1024) (k0_off2 t) ![16] (k0_off2_inb t), k0_pay302 (F := F)⟩]) = zeroAt f (t.val + 1) := by
    funext y
    rw [read_zeros M g t.val _ _ (k0_off2_eq t), hg]
    exact zeroAt_step f t.val y
  have ev := step fv velM (zeroAt fv t.val) rfl
  have es := step fs distM (zeroAt fs t.val) rfl
  have ea := step fa angM (zeroAt fa t.val) rfl
  have ec := step fc cntM (zeroAt fc t.val) rfl
  unfold k0_t1_body
  simp only [Prog.lift, Prog.bind_op, Prog.bind_ret, Prog.pure_eq_ret]
  unfold cleared five
  iintro ⟨Hd, Hv, Hs, Ha, Hc⟩
  sl_exec
  sl_step
  rw [← ev, ← es, ← ea, ← ec]
  isplitl [Hd]; · iexact Hd
  isplitl [Hv]; · iexact Hv
  isplitl [Hs]; · iexact Hs
  isplitl [Ha]; · iexact Ha
  iexact Hc

/-- The clearing loop. -/
theorem wp_clears (X : Nat → Fin 16 → Nat → F .f32) (d : Dev nD) (fd : Vec F S64x128 .f32) (fv fs fa fc : Vec F S1024 .f32) {β : Type}
    {kk : Unit → Prog (TpuEff nD τ sig (Elt F) Λ₀ (.scVector ((i 0).castLE hcore0) ((i 1).castLE hsub0))) β} {Q : β → sProp 𝕄} :
    five d i fd fv fs fa fc
      ⊢ iprop((accs X d i fd (128 * 0) -∗ wp frame (wpE (defs₀ (F := F)) 𝒱₀ (thr d i) none) Set.univ (kk ()) Q)
          -∗ wp frame (wpE (defs₀ (F := F)) 𝒱₀ (thr d i) none) Set.univ
            (Scf.Loop.for k0_t1_loop k0_t1_ok ⟨⟩ (k0_t1_body (F := F) i arg2 harg2 arg3 harg3 arg4 harg4 arg5 harg5 arg6 harg6 arg7 harg7 dirM hdir velM hvel distM hdist angM hang cntM hcnt arg13 arg14 v28_r0 v28_r1) >>= kk) Q) := by
  rw [← cleared_zero d i fd fv fs fa fc]
  iintro H Hk
  iapply (Scf.wp_for_bind frame (wpE (defs₀ (F := F)) 𝒱₀ (thr d i) none) Set.univ _ _ _ k0_t1_ok ⟨⟩
    (k0_t1_body (F := F) i arg2 harg2 arg3 harg3 arg4 harg4 arg5 harg5 arg6 harg6 arg7 harg7 dirM hdir velM hvel distM hdist angM hang cntM hcnt arg13 arg14 v28_r0 v28_r1) (fun n _ => cleared d i fd fv fs fa fc n)
    (wp_clear i arg2 harg2 arg3 harg3 arg4 harg4 arg5 harg5 arg6 harg6 arg7 harg7 hdir hvel hdist hang hcnt arg13 arg14 v28_r0 v28_r1 d fd fv fs fa fc)) $$ H
  iintro %_ H
  iapply Hk
  rw [show Scf.trips k0_t1_loop.lb k0_t1_loop.ub k0_t1_loop.st = 64 from by decide]
  iapply (Entails.of_eq (cleared_all X d i fd fv fs fa fc))
  iexact H

/-! ## The chunks -/

omit arg2 harg2 arg3 harg3 arg4 harg4 arg5 harg5 arg6 harg6 arg7 harg7 hdir hvel hdist hang hcnt arg13 arg14 v28_r0 v28_r1 in
/-- Two halves, one trip of a chunk's loop. -/
theorem wp_trip (X : Nat → Fin 16 → Nat → F .f32) (d : Dev nD) (buf : Memref sig .scVector .vmem S16x8x2x128 .f32)
    (f : Buf (Elt F) (buf.view.loc (thr d i))) (ci t : Nat) (hci : ci < 4) (ht : t < 64) (hV : Chunk X ci (buf.view.read (Elt F) f))
    (off : Fin 2 → Fin 16 → Fin 4 → Nat) (hoff : ∀ h k a, off h k a + S1x1x1x16.size a ≤ S16x8x2x128.size a)
    (eoff : ∀ h k, off h k = coff (2 * t + h.val) k.val)
    (foff : Fin 2 → Nat) (hfoff : ∀ a, foff a + S1x16.size a ≤ S64x128.size a) (efoff : foff = cfoff (128 * ci + 2 * t))
    (foff' : Fin 2 → Nat) (hfoff' : ∀ a, foff' a + S1x16.size a ≤ S64x128.size a) (efoff' : foff' = cfoff (128 * ci + 2 * t + 1))
    (a0 a1 : BitVec 32) (ea0 : a0 = BitVec.ofNat 32 ((2 * t + 0) % 8 * 16)) (ea1 : a1 = BitVec.ofNat 32 ((2 * t + 1) % 8 * 16)) (fd : Vec F S64x128 .f32) :
    iprop((buf.view.loc (thr d i) ↦{fullShare} f) ∗ accs X d i fd (128 * ci + 2 * t))
      ⊢ wp frame (wpE (defs₀ (F := F)) 𝒱₀ (thr d i) none) Set.univ
          (half i buf dirM velM distM angM cntM (off 0) (hoff 0) foff hfoff a0
            (half i buf dirM velM distM angM cntM (off 1) (hoff 1) foff' hfoff' a1 (pure ())))
          fun _ => iprop((buf.view.loc (thr d i) ↦{fullShare} f) ∗ accs X d i fd (128 * ci + 2 * (t + 1))) := by
  iintro ⟨Hb, Ha⟩
  iapply (wp_half X d i buf f ci (2 * t) hci (by omega) hV (off 0) (hoff 0) (fun k => eoff 0 k) foff hfoff efoff a0 ea0 fd)
  isplitl [Hb]; · iexact Hb
  isplitl [Ha]; · iexact Ha
  iintro ⟨Hb, Ha⟩
  iapply (wp_half X d i buf f ci (2 * t + 1) hci (by omega) hV (off 1) (hoff 1) (fun k => eoff 1 k) foff' hfoff' efoff' a1 ea1 fd)
  isplitl [Hb]; · iexact Hb
  isplitl [Ha]; · iexact Ha
  iintro ⟨Hb, Ha⟩
  rw [wp_pure]; imodintro
  isplitl [Hb]; · iexact Hb
  iexact Ha

/-- The loop over the neighbours of chunk 0. -/
theorem wp_chunk0 (X : Nat → Fin 16 → Nat → F .f32) (d : Dev nD) (f : Buf (Elt F) (arg5.view.loc (thr d i)))
    (hV : Chunk X 0 (arg5.view.read (Elt F) f)) (fd : Vec F S64x128 .f32) {β : Type}
    {kk : Unit → Prog (TpuEff nD τ sig (Elt F) Λ₀ (.scVector ((i 0).castLE hcore0) ((i 1).castLE hsub0))) β} {Q : β → sProp 𝕄} :
    iprop((arg5.view.loc (thr d i) ↦{fullShare} f) ∗ accs X d i fd (128 * 0))
      ⊢ iprop(((((arg5.view.loc (thr d i) ↦{fullShare} f) ∗ accs X d i fd (128 * 1)))
            -∗ wp frame (wpE (defs₀ (F := F)) 𝒱₀ (thr d i) none) Set.univ (kk ()) Q)
          -∗ wp frame (wpE (defs₀ (F := F)) 𝒱₀ (thr d i) none) Set.univ
            (Scf.Loop.for k0_t2_loop k0_t2_ok ⟨⟩ (k0_t2_body (F := F) i arg2 harg2 arg3 harg3 arg4 harg4 arg5 harg5 arg6 harg6 arg7 harg7 dirM hdir velM hvel distM hdist angM hang cntM hcnt arg13 arg14 v28_r0 v28_r1 lanes) >>= kk) Q) := by
  iintro H Hk
  iapply (Scf.wp_for_bind frame (wpE (defs₀ (F := F)) 𝒱₀ (thr d i) none) Set.univ _ _ _ k0_t2_ok ⟨⟩
    (k0_t2_body (F := F) i arg2 harg2 arg3 harg3 arg4 harg4 arg5 harg5 arg6 harg6 arg7 harg7 dirM hdir velM hvel distM hdist angM hang cntM hcnt arg13 arg14 v28_r0 v28_r1 lanes)
    (fun n _ => iprop((arg5.view.loc (thr d i) ↦{fullShare} f) ∗ accs X d i fd (128 * 0 + 2 * n)))
    (fun t acc => by
      rw [show k0_t2_body (F := F) i arg2 harg2 arg3 harg3 arg4 harg4 arg5 harg5 arg6 harg6 arg7 harg7 dirM hdir velM hvel distM hdist angM hang cntM hcnt arg13 arg14 v28_r0 v28_r1 lanes t acc = _ from t2_body_eq i arg2 harg2 arg3 harg3 arg4 harg4 arg5 harg5 arg6 harg6 arg7 harg7 dirM hdir velM hvel distM hdist angM hang cntM hcnt arg13 arg14 v28_r0 v28_r1 t]
      exact wp_trip i X d arg5 f 0 t.val (by decide) t.isLt hV (off0 t) (off0_inb t) (fun h k => off0_eq t h k) _ _ (foff0_eq t).1 _ _ (foff0_eq t).2
        _ _ (laneBase_eq t 0) (laneBase_eq t 1) fd)) $$ H
  iintro %_ H
  iapply Hk
  iexact H

/-- The loop over the neighbours of chunk 1. -/
theorem wp_chunk1 (X : Nat → Fin 16 → Nat → F .f32) (d : Dev nD) (f : Buf (Elt F) (arg6.view.loc (thr d i)))
    (hV : Chunk X 1 (arg6.view.read (Elt F) f)) (fd : Vec F S64x128 .f32) {β : Type}
    {kk : Unit → Prog (TpuEff nD τ sig (Elt F) Λ₀ (.scVector ((i 0).castLE hcore0) ((i 1).castLE hsub0))) β} {Q : β → sProp 𝕄} :
    iprop((arg6.view.loc (thr d i) ↦{fullShare} f) ∗ accs X d i fd (128 * 1))
      ⊢ iprop(((((arg6.view.loc (thr d i) ↦{fullShare} f) ∗ accs X d i fd (128 * 2)))
            -∗ wp frame (wpE (defs₀ (F := F)) 𝒱₀ (thr d i) none) Set.univ (kk ()) Q)
          -∗ wp frame (wpE (defs₀ (F := F)) 𝒱₀ (thr d i) none) Set.univ
            (Scf.Loop.for k0_t3_loop k0_t3_ok ⟨⟩ (k0_t3_body (F := F) i arg2 harg2 arg3 harg3 arg4 harg4 arg5 harg5 arg6 harg6 arg7 harg7 dirM hdir velM hvel distM hdist angM hang cntM hcnt arg13 arg14 v28_r0 v28_r1 lanes (oneV (F := F))) >>= kk) Q) := by
  iintro H Hk
  iapply (Scf.wp_for_bind frame (wpE (defs₀ (F := F)) 𝒱₀ (thr d i) none) Set.univ _ _ _ k0_t3_ok ⟨⟩
    (k0_t3_body (F := F) i arg2 harg2 arg3 harg3 arg4 harg4 arg5 harg5 arg6 harg6 arg7 harg7 dirM hdir velM hvel distM hdist angM hang cntM hcnt arg13 arg14 v28_r0 v28_r1 lanes (oneV (F := F)))
    (fun n _ => iprop((arg6.view.loc (thr d i) ↦{fullShare} f) ∗ accs X d i fd (128 * 1 + 2 * n)))
    (fun t acc => by
      rw [show k0_t3_body (F := F) i arg2 harg2 arg3 harg3 arg4 harg4 arg5 harg5 arg6 harg6 arg7 harg7 dirM hdir velM hvel distM hdist angM hang cntM hcnt arg13 arg14 v28_r0 v28_r1 lanes (oneV (F := F)) t acc = _ from t3_body_eq i arg2 harg2 arg3 harg3 arg4 harg4 arg5 harg5 arg6 harg6 arg7 harg7 dirM hdir velM hvel distM hdist angM hang cntM hcnt arg13 arg14 v28_r0 v28_r1 t]
      exact wp_trip i X d arg6 f 1 t.val (by decide) t.isLt hV (off1 t) (off1_inb t) (fun h k => off1_eq t h k) _ _ (foff1_eq t).1 _ _ (foff1_eq t).2
        _ _ (laneBase_eq t 0) (laneBase_eq t 1) fd)) $$ H
  iintro %_ H
  iapply Hk
  iexact H

/-- The loop over the neighbours of chunk 2. -/
theorem wp_chunk2 (X : Nat → Fin 16 → Nat → F .f32) (d : Dev nD) (f : Buf (Elt F) (arg5.view.loc (thr d i)))
    (hV : Chunk X 2 (arg5.view.read (Elt F) f)) (fd : Vec F S64x128 .f32) {β : Type}
    {kk : Unit → Prog (TpuEff nD τ sig (Elt F) Λ₀ (.scVector ((i 0).castLE hcore0) ((i 1).castLE hsub0))) β} {Q : β → sProp 𝕄} :
    iprop((arg5.view.loc (thr d i) ↦{fullShare} f) ∗ accs X d i fd (128 * 2))
      ⊢ iprop(((((arg5.view.loc (thr d i) ↦{fullShare} f) ∗ accs X d i fd (128 * 3)))
            -∗ wp frame (wpE (defs₀ (F := F)) 𝒱₀ (thr d i) none) Set.univ (kk ()) Q)
          -∗ wp frame (wpE (defs₀ (F := F)) 𝒱₀ (thr d i) none) Set.univ
            (Scf.Loop.for k0_t4_loop k0_t4_ok ⟨⟩ (k0_t4_body (F := F) i arg2 harg2 arg3 harg3 arg4 harg4 arg5 harg5 arg6 harg6 arg7 harg7 dirM hdir velM hvel distM hdist angM hang cntM hcnt arg13 arg14 v28_r0 v28_r1 lanes (oneV (F := F))) >>= kk) Q) := by
  iintro H Hk
  iapply (Scf.wp_for_bind frame (wpE (defs₀ (F := F)) 𝒱₀ (thr d i) none) Set.univ _ _ _ k0_t4_ok ⟨⟩
    (k0_t4_body (F := F) i arg2 harg2 arg3 harg3 arg4 harg4 arg5 harg5 arg6 harg6 arg7 harg7 dirM hdir velM hvel distM hdist angM hang cntM hcnt arg13 arg14 v28_r0 v28_r1 lanes (oneV (F := F)))
    (fun n _ => iprop((arg5.view.loc (thr d i) ↦{fullShare} f) ∗ accs X d i fd (128 * 2 + 2 * n)))
    (fun t acc => by
      rw [show k0_t4_body (F := F) i arg2 harg2 arg3 harg3 arg4 harg4 arg5 harg5 arg6 harg6 arg7 harg7 dirM hdir velM hvel distM hdist angM hang cntM hcnt arg13 arg14 v28_r0 v28_r1 lanes (oneV (F := F)) t acc = _ from t4_body_eq i arg2 harg2 arg3 harg3 arg4 harg4 arg5 harg5 arg6 harg6 arg7 harg7 dirM hdir velM hvel distM hdist angM hang cntM hcnt arg13 arg14 v28_r0 v28_r1 t]
      exact wp_trip i X d arg5 f 2 t.val (by decide) t.isLt hV (off2 t) (off2_inb t) (fun h k => off2_eq t h k) _ _ (foff2_eq t).1 _ _ (foff2_eq t).2
        _ _ (laneBase_eq t 0) (laneBase_eq t 1) fd)) $$ H
  iintro %_ H
  iapply Hk
  iexact H

/-- The loop over the neighbours of chunk 3. -/
theorem wp_chunk3 (X : Nat → Fin 16 → Nat → F .f32) (d : Dev nD) (f : Buf (Elt F) (arg6.view.loc (thr d i)))
    (hV : Chunk X 3 (arg6.view.read (Elt F) f)) (fd : Vec F S64x128 .f32) {β : Type}
    {kk : Unit → Prog (TpuEff nD τ sig (Elt F) Λ₀ (.scVector ((i 0).castLE hcore0) ((i 1).castLE hsub0))) β} {Q : β → sProp 𝕄} :
    iprop((arg6.view.loc (thr d i) ↦{fullShare} f) ∗ accs X d i fd (128 * 3))
      ⊢ iprop(((((arg6.view.loc (thr d i) ↦{fullShare} f) ∗ accs X d i fd (128 * 4)))
            -∗ wp frame (wpE (defs₀ (F := F)) 𝒱₀ (thr d i) none) Set.univ (kk ()) Q)
          -∗ wp frame (wpE (defs₀ (F := F)) 𝒱₀ (thr d i) none) Set.univ
            (Scf.Loop.for k0_t5_loop k0_t5_ok ⟨⟩ (k0_t5_body (F := F) i arg2 harg2 arg3 harg3 arg4 harg4 arg5 harg5 arg6 harg6 arg7 harg7 dirM hdir velM hvel distM hdist angM hang cntM hcnt arg13 arg14 v28_r0 v28_r1 lanes (oneV (F := F))) >>= kk) Q) := by
  iintro H Hk
  iapply (Scf.wp_for_bind frame (wpE (defs₀ (F := F)) 𝒱₀ (thr d i) none) Set.univ _ _ _ k0_t5_ok ⟨⟩
    (k0_t5_body (F := F) i arg2 harg2 arg3 harg3 arg4 harg4 arg5 harg5 arg6 harg6 arg7 harg7 dirM hdir velM hvel distM hdist angM hang cntM hcnt arg13 arg14 v28_r0 v28_r1 lanes (oneV (F := F)))
    (fun n _ => iprop((arg6.view.loc (thr d i) ↦{fullShare} f) ∗ accs X d i fd (128 * 3 + 2 * n)))
    (fun t acc => by
      rw [show k0_t5_body (F := F) i arg2 harg2 arg3 harg3 arg4 harg4 arg5 harg5 arg6 harg6 arg7 harg7 dirM hdir velM hvel distM hdist angM hang cntM hcnt arg13 arg14 v28_r0 v28_r1 lanes (oneV (F := F)) t acc = _ from t5_body_eq i arg2 harg2 arg3 harg3 arg4 harg4 arg5 harg5 arg6 harg6 arg7 harg7 dirM hdir velM hvel distM hdist angM hang cntM hcnt arg13 arg14 v28_r0 v28_r1 t]
      exact wp_trip i X d arg6 f 3 t.val (by decide) t.isLt hV (off3 t) (off3_inb t) (fun h k => off3_eq t h k) _ _ (foff3_eq t).1 _ _ (foff3_eq t).2
        _ _ (laneBase_eq t 0) (laneBase_eq t 1) fd)) $$ H
  iintro %_ H
  iapply Hk
  iexact H

/-! ## The means -/

omit arg2 harg2 arg3 harg3 arg4 harg4 arg5 harg5 arg6 harg6 arg7 harg7 hdir hvel hdist hang hcnt arg13 arg14 v28_r0 v28_r1 in
/-- The rows `p`, … of a trip, which end at row 8. -/
theorem wp_rows (d : Dev nD) (fd : Vec F S64x128 .f32) (fv fs fa fc : Vec F S1024 .f32) (f : Vec F S3x8x128 .f32) (t : Fin k0_t6_loop.trips)
    (l : List (Fin 8)) : ∀ (p : Nat), p + l.length = 8 → (∀ (k : Nat) (hk : k < l.length), (l[k]).val = p + k) →
    iprop(five d i fd fv fs fa fc ∗ outPts d i (outAt (means fv fs fa fc) f (8 * t.val + p)))
      ⊢ wp frame (wpE (defs₀ (F := F)) 𝒱₀ (thr d i) none) Set.univ (rows i outM velM distM angM cntM t l)
          fun _ => iprop(five d i fd fv fs fa fc ∗ outPts d i (outAt (means fv fs fa fc) f (8 * (t.val + 1)))) := by
  induction l with
  | nil =>
    intro p hp _
    obtain rfl : p = 8 := hp
    show _ ⊢ wp frame _ Set.univ (pure ()) _
    rw [wp_pure]
    iintro H; imodintro; iexact H
  | cons q l ih =>
    intro p hp hl
    have hq : q.val = p := hl 0 (Nat.zero_lt_succ _)
    subst hq
    have hl' : q.val + 1 + l.length = 8 := by rw [List.length_cons] at hp; omega
    rw [rows]
    iintro ⟨H5, Ho⟩
    iapply (wp_row d i fd fv fs fa fc f t q _ (k0_off142_inb t q) (k0_off142_eq t q) (ooff t q) (ooff_inb t q) (ooff_eq t q))
    isplitl [H5]; · iexact H5
    isplitl [Ho]; · iexact Ho
    iintro H
    iapply (ih (q.val + 1) hl' (fun k hk => by
      have := hl (k + 1) (by rw [List.length_cons]; omega)
      rw [List.getElem_cons_succ] at this
      omega))
    iexact H

variable (hout : (outM : Memref sig .scVector .vmem S3x8x128 .f32).IsWhole)

omit arg7 harg7 in
/-- The loop that takes the means. -/
theorem wp_means (d : Dev nD) (fd : Vec F S64x128 .f32) (fv fs fa fc : Vec F S1024 .f32) (f : Vec F S3x8x128 .f32) {β : Type}
    {kk : Unit → Prog (TpuEff nD τ sig (Elt F) Λ₀ (.scVector ((i 0).castLE hcore0) ((i 1).castLE hsub0))) β} {Q : β → sProp 𝕄} :
    iprop(five d i fd fv fs fa fc ∗ outPts d i f)
      ⊢ iprop((iprop(five d i fd fv fs fa fc ∗ outPts d i (means fv fs fa fc)) -∗ wp frame (wpE (defs₀ (F := F)) 𝒱₀ (thr d i) none) Set.univ (kk ()) Q)
          -∗ wp frame (wpE (defs₀ (F := F)) 𝒱₀ (thr d i) none) Set.univ
            (Scf.Loop.for k0_t6_loop k0_t6_ok ⟨⟩ (k0_t6_body (F := F) i arg2 harg2 arg3 harg3 arg4 harg4 arg5 harg5 arg6 harg6 outM hout dirM hdir velM hvel distM hdist angM hang cntM hcnt arg13 arg14 v28_r0 v28_r1) >>= kk) Q) := by
  have e0 : outAt (means fv fs fa fc) f (8 * 0) = f := by
    funext y; exact if_neg (by omega)
  have e8 : outAt (means fv fs fa fc) f (8 * 8) = means fv fs fa fc := by
    funext y
    have h1 : (y 1).val < 8 := (y 1).isLt
    have h2 : (y 2).val < 128 := (y 2).isLt
    exact if_pos (by omega)
  iintro H Hk
  iapply (Scf.wp_for_bind frame (wpE (defs₀ (F := F)) 𝒱₀ (thr d i) none) Set.univ _ _ _ k0_t6_ok ⟨⟩
    (k0_t6_body (F := F) i arg2 harg2 arg3 harg3 arg4 harg4 arg5 harg5 arg6 harg6 outM hout dirM hdir velM hvel distM hdist angM hang cntM hcnt arg13 arg14 v28_r0 v28_r1)
    (fun n _ => iprop(five d i fd fv fs fa fc ∗ outPts d i (outAt (means fv fs fa fc) f (8 * n))))
    (fun t acc => by
      rw [show k0_t6_body (F := F) i arg2 harg2 arg3 harg3 arg4 harg4 arg5 harg5 arg6 harg6 outM hout dirM hdir velM hvel distM hdist angM hang cntM hcnt arg13 arg14 v28_r0 v28_r1 t acc = _ from t6_body_eq i arg2 harg2 arg3 harg3 arg4 harg4 arg5 harg5 arg6 harg6 outM hout dirM hdir velM hvel distM hdist angM hang cntM hcnt arg13 arg14 v28_r0 v28_r1 t]
      exact wp_rows i d fd fv fs fa fc f t [0, 1, 2, 3, 4, 5, 6, 7] 0 rfl (by decide))) $$ [H]
  · rw [e0]; iexact H
  iintro %_ H
  iapply Hk
  rw [show Scf.trips k0_t6_loop.lb k0_t6_loop.ub k0_t6_loop.st = 8 from by decide, e8]
  iexact H

end Body

end Cert.Proof.Sector

end
-- ==== Proof.Tile.lean ====
/-
  A tile, run: two transfers at a time bring the tile's columns of the neighbours in, four loops fold them into the
  direction buffer and the accumulators, one takes the means, and two transfers write the tile's columns out.
-/
module

public import proofs.«01_k».proof.Proof.Loops
public import Idealize.ShloMosaic.Lib.ViewIndex

@[expose] public section

noncomputable section

namespace Cert.Proof.Sector

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

/-! ## The program as its launch sees it -/

abbrev ΛP : Labels := Pipeline.Sig Λ₀ (Fin 0) fun p => (pcfgs (F := F) p).Adm
abbrev K : SparseCore.Cfg τ sig (ΛP (F := F)) 1 := sc (F := F)

/-! ## What a tile reads and what it leaves -/

/-- The coordinates of the neighbours of the agents from `c` on: neighbour `n` of agent `c + a`, frame `k / 2`, axis `k % 2`. -/
def colX (G : Vec F S64x8x2x4096 .f32) (c : Nat) (n : Nat) (k : Fin 16) (a : Nat) : F .f32 :=
  if h : n < 64 ∧ c + a < 4096 then
    G (ix4 (⟨n, h.1⟩ : Fin 64) (⟨k.val / 2, by omega⟩ : Fin 8) (⟨k.val % 2, by omega⟩ : Fin 2) (⟨c + a, h.2⟩ : Fin 4096))
  else Scalar.ofBits .f32 0x00000000#32

/-- The accumulators of the agents from `c` on, all neighbours added. -/
def colMeans (G : Vec F S64x8x2x4096 .f32) (c : Nat) : Vec F S3x8x128 .f32 :=
  means (accAt (colX G c) (fun n a => speed fun k => colX G c n k a) 512) (accAt (colX G c) (fun n a => dist fun k => colX G c n k a) 512)
    (accAt (colX G c) (fun n a => dir fun k => colX G c n k a) 512) (accAt (colX G c) (fun _ _ => Scalar.ofBits .f32 0x3F800000#32) 512)

/-- The means of every agent, tile by tile. -/
def allMeans (G : Vec F S64x8x2x4096 .f32) : Vec F S3x8x4096 .f32 := fun y =>
  colMeans G ((y 2).val / 128 * 128) (ix3 (⟨(y 0).val, (y 0).isLt⟩ : Fin 3) (⟨(y 1).val, (y 1).isLt⟩ : Fin 8) (⟨(y 2).val % 128, Nat.mod_lt _ (by decide)⟩ : Fin 128))

/-- The directions of every agent's neighbours, tile by tile. -/
def allDirs (G : Vec F S64x8x2x4096 .f32) : Vec F S64x4096 .f32 := fun y =>
  dir fun k => colX G ((y 1).val / 128 * 128) (y 0).val k ((y 1).val % 128)

section Tile

variable (d : Dev nD) (i : grid0.Coords)

abbrev xV : Memref sig .scVector .hbm S64x8x2x4096 .f32 := Memref.whole main_v0_scv
abbrev oV : Memref sig .scVector .hbm S3x8x4096 .f32 := Memref.whole main_v1_0_scv
abbrev fV : Memref sig .scVector .hbm S64x4096 .f32 := Memref.whole main_v1_1_scv
abbrev bufA : Memref sig .scVector .vmem S16x8x2x128 .f32 := Memref.whole cc0_scratch0
abbrev bufB : Memref sig .scVector .vmem S16x8x2x128 .f32 := Memref.whole cc0_scratch1

/-- The first column of a tile. -/
abbrev col (i : grid0.Coords) : Nat := 256 * (i 1).val + 128 * (i 0).val

abbrev oS (i : grid0.Coords) : Memref sig .scVector .hbm S3x8x128 .f32 :=
  oV.slice (Rect.unit (s := S3x8x4096) (k0_off167 i) S3x8x128.size (k0_off167_inb i)) (fun _ => rfl)
abbrev fS (i : grid0.Coords) : Memref sig .scVector .hbm S64x128 .f32 :=
  fV.slice (Rect.unit (s := S64x4096) (k0_off168 i) S64x128.size (k0_off168_inb i)) (fun _ => rfl)

/-- A chunk of neighbours, landed in a buffer. -/
theorem chunk_landed (buf : Memref sig .scVector .vmem S16x8x2x128 .f32) (f0 : buf.view.ty.Contents (Elt F)) (ci : Nat) (hci : ci < 4) (i : grid0.Coords)
    (off : Fin 4 → Nat) (hoff : ∀ a, off a + S16x8x2x128.size a ≤ S64x8x2x4096.size a) (eoff : off = ![16 * ci, 0, 0, col i])
    (G : Vec F S64x8x2x4096 .f32) :
    Chunk (colX G (col i)) ci (buf.view.read (Elt F) (buf.view.write (Elt F) f0
      ((xV.slice (Rect.unit (s := S64x8x2x4096) off S16x8x2x128.size hoff) (fun _ => rfl)).view.read (Elt F) G) Finset.univ)) := by
  intro y k hk
  have h0 : (y 0).val < 16 := (y 0).isLt
  have h1 : (y 1).val < 8 := (y 1).isLt
  have h2 : (y 2).val < 2 := (y 2).isLt
  have h3 : (y 3).val < 128 := (y 3).isLt
  have hc0 : (i 0).val < 2 := (i 0).isLt
  have hc1 : (i 1).val < 16 := (i 1).isLt
  have hc : col i = 256 * (i 1).val + 128 * (i 0).val := rfl
  rw [View.read_write_univ]
  unfold colX
  rw [dif_pos (by omega)]
  subst eoff
  refine congrArg G (funext fun a => Fin.ext ?_)
  match a with
  | 0 => show 16 * ci + 1 * (y 0).val = 16 * ci + (y 0).val; omega
  | 1 => show 0 + 1 * (y 1).val = k.val / 2; omega
  | 2 => show 0 + 1 * (y 2).val = k.val % 2; omega
  | 3 => show col i + 1 * (y 3).val = col i + (y 3).val; omega

/-- The means of a tile's agents are its columns of the means of all. -/
theorem allMeans_at (G : Vec F S64x8x2x4096 .f32) (c : Nat) (hc : c % 128 = 0) (y : S3x8x128.Idx) (j : S3x8x4096.Idx)
    (e0 : (j 0).val = (y 0).val) (e1 : (j 1).val = (y 1).val) (e2 : (j 2).val = c + (y 2).val) : colMeans G c y = allMeans G j := by
  have h2 : (y 2).val < 128 := (y 2).isLt
  unfold allMeans
  rw [show (j 2).val / 128 * 128 = c from by omega]
  refine congrArg (colMeans G c) (funext fun a => Fin.ext ?_)
  match a with
  | 0 => exact e0.symm
  | 1 => exact e1.symm
  | 2 => show (y 2).val = (j 2).val % 128; omega

/-- The directions of a tile's agents are its columns of the directions of all. -/
theorem allDirs_at (G : Vec F S64x8x2x4096 .f32) (c : Nat) (hc : c % 128 = 0) (fd : Vec F S64x128 .f32) (y : S64x128.Idx) (j : S64x4096.Idx)
    (e0 : (j 0).val = (y 0).val) (e1 : (j 1).val = c + (y 1).val) : dirAt (colX G c) fd 512 y = allDirs G j := by
  have h0 : (y 0).val < 64 := (y 0).isLt
  have h1 : (y 1).val < 128 := (y 1).isLt
  unfold dirAt allDirs
  rw [if_pos (by omega), e0, e1, show (c + (y 1).val) / 128 * 128 = c from by omega, show (c + (y 1).val) % 128 = (y 1).val from by omega]

/-- A memref written whole, where the contents `N` read back what is written. -/
theorem pts_written {sp : Space} {s : Shape} {e : EltTy} (m : Memref sig .scVector sp s e) (f N : Buf (Elt F) (m.view.loc (thr d i))) (w : s.Idx → Elt F e)
    (h : ∀ y, w y = m.view.read (Elt F) N y) :
    (m.view.loc (thr d i) ↦[m.view.set]{fullShare} m.view.writes (Elt F) f [⟨Rect.whole s, w⟩] : sProp 𝕄) = (m.view.loc (thr d i) ↦[m.view.set]{fullShare} N) := by
  refine pointsTo_congr fun j hj => ?_
  obtain ⟨y, -, rfl⟩ := Finset.mem_map.mp hj
  exact View.eq_of_read_eq ((congrFun (View.read_writes_whole m.view f w) y).trans (h y))

/-- The tile's columns of the means, written out. -/
theorem means_written (G : Vec F S64x8x2x4096 .f32) (fo : Buf (Elt F) ((oS i).view.loc (thr d i))) :
    ((oS i).view.loc (thr d i) ↦[(oS i).view.set]{fullShare} (oS i).view.writes (Elt F) fo [⟨Rect.whole S3x8x128, outM.view.read (Elt F) (colMeans G (col i))⟩] : sProp 𝕄)
      = ((oS i).view.loc (thr d i) ↦[(oS i).view.set]{fullShare} allMeans G) := by
  refine pts_written d i (oS i) fo (allMeans G) _ fun y => ?_
  have hcol : col i = 256 * (i 1).val + 128 * (i 0).val := rfl
  have e : ∀ a, ((oS i).view.emb y a).val = k0_off167 i a + 1 * (y a).val := fun a => rfl
  rw [k0_off167_eq i] at e
  refine allMeans_at G (col i) (by omega) y _ ((e 0).trans ?_) ((e 1).trans ?_) ((e 2).trans ?_)
  · show 0 + 1 * (y 0).val = _; omega
  · show 0 + 1 * (y 1).val = _; omega
  · show col i + 1 * (y 2).val = _; omega

/-- The tile's columns of the directions, written out. -/
theorem dirs_written (G : Vec F S64x8x2x4096 .f32) (ff : Buf (Elt F) ((fS i).view.loc (thr d i))) (fd : Vec F S64x128 .f32) :
    ((fS i).view.loc (thr d i) ↦[(fS i).view.set]{fullShare} (fS i).view.writes (Elt F) ff [⟨Rect.whole S64x128, dirM.view.read (Elt F) (dirAt (colX G (col i)) fd 512)⟩] : sProp 𝕄)
      = ((fS i).view.loc (thr d i) ↦[(fS i).view.set]{fullShare} allDirs G) := by
  refine pts_written d i (fS i) ff (allDirs G) _ fun y => ?_
  have h0 : (y 0).val < 64 := (y 0).isLt
  have h1 : (y 1).val < 128 := (y 1).isLt
  have hcol : col i = 256 * (i 1).val + 128 * (i 0).val := rfl
  have e : ∀ a, ((fS i).view.emb y a).val = k0_off168 i a + 1 * (y a).val := fun a => rfl
  rw [k0_off168_eq i] at e
  have e0 : ((fS i).view.emb y 0).val = (y 0).val := (e 0).trans (by show 0 + 1 * (y 0).val = _; omega)
  have e1 : ((fS i).view.emb y 1).val = col i + (y 1).val := (e 1).trans (by show col i + 1 * (y 1).val = _; omega)
  exact allDirs_at G (col i) (by omega) fd y _ e0 e1

/-- A tile's run. -/
theorem tile_run (q : PosShare TreeShare) (G : Buf (Elt F) (xV.view.loc (thr d i))) (fo : Buf (Elt F) ((oS i).view.loc (thr d i)))
    (ff : Buf (Elt F) ((fS i).view.loc (thr d i))) (f0 : Buf (Elt F) (bufA.view.loc (thr d i))) (f1 : Buf (Elt F) (bufB.view.loc (thr d i)))
    (f2 : Vec F S3x8x128 .f32) (fd : Vec F S64x128 .f32) (fv fs fa fc : Vec F S1024 .f32)
    (O : CellTallies nD τ sig (HIx 1)) (W : Waits sig (HIx 1)) (hO : ∀ g, O g none = 0) :
    iprop(levAts (K (F := F)).L (K (F := F)).lev ∗ (xV.view.loc (thr d i) ↦{q} G)
        ∗ ((oS i).view.loc (thr d i) ↦[(oS i).view.set]{fullShare} fo) ∗ ((fS i).view.loc (thr d i) ↦[(fS i).view.set]{fullShare} ff)
        ∗ (bufA.view.loc (thr d i) ↦{fullShare} f0) ∗ (bufB.view.loc (thr d i) ↦{fullShare} f1)
        ∗ outPts d i f2 ∗ five d i fd fv fs fa fc
        ∗ semVal (thr d i, SemLoc.dma cc0_scratch8.sem) 0 ∗ semVal (thr d i, SemLoc.dma cc0_scratch9.sem) 0
        ∗ semVal (thr d i, SemLoc.dma cc0_scoped0.sem) 0 ∗ semVal (thr d i, SemLoc.dma cc0_scoped1.sem) 0
        ∗ owes (thr d i) O W)
      ⊢ wp frame (wpE (defs₀ (F := F)) 𝒱₀ (thr d i) none) Set.univ
          (cc0__sc_body (F := F) i xV (Memref.isWhole_whole _) oV (Memref.isWhole_whole _) fV (Memref.isWhole_whole _)
            bufA (Memref.isWhole_whole _) bufB (Memref.isWhole_whole _) outM (Memref.isWhole_whole _) dirM (Memref.isWhole_whole _)
            velM (Memref.isWhole_whole _) distM (Memref.isWhole_whole _) angM (Memref.isWhole_whole _) cntM (Memref.isWhole_whole _)
            cc0_scratch8 cc0_scratch9 cc0_scoped0 cc0_scoped1)
          fun _ => iprop((xV.view.loc (thr d i) ↦{q} G)
            ∗ ((oS i).view.loc (thr d i) ↦[(oS i).view.set]{fullShare} allMeans G) ∗ ((fS i).view.loc (thr d i) ↦[(fS i).view.set]{fullShare} allDirs G)
            ∗ (∃ f, bufA.view.loc (thr d i) ↦{fullShare} f) ∗ (∃ f, bufB.view.loc (thr d i) ↦{fullShare} f)
            ∗ (∃ f, outPts d i f) ∗ (∃ fd fv fs fa fc, five d i fd fv fs fa fc)
            ∗ semVal (thr d i, SemLoc.dma cc0_scratch8.sem) 0 ∗ semVal (thr d i, SemLoc.dma cc0_scratch9.sem) 0
            ∗ semVal (thr d i, SemLoc.dma cc0_scoped0.sem) 0 ∗ semVal (thr d i, SemLoc.dma cc0_scoped1.sem) 0
            ∗ ∃ W', ⌜∀ p ∈ W', p ∈ W ∨ p.2 = none⌝ ∗ owes (thr d i) O W') := by
  rw [cc0__sc_body_eq_skeleton]
  delta cc0__sc_body_skel
  rw [k0_part46_eq_skeleton, k0_part47_eq_skeleton]
  delta k0_part46_skel k0_part47_skel
  beta_reduce
  iintro ⟨#Hlv, Hx, Ho, Hf, Ha, Hb, Hout, H5, Hsa, Hsb, Hsc, Hsd, HO⟩
  ihave Hmw := ((K (F := F)).mayWaits_none (thr := thr d i) hO) $$ Hlv
  sl_exec
  rw [bind_assoc]
  iapply (wp_clears i xV (Memref.isWhole_whole _) oV (Memref.isWhole_whole _) fV (Memref.isWhole_whole _) bufA (Memref.isWhole_whole _)
    bufB (Memref.isWhole_whole _) outM (Memref.isWhole_whole _) (Memref.isWhole_whole _) (Memref.isWhole_whole _) (Memref.isWhole_whole _)
    (Memref.isWhole_whole _) (Memref.isWhole_whole _) cc0_scratch8 cc0_scratch9 cc0_scoped0 cc0_scoped1 (colX G (col i)) d fd fv fs fa fc) $$ H5
  iintro H5
  sl_exec
  rw [bind_assoc]
  iapply (wp_chunk0 i xV (Memref.isWhole_whole _) oV (Memref.isWhole_whole _) fV (Memref.isWhole_whole _) bufA (Memref.isWhole_whole _) bufB (Memref.isWhole_whole _) outM (Memref.isWhole_whole _) (Memref.isWhole_whole _) (Memref.isWhole_whole _) (Memref.isWhole_whole _) (Memref.isWhole_whole _) (Memref.isWhole_whole _)
    cc0_scratch8 cc0_scratch9 cc0_scoped0 cc0_scoped1 (colX G (col i)) d _ (chunk_landed bufA _ 0 (by decide) i _ (k0_off1_inb i) (k0_off1_eq i) G) fd) $$ [Ha H5]
  · isplitl [Ha]; · iexact Ha
    iexact H5
  iintro ⟨Ha, H5⟩
  sl_exec
  rw [bind_assoc]
  iapply (wp_chunk1 i xV (Memref.isWhole_whole _) oV (Memref.isWhole_whole _) fV (Memref.isWhole_whole _) bufA (Memref.isWhole_whole _) bufB (Memref.isWhole_whole _) outM (Memref.isWhole_whole _) (Memref.isWhole_whole _) (Memref.isWhole_whole _) (Memref.isWhole_whole _) (Memref.isWhole_whole _) (Memref.isWhole_whole _)
    cc0_scratch8 cc0_scratch9 cc0_scoped0 cc0_scoped1 (colX G (col i)) d _ (chunk_landed bufB _ 1 (by decide) i _ (k0_off3_inb i) (k0_off3_eq i) G) fd) $$ [Hb H5]
  · isplitl [Hb]; · iexact Hb
    iexact H5
  iintro ⟨Hb, H5⟩
  sl_exec
  rw [bind_assoc]
  iapply (wp_chunk2 i xV (Memref.isWhole_whole _) oV (Memref.isWhole_whole _) fV (Memref.isWhole_whole _) bufA (Memref.isWhole_whole _) bufB (Memref.isWhole_whole _) outM (Memref.isWhole_whole _) (Memref.isWhole_whole _) (Memref.isWhole_whole _) (Memref.isWhole_whole _) (Memref.isWhole_whole _) (Memref.isWhole_whole _)
    cc0_scratch8 cc0_scratch9 cc0_scoped0 cc0_scoped1 (colX G (col i)) d _ (chunk_landed bufA _ 2 (by decide) i _ (k0_off38_inb i) (k0_off38_eq i) G) fd) $$ [Ha H5]
  · isplitl [Ha]; · iexact Ha
    iexact H5
  iintro ⟨Ha, H5⟩
  sl_exec
  rw [bind_assoc]
  iapply (wp_chunk3 i xV (Memref.isWhole_whole _) oV (Memref.isWhole_whole _) fV (Memref.isWhole_whole _) bufA (Memref.isWhole_whole _) bufB (Memref.isWhole_whole _) outM (Memref.isWhole_whole _) (Memref.isWhole_whole _) (Memref.isWhole_whole _) (Memref.isWhole_whole _) (Memref.isWhole_whole _) (Memref.isWhole_whole _)
    cc0_scratch8 cc0_scratch9 cc0_scoped0 cc0_scoped1 (colX G (col i)) d _ (chunk_landed bufB _ 3 (by decide) i _ (k0_off73_inb i) (k0_off73_eq i) G) fd) $$ [Hb H5]
  · isplitl [Hb]; · iexact Hb
    iexact H5
  iintro ⟨Hb, H5⟩
  sl_exec
  unfold accs
  iapply (wp_means i xV (Memref.isWhole_whole _) oV (Memref.isWhole_whole _) fV (Memref.isWhole_whole _) bufA (Memref.isWhole_whole _) bufB (Memref.isWhole_whole _) (Memref.isWhole_whole _) (Memref.isWhole_whole _) (Memref.isWhole_whole _) (Memref.isWhole_whole _) (Memref.isWhole_whole _)
    cc0_scratch8 cc0_scratch9 cc0_scoped0 cc0_scoped1 (Memref.isWhole_whole _) d _ _ _ _ _ f2) $$ [H5 Hout]
  · isplitl [H5]; · iexact H5
    iexact Hout
  iintro ⟨H5, Hout⟩
  unfold five outPts
  icases H5 with ⟨Hd, Hv, Hs, Hg, Hn⟩
  sl_exec
  sl_step
  isplitl [Hx]; · iexact Hx
  isplitl [Ho]
  · iapply (Entails.of_eq (means_written (F := F) d i G fo)); iexact Ho
  isplitl [Hf]
  · iapply (Entails.of_eq (dirs_written (F := F) d i G ff fd)); iexact Hf
  isplitl [Ha]; · iexists _; iexact Ha
  isplitl [Hb]; · iexists _; iexact Hb
  isplitl [Hout]; · iexists _; iexact Hout
  isplitl [Hd Hv Hs Hg Hn]
  · iexists _, _, _, _, _
    isplitl [Hd]; · iexact Hd
    isplitl [Hv]; · iexact Hv
    isplitl [Hs]; · iexact Hs
    isplitl [Hg]; · iexact Hg
    iexact Hn
  isplitl [Hsa]; · iexact Hsa
  isplitl [Hsb]; · iexact Hsb
  isplitl [Hsc]; · iexact Hsc
  isplitl [Hsd]; · iexact Hsd
  iexists _; isplitr
  swap; · iexact HO
  ipureintro
  intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact .inl hp

end Tile

end Cert.Proof.Sector

end
-- ==== Proof.Launch.lean ====
/-
  The launch: each of the thirty-two tiles is lent the neighbours and handed its own columns of the two results, and hands
  them back written; the host's three transpositions stand around the one call.
-/
module

public import proofs.«01_k».proof.Proof.Tile
public import Idealize.ShloMosaic.Lib.SparseCore.Quiescent
public import Idealize.ShloMosaic.Lib.StableHlo.Run
public import Idealize.ShloMosaic.Lib.Pipeline.Kit

@[expose] public section

noncomputable section

namespace Cert.Proof.Sector

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F] [Named F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor of the ghost state; the transfers' counters are the right. -/
abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_v0
abbrev oLoc (d : Dev nD) : Loc nD τ sig := (SparseCore.T d).loc main_v1_0
abbrev fLoc (d : Dev nD) : Loc nD τ sig := (SparseCore.T d).loc main_v1_1

/-- The neighbours as the host lays them out for the tiles. -/
def laid (d : Dev nD) : Vec F S64x8x2x4096 .f32 :=
  transpose S64x8x2x4096 [1, 2, 3, 0] (m ((SparseCore.T d).loc main_arg1)) transposes_S4096x64x8x2_S64x8x2x4096_1_2_3_0

/-! ## The tiles' columns -/

def coordsV (c : Fin (grid0.bound 0)) (s : Fin (grid0.bound 1)) : grid0.Coords :=
  fun | 0 => c | 1 => s | ⟨_ + 2, h⟩ => absurd h (Nat.not_lt.2 (Nat.le_add_left _ _))

/-- The tile of core `p.1` and subcore `p.2`. -/
abbrev tileOf (p : Fin 2 × Fin 16) : grid0.Coords := coordsV p.1 p.2

/-- A tile's columns of the means. -/
theorem mem_oS (i : grid0.Coords) (j : S3x8x4096.Idx) : j ∈ (oS i).view.set ↔ (j 2).val / 128 = 2 * (i 1).val + (i 0).val := by
  have hcol : col i = 256 * (i 1).val + 128 * (i 0).val := rfl
  have e : ∀ (y : S3x8x128.Idx) a, ((oS i).view.emb y a).val = k0_off167 i a + 1 * (y a).val := fun y a => rfl
  rw [k0_off167_eq i] at e
  constructor
  · intro h
    obtain ⟨y, -, rfl⟩ := Finset.mem_map.mp h
    have h2 : (y 2).val < 128 := (y 2).isLt
    have e2 : ((oS i).view.emb y 2).val = col i + 1 * (y 2).val := e y 2
    rw [e2]; omega
  · intro h
    have h0 : (j 0).val < 3 := (j 0).isLt
    have h1 : (j 1).val < 8 := (j 1).isLt
    refine Finset.mem_map.mpr ⟨ix3 (⟨(j 0).val, h0⟩ : Fin 3) (⟨(j 1).val, h1⟩ : Fin 8) (⟨(j 2).val % 128, Nat.mod_lt _ (by decide)⟩ : Fin 128),
      Finset.mem_univ _, funext fun a => Fin.ext ((e _ a).trans ?_)⟩
    match a with
    | 0 => show 0 + 1 * (j 0).val = _; omega
    | 1 => show 0 + 1 * (j 1).val = _; omega
    | 2 => show col i + 1 * ((j 2).val % 128) = (j 2).val; omega

/-- A tile's columns of the directions. -/
theorem mem_fS (i : grid0.Coords) (j : S64x4096.Idx) : j ∈ (fS i).view.set ↔ (j 1).val / 128 = 2 * (i 1).val + (i 0).val := by
  have hcol : col i = 256 * (i 1).val + 128 * (i 0).val := rfl
  have e : ∀ (y : S64x128.Idx) a, ((fS i).view.emb y a).val = k0_off168 i a + 1 * (y a).val := fun y a => rfl
  rw [k0_off168_eq i] at e
  constructor
  · intro h
    obtain ⟨y, -, rfl⟩ := Finset.mem_map.mp h
    have h2 : (y 1).val < 128 := (y 1).isLt
    have e2 : ((fS i).view.emb y 1).val = col i + 1 * (y 1).val := e y 1
    rw [e2]; omega
  · intro h
    have h0 : (j 0).val < 64 := (j 0).isLt
    refine Finset.mem_map.mpr ⟨ix2 (⟨(j 0).val, h0⟩ : Fin 64) (⟨(j 1).val % 128, Nat.mod_lt _ (by decide)⟩ : Fin 128),
      Finset.mem_univ _, funext fun a => Fin.ext ((e _ a).trans ?_)⟩
    match a with
    | 0 => show 0 + 1 * (j 0).val = _; omega
    | 1 => show col i + 1 * ((j 1).val % 128) = (j 1).val; omega

/-- Sets told apart by the tile a column falls to are disjoint. -/
theorem tiles_disjoint {J : Type} (t : J → ℕ) (A : Fin 2 × Fin 16 → Finset J) (hA : ∀ p j, j ∈ A p ↔ t j = 2 * p.2.val + p.1.val) :
    ∀ p ∈ (Finset.univ : Finset (Fin 2 × Fin 16)), ∀ p' ∈ (Finset.univ : Finset (Fin 2 × Fin 16)), p ≠ p' → Disjoint (A p) (A p') := by
  intro p _ p' _ hne
  refine Finset.disjoint_left.mpr fun j h h' => hne ?_
  have h1 := (hA p j).mp h
  have h2 := (hA p' j).mp h'
  have := p.1.isLt; have := p'.1.isLt
  exact Prod.ext (Fin.ext (by omega)) (Fin.ext (by omega))

/-- And cover, each column falling to some tile. -/
theorem tiles_cover {J : Type} [Fintype J] [DecidableEq J] (t : J → ℕ) (ht : ∀ j, t j < 32) (A : Fin 2 × Fin 16 → Finset J)
    (hA : ∀ p j, j ∈ A p ↔ t j = 2 * p.2.val + p.1.val) : (Finset.univ : Finset (Fin 2 × Fin 16)).biUnion A = Finset.univ := by
  refine Finset.eq_univ_iff_forall.mpr fun j => ?_
  have := ht j
  refine Finset.mem_biUnion.mpr ⟨(⟨t j % 2, Nat.mod_lt _ (by decide)⟩, ⟨t j / 2, by omega⟩), Finset.mem_univ _, (hA _ j).mpr ?_⟩
  show t j = 2 * (t j / 2) + t j % 2
  omega

abbrev oTile (p : Fin 2 × Fin 16) : Finset S3x8x4096.Idx := (oS (tileOf p)).view.set
abbrev fTile (p : Fin 2 × Fin 16) : Finset S64x4096.Idx := (fS (tileOf p)).view.set

/-- The means are the tiles' columns. -/
theorem o_tiles (d : Dev nD) (f : Buf (Elt F) (oLoc d)) :
    (oLoc d ↦{fullShare} f : sProp 𝕄) = bigSep Finset.univ fun p : Fin 2 × Fin 16 => oLoc d ↦[oTile p]{fullShare} f := by
  rw [← pointsTo_biUnion Finset.univ (ℓ := oLoc d) oTile
    (tiles_disjoint (fun j : S3x8x4096.Idx => (j 2).val / 128) oTile fun p j => mem_oS (tileOf p) j),
    tiles_cover (fun j : S3x8x4096.Idx => (j 2).val / 128) (fun j => by have : (j 2).val < 4096 := (j 2).isLt; show (j 2).val / 128 < 32; omega) oTile
      fun p j => mem_oS (tileOf p) j]

/-- The directions are the tiles' columns. -/
theorem f_tiles (d : Dev nD) (f : Buf (Elt F) (fLoc d)) :
    (fLoc d ↦{fullShare} f : sProp 𝕄) = bigSep Finset.univ fun p : Fin 2 × Fin 16 => fLoc d ↦[fTile p]{fullShare} f := by
  rw [← pointsTo_biUnion Finset.univ (ℓ := fLoc d) fTile
    (tiles_disjoint (fun j : S64x4096.Idx => (j 1).val / 128) fTile fun p j => mem_fS (tileOf p) j),
    tiles_cover (fun j : S64x4096.Idx => (j 1).val / 128) (fun j => by have : (j 1).val < 4096 := (j 1).isLt; show (j 1).val / 128 < 32; omega) fTile
      fun p j => mem_fS (tileOf p) j]

/-! ## What the handshakes carry -/

/-- The share of the neighbours a tile reads through. -/
abbrev tok (p : Fin 2 × Fin 16) : PosShare TreeShare := Transfers.shareTok fullShare (2 * 16) (finProdFinEquiv p)

/-- A tile's operands: the neighbours, lent, and its columns of the results, at `fo` and `ff`. -/
def operands (d : Dev nD) (G : Buf (Elt F) (xLoc d)) (fo : Buf (Elt F) (oLoc d)) (ff : Buf (Elt F) (fLoc d)) (p : Fin 2 × Fin 16) : sProp 𝕄 :=
  iprop((xLoc d ↦{tok p} G) ∗ (oLoc d ↦[oTile p]{fullShare} fo) ∗ (fLoc d ↦[fTile p]{fullShare} ff))

instance operands_storable (d : Dev nD) (G : Buf (Elt F) (xLoc d)) (fo : Buf (Elt F) (oLoc d)) (ff : Buf (Elt F) (fLoc d)) (p : Fin 2 × Fin 16) :
    BI.Storable (upEmb : UEmb _ 𝕄) (operands d G fo ff p) := by
  unfold operands; infer_instance

/-- Every tile has a read share of the coordinates. -/
theorem x_tiles (d : Dev nD) (G : Buf (Elt F) (xLoc d)) :
    (xLoc d ↦{fullShare} G : sProp 𝕄)
      = iprop((xLoc d ↦{Transfers.shareDrop fullShare (2 * 16)} G) ∗ bigSep Finset.univ fun p : Fin 2 × Fin 16 => xLoc d ↦{tok p} G) := by
  have h : (xLoc d ↦{fullShare} G : sProp 𝕄) ⊣⊢ _ := Transfers.pointsTo_toks fullShare (2 * 16)
  rw [BI.equiv_iff.mp ⟨h.1, h.2⟩, BI.bigSep_univ_equiv finProdFinEquiv]

/-- All the operands are what is kept back of the neighbours and every tile's. -/
theorem deal (d : Dev nD) (G : Buf (Elt F) (xLoc d)) (fo : Buf (Elt F) (oLoc d)) (ff : Buf (Elt F) (fLoc d)) :
    (iprop((xLoc d ↦{fullShare} G) ∗ (oLoc d ↦{fullShare} fo) ∗ (fLoc d ↦{fullShare} ff)) : sProp 𝕄)
      ⊣⊢ iprop((xLoc d ↦{Transfers.shareDrop fullShare (2 * 16)} G)
        ∗ bigSep Finset.univ fun c : Fin 2 => bigSep Finset.univ fun s : Fin 16 => operands d G fo ff (c, s)) := by
  rw [x_tiles, o_tiles, f_tiles, ← bigSep_univ_prod (fun p => operands d G fo ff p)]
  unfold operands
  rw [bigSep_sep', bigSep_sep']
  constructor
  · iintro ⟨⟨Hd, Hx⟩, Ho, Hf⟩
    isplitl [Hd]; · iexact Hd
    isplitl [Hx]; · iexact Hx
    isplitl [Ho]; · iexact Ho
    iexact Hf
  · iintro ⟨Hd, Hx, Ho, Hf⟩
    isplitl [Hd Hx]
    · isplitl [Hd]; · iexact Hd
      iexact Hx
    isplitl [Ho]; · iexact Ho
    iexact Hf

/-- What a tile takes, the results' columns as the launch left them, and what it gives back. -/
abbrev taken (d : Dev nD) (p : Fin 2 × Fin 16) : sProp 𝕄 := operands d (laid m d) (m (oLoc d)) (m (fLoc d)) p
abbrev given (d : Dev nD) (p : Fin 2 × Fin 16) : sProp 𝕄 := operands d (laid m d) (allMeans (laid m d)) (allDirs (laid m d)) p

/-- The call hands each core its tiles' operands, and each core each tile its own. -/
def P : (K (F := F)).Pay (nD := nD) (Val := Elt F) (Name := ℕ) (U := UU) where
  st := fun q d c => match q with | 0 => bigSep Finset.univ fun s : Fin 16 => taken m d (c, s)
  dn := fun q d c => match q with | 0 => bigSep Finset.univ fun s : Fin 16 => given m d (c, s)
  go := fun q d c s => match q with | 0 => taken m d (c, s)
  td := fun q d c s => match q with | 0 => given m d (c, s)
  x := fun _ _ => iprop(emp)

instance P_storable : (P (F := F) m).IsStorable where
  st q d c := match q with
    | 0 => (inferInstance : BI.Storable (upEmb : UEmb _ 𝕄) (bigSep Finset.univ fun s : Fin 16 => taken m d (c, s)))
  dn q d c := match q with
    | 0 => (inferInstance : BI.Storable (upEmb : UEmb _ 𝕄) (bigSep Finset.univ fun s : Fin 16 => given m d (c, s)))
  go q d c s := match q with
    | 0 => (inferInstance : BI.Storable (upEmb : UEmb _ 𝕄) (taken m d (c, s)))
  td q d c s := match q with
    | 0 => (inferInstance : BI.Storable (upEmb : UEmb _ 𝕄) (given m d (c, s)))

/-! ## A tile's own buffers and semaphores -/

section Own

variable (d : Dev nD) (i : grid0.Coords)

abbrev dmaCell (s : DmaSem sig) : GSem nD τ sig := (thr d i, SemLoc.dma s)

/-- A tile's semaphores, one by one. -/
theorem ownSems0_V :
    (ownSems0 (thr d i) : sProp 𝕄)
      = iprop(semVal (dmaCell d i cc0_scratch8.sem) 0 ∗ semVal (dmaCell d i cc0_scratch9.sem) 0
          ∗ semVal (dmaCell d i cc0_scoped0.sem) 0 ∗ semVal (dmaCell d i cc0_scoped1.sem) 0
          ∗ bigSep (((((ownCells (thr d i)).erase (dmaCell d i cc0_scratch8.sem)).erase (dmaCell d i cc0_scratch9.sem)).erase
              (dmaCell d i cc0_scoped0.sem)).erase (dmaCell d i cc0_scoped1.sem)) fun g => semVal g 0) := by
  have ne : ∀ s s' : DmaSem sig, s ≠ s' → dmaCell d i s ≠ dmaCell d i s' := fun s s' h e => h (SemLoc.dma.inj (Prod.mk.inj e).2)
  have own : ∀ s : DmaSem sig, (SemLoc.dma s : SemLoc sig).isScoped .scVector = true → dmaCell d i s ∈ ownCells (thr d i) :=
    fun s h => mem_ownCells.mpr ⟨rfl, h⟩
  unfold SparseCore.Cfg.ownSems0
  rw [SparseCore.bigSep_erase' (own cc0_scratch8.sem (by decide)),
    SparseCore.bigSep_erase' (Finset.mem_erase.mpr ⟨ne cc0_scratch9.sem cc0_scratch8.sem (by decide), own cc0_scratch9.sem (by decide)⟩),
    SparseCore.bigSep_erase' (Finset.mem_erase.mpr ⟨ne cc0_scoped0.sem cc0_scratch9.sem (by decide),
      Finset.mem_erase.mpr ⟨ne cc0_scoped0.sem cc0_scratch8.sem (by decide), own cc0_scoped0.sem (by decide)⟩⟩),
    SparseCore.bigSep_erase' (Finset.mem_erase.mpr ⟨ne cc0_scoped1.sem cc0_scoped0.sem (by decide),
      Finset.mem_erase.mpr ⟨ne cc0_scoped1.sem cc0_scratch9.sem (by decide),
        Finset.mem_erase.mpr ⟨ne cc0_scoped1.sem cc0_scratch8.sem (by decide), own cc0_scoped1.sem (by decide)⟩⟩⟩)]

/-- Buffers listed without repetition come out of a set that holds them all, one by one. -/
theorem take_out {J : Type} [DecidableEq J] (Φ : J → sProp 𝕄) : ∀ (l : List J) (A : Finset J), l.Nodup → (∀ b ∈ l, b ∈ A) →
    bigSep A Φ = l.foldr (fun b R => iprop(Φ b ∗ R)) (bigSep (A \ l.toFinset) Φ)
  | [], A, _, _ => by rw [List.toFinset_nil, Finset.sdiff_empty]; rfl
  | b :: l, A, hn, hA => by
    rw [SparseCore.bigSep_erase' (hA b List.mem_cons_self),
      take_out Φ l (A.erase b) (List.nodup_cons.mp hn).2 fun b' h' => Finset.mem_erase.mpr
        ⟨fun e => (List.nodup_cons.mp hn).1 (e ▸ h'), hA b' (List.mem_cons_of_mem _ h')⟩, List.foldr_cons, List.toFinset_cons,
      show A.erase b \ l.toFinset = A \ insert b l.toFinset from by
        ext j; simp only [Finset.mem_sdiff, Finset.mem_erase, Finset.mem_insert]; tauto]

abbrev scratches : List (Ref sig .scVector) :=
  [cc0_scratch0, cc0_scratch1, cc0_scratch2, cc0_scratch3, cc0_scratch4, cc0_scratch5, cc0_scratch6, cc0_scratch7]

/-- What a tile holds beside its eight scratch buffers. -/
def others : sProp 𝕄 :=
  bigSep (ownRefs (τ := τ) (Proc.scVector (cV i) (jV i)) \ (scratches.map (Proc.scVector (cV i) (jV i)).devRef).toFinset)
    fun b => iprop(∃ f, ((d, b) : Loc nD τ sig) ↦{fullShare} f)

/-- A tile's buffers, one by one. -/
theorem ownBufs_V :
    (ownBufs (thr d i) : sProp 𝕄)
      = iprop((∃ f, bufA.view.loc (thr d i) ↦{fullShare} f) ∗ (∃ f, bufB.view.loc (thr d i) ↦{fullShare} f)
          ∗ (∃ f, outPts d i f)
          ∗ (∃ f, dirM.view.loc (thr d i) ↦{fullShare} f) ∗ (∃ f, velM.view.loc (thr d i) ↦{fullShare} f)
          ∗ (∃ f, distM.view.loc (thr d i) ↦{fullShare} f) ∗ (∃ f, angM.view.loc (thr d i) ↦{fullShare} f)
          ∗ (∃ f, cntM.view.loc (thr d i) ↦{fullShare} f) ∗ others d i) := by
  unfold SparseCore.Cfg.ownBufs
  rw [take_out _ (scratches.map (Proc.scVector (cV i) (jV i)).devRef) _
    ((show scratches.Nodup by decide).map (Proc.devRef_injective _)) (by
      intro b hb
      obtain ⟨r, hr, rfl⟩ := List.mem_map.mp hb
      refine SparseCore.Cfg.mem_ownRefs_of_owner ?_
      fin_cases hr <;> rfl)]
  rfl

/-- A tile's run, from its operands and its own buffers and semaphores. -/
theorem tile_body (p : Fin 2 × Fin 16) (O : CellTallies nD τ sig (HIx 1)) (W : Waits sig (HIx 1)) (hO : ∀ g, O g none = 0) :
    iprop(levAts (K (F := F)).L (K (F := F)).lev ∗ emp ∗ taken m d p
        ∗ scopedBufs (thr d (tileOf p)) ∗ scopedSems0 (thr d (tileOf p)) ∗ owes (thr d (tileOf p)) O W)
      ⊢ wp frame (wpE (defs₀ (F := F)) 𝒱₀ (thr d (tileOf p)) none) Set.univ
          (cc0__sc_body (F := F) (tileOf p) xV (Memref.isWhole_whole _) oV (Memref.isWhole_whole _) fV (Memref.isWhole_whole _)
            bufA (Memref.isWhole_whole _) bufB (Memref.isWhole_whole _) outM (Memref.isWhole_whole _) dirM (Memref.isWhole_whole _)
            velM (Memref.isWhole_whole _) distM (Memref.isWhole_whole _) angM (Memref.isWhole_whole _) cntM (Memref.isWhole_whole _)
            cc0_scratch8 cc0_scratch9 cc0_scoped0 cc0_scoped1)
          fun _ => iprop(given m d p ∗ scopedBufs (thr d (tileOf p)) ∗ scopedSems0 (thr d (tileOf p))
            ∗ ∃ W', ⌜∀ p' ∈ W', p' ∈ W ∨ p'.2 = none⌝ ∗ owes (thr d (tileOf p)) O W') := by
  rw [(K (F := F)).scopedBufs_V facts d (cV (tileOf p)) (jV (tileOf p)), SparseCore.Cfg.scopedSems0_V (Val := Elt F) d (cV (tileOf p)) (jV (tileOf p)),
    ownSems0_V, ownBufs_V]
  unfold taken given operands
  iintro ⟨#Hlv, -, ⟨Hx, Ho, Hf⟩, ⟨⟨%f0, Ha⟩, ⟨%f1, Hb⟩, ⟨%f2, Hout⟩, ⟨%fd, Hd⟩, ⟨%fv, Hv⟩, ⟨%fs, Hs⟩, ⟨%fa, Hg⟩, ⟨%fc, Hn⟩, Hbufs⟩,
    ⟨Hsa, Hsb, Hsc, Hsd, Hsems⟩, HO⟩
  ihave Hw := (tile_run (F := F) d (tileOf p) (tok p) (laid m d) (m (oLoc d)) (m (fLoc d)) f0 f1 f2 fd fv fs fa fc O W hO) $$ [Hx Ho Hf Ha Hb Hout Hd Hv Hs Hg Hn Hsa Hsb Hsc Hsd HO]
  · isplitr; · iexact Hlv
    isplitl [Hx]; · iexact Hx
    isplitl [Ho]; · iexact Ho
    isplitl [Hf]; · iexact Hf
    isplitl [Ha]; · iexact Ha
    isplitl [Hb]; · iexact Hb
    isplitl [Hout]; · iexact Hout
    isplitl [Hd Hv Hs Hg Hn]
    · unfold five
      isplitl [Hd]; · iexact Hd
      isplitl [Hv]; · iexact Hv
      isplitl [Hs]; · iexact Hs
      isplitl [Hg]; · iexact Hg
      iexact Hn
    isplitl [Hsa]; · iexact Hsa
    isplitl [Hsb]; · iexact Hsb
    isplitl [Hsc]; · iexact Hsc
    isplitl [Hsd]; · iexact Hsd
    iexact HO
  iapply (wp_wand frame _ _) $$ Hw
  unfold five
  iintro %u ⟨Hx, Ho, Hf, Ha, Hb, Hout, ⟨%fd, %fv, %fs, %fa, %fc, Hd, Hv, Hs, Hg, Hn⟩, Hsa, Hsb, Hsc, Hsd, HO⟩
  isplitl [Hx Ho Hf]
  · isplitl [Hx]; · iexact Hx
    isplitl [Ho]; · iexact Ho
    iexact Hf
  isplitl [Ha Hb Hout Hd Hv Hs Hg Hn Hbufs]
  · isplitl [Ha]; · iexact Ha
    isplitl [Hb]; · iexact Hb
    isplitl [Hout]; · iexact Hout
    isplitl [Hd]; · iexists _; iexact Hd
    isplitl [Hv]; · iexists _; iexact Hv
    isplitl [Hs]; · iexists _; iexact Hs
    isplitl [Hg]; · iexists _; iexact Hg
    isplitl [Hn]; · iexists _; iexact Hn
    iexact Hbufs
  isplitl [Hsa Hsb Hsc Hsd Hsems]
  · isplitl [Hsa]; · iexact Hsa
    isplitl [Hsb]; · iexact Hsb
    isplitl [Hsc]; · iexact Hsc
    isplitl [Hsd]; · iexact Hsd
    iexact Hsems
  iexact HO

end Own

/-! ## What the launch asks of the call -/

/-- What a tile runs. -/
theorem defs₀_vector (c : Fin τ.nSC) (s : Fin τ.nSub) :
    defs₀ (F := F) (.scVector c s) 0 ()
      = SparseCore.onTile hcore0 hsub0 (fun c s => cc0__sc_body (F := F) (coordsV c s)
          xV (Memref.isWhole_whole _) oV (Memref.isWhole_whole _) fV (Memref.isWhole_whole _)
            bufA (Memref.isWhole_whole _) bufB (Memref.isWhole_whole _) outM (Memref.isWhole_whole _) dirM (Memref.isWhole_whole _)
            velM (Memref.isWhole_whole _) distM (Memref.isWhole_whole _) angM (Memref.isWhole_whole _) cntM (Memref.isWhole_whole _)
            cc0_scratch8 cc0_scratch9 cc0_scoped0 cc0_scoped1) ⟨⟩ c s := rfl

/-- A tile's end, as the launch asks for it. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile does its task. -/
theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body m d (c, s) O W hO).trans (wp_mono frame _ _ fun _ => obl_post)

/-- What the call takes and gives back, split among the tiles. -/
theorem vecSplit : (K (F := F)).VecSplit' (P m) 0 := by
  intro d c
  show (bigSep Finset.univ fun s : Fin 16 => taken m d (c, s)) ⊢ |={Set.univ}=> iprop((bigSep Finset.univ fun s : Fin 16 => taken m d (c, s))
    ∗ ((bigSep Finset.univ fun s : Fin 16 => given m d (c, s)) -∗ bigSep Finset.univ fun s : Fin 16 => given m d (c, s)))
  iintro H; imodintro
  isplitl [H]; · iexact H
  iintro H; iexact H

def u₀ : UU := (initOf (K (F := F)).hsCells (K (F := F)).hsToks, 1)

/-- Nothing, as often as one likes, is nothing. -/
theorem bigSep_emp' {I : Type} (s : Finset I) : (bigSep s fun _ => iprop(emp)) = (iprop(emp) : sProp 𝕄) := bigSep_emp_const s

/-- The launch's first state. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's part -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev o' : DevRef τ sig := Proc.devRef .tc (main_v1_0 : Ref sig .tc)
abbrev f' : DevRef τ sig := Proc.devRef .tc (main_v1_1 : Ref sig .tc)
abbrev r' : DevRef τ sig := Proc.devRef .tc (main_v2 : Ref sig .tc)
abbrev s' : DevRef τ sig := Proc.devRef .tc (main_v3 : Ref sig .tc)

abbrev op0 : HloOp τ sig (Elt F) :=
  StableHlo.unary main_arg1 main_v0 ((transpose S64x8x2x4096 [1, 2, 3, 0] · transposes_S4096x64x8x2_S64x8x2x4096_1_2_3_0) : (⟨S4096x64x8x2, .f32⟩ : BufTy).Contents (Elt F) → (⟨S64x8x2x4096, .f32⟩ : BufTy).Contents (Elt F))
abbrev op1 : HloOp τ sig (Elt F) :=
  StableHlo.unary main_v1_0 main_v2 ((transpose S4096x8x3 [2, 1, 0] · transposes_S3x8x4096_S4096x8x3_2_1_0) : (⟨S3x8x4096, .f32⟩ : BufTy).Contents (Elt F) → (⟨S4096x8x3, .f32⟩ : BufTy).Contents (Elt F))
abbrev op2 : HloOp τ sig (Elt F) :=
  StableHlo.unary main_v1_1 main_v3 ((transpose S4096x64 [1, 0] · transposes_S64x4096_S4096x64_1_0) : (⟨S64x4096, .f32⟩ : BufTy).Contents (Elt F) → (⟨S4096x64, .f32⟩ : BufTy).Contents (Elt F))

/-- The host's arrays. -/
abbrev S7 : Finset (DevRef τ sig) := {a0', a1', x', o', f', r', s'}

/-- The seven arrays, one by one. -/
theorem held_S7 (d : Dev nD) (W : Valuation τ sig (Elt F)) :
    (held (SparseCore.T d) S7 W : sProp 𝕄) = iprop(((SparseCore.T d).loc main_arg0 ↦{fullShare} W a0') ∗ ((SparseCore.T d).loc main_arg1 ↦{fullShare} W a1') ∗ (xLoc d ↦{fullShare} W x')
      ∗ (oLoc d ↦{fullShare} W o') ∗ (fLoc d ↦{fullShare} W f') ∗ ((SparseCore.T d).loc main_v2 ↦{fullShare} W r') ∗ (SparseCore.T d).loc main_v3 ↦{fullShare} W s') := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The arrays outside the call, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ (xLoc d ↦{fullShare} W main_v0)
      ∗ (oLoc d ↦{fullShare} W main_v1_0) ∗ (fLoc d ↦{fullShare} W main_v1_1) ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The arrays at the launch; after the call; at the end. -/
def V0 (d : Dev nD) : Valuation τ sig (Elt F) := fun b => m (d, b)
def V1 (d : Dev nD) : Valuation τ sig (Elt F) :=
  Function.update (Function.update ((op0 (F := F)).result (V0 m d)) o' (allMeans (laid m d))) f' (allDirs (laid m d))

/-- They are held from the start. -/
theorem unscoped_held (d : Dev nD) : (unscopedBufs d (fun b => m ((SparseCore.T d).loc b)) : sProp 𝕄) = held (SparseCore.T d) S7 (V0 m d) := by
  rw [unscopedBufs_eq, held_S7]; rfl

/-- The two results. -/
def outR (d : Dev nD) : Vec F S4096x8x3 .f32 := transpose S4096x8x3 [2, 1, 0] (allMeans (laid m d)) transposes_S3x8x4096_S4096x8x3_2_1_0
def outS (d : Dev nD) : Vec F S4096x64 .f32 := transpose S4096x64 [1, 0] (allDirs (laid m d)) transposes_S64x4096_S4096x64_1_0

/-- Different arrays stay different as the device names them. -/
theorem ne_of_ref {r r₁ : Ref sig .tc} (h : r ≠ r₁) : (Proc.devRef .tc r : DevRef τ sig) ≠ Proc.devRef .tc r₁ := fun e => h (Proc.devRef_injective _ e)

/-- A transposition leaves every array but its result. -/
theorem op0_keeps (W : Valuation τ sig (Elt F)) {r : Ref sig .tc} (h : r ≠ main_v0) : (op0 (F := F)).result W (Proc.devRef .tc r) = W (Proc.devRef .tc r) :=
  StableHlo.unary_result_ne _ _ _ _ _ _ h
theorem op1_keeps (W : Valuation τ sig (Elt F)) {r : Ref sig .tc} (h : r ≠ main_v2) : (op1 (F := F)).result W (Proc.devRef .tc r) = W (Proc.devRef .tc r) :=
  StableHlo.unary_result_ne _ _ _ _ _ _ h
theorem op2_keeps (W : Valuation τ sig (Elt F)) {r : Ref sig .tc} (h : r ≠ main_v3) : (op2 (F := F)).result W (Proc.devRef .tc r) = W (Proc.devRef .tc r) :=
  StableHlo.unary_result_ne _ _ _ _ _ _ h

/-- The arrays once the neighbours are laid out. -/
theorem held_laid (d : Dev nD) :
    (held (SparseCore.T d) S7 ((op0 (F := F)).result (V0 m d)) : sProp 𝕄) = iprop(((SparseCore.T d).loc main_arg0 ↦{fullShare} m ((SparseCore.T d).loc main_arg0)) ∗ ((SparseCore.T d).loc main_arg1 ↦{fullShare} m ((SparseCore.T d).loc main_arg1))
      ∗ (xLoc d ↦{fullShare} laid m d) ∗ (oLoc d ↦{fullShare} m (oLoc d)) ∗ (fLoc d ↦{fullShare} m (fLoc d))
      ∗ ((SparseCore.T d).loc main_v2 ↦{fullShare} m ((SparseCore.T d).loc main_v2)) ∗ (SparseCore.T d).loc main_v3 ↦{fullShare} m ((SparseCore.T d).loc main_v3)) := by
  rw [held_S7, op0_keeps _ (r := main_arg0) (by decide), op0_keeps _ (r := main_arg1) (by decide), op0_keeps _ (r := main_v1_0) (by decide),
    op0_keeps _ (r := main_v1_1) (by decide), op0_keeps _ (r := main_v2) (by decide), op0_keeps _ (r := main_v3) (by decide),
    show (op0 (F := F)).result (V0 m d) x' = laid m d from StableHlo.unary_result ..]
  rfl

/-- The arrays once the tiles are done. -/
theorem held_called (d : Dev nD) :
    (held (SparseCore.T d) S7 (V1 m d) : sProp 𝕄) = iprop(((SparseCore.T d).loc main_arg0 ↦{fullShare} m ((SparseCore.T d).loc main_arg0)) ∗ ((SparseCore.T d).loc main_arg1 ↦{fullShare} m ((SparseCore.T d).loc main_arg1))
      ∗ (xLoc d ↦{fullShare} laid m d) ∗ (oLoc d ↦{fullShare} allMeans (laid m d)) ∗ (fLoc d ↦{fullShare} allDirs (laid m d))
      ∗ ((SparseCore.T d).loc main_v2 ↦{fullShare} m ((SparseCore.T d).loc main_v2)) ∗ (SparseCore.T d).loc main_v3 ↦{fullShare} m ((SparseCore.T d).loc main_v3)) := by
  have keep : ∀ {r : Ref sig .tc}, r ≠ main_v1_0 → r ≠ main_v1_1 → V1 m d (Proc.devRef .tc r) = (op0 (F := F)).result (V0 m d) (Proc.devRef .tc r) :=
    fun h h' => (Function.update_of_ne (ne_of_ref h') _ _).trans (Function.update_of_ne (ne_of_ref h) _ _)
  rw [held_S7, keep (r := main_arg0) (by decide) (by decide), keep (r := main_arg1) (by decide) (by decide), keep (r := main_v0) (by decide) (by decide),
    keep (r := main_v2) (by decide) (by decide), keep (r := main_v3) (by decide) (by decide),
    op0_keeps _ (r := main_arg0) (by decide), op0_keeps _ (r := main_arg1) (by decide), op0_keeps _ (r := main_v2) (by decide), op0_keeps _ (r := main_v3) (by decide),
    show (op0 (F := F)).result (V0 m d) x' = laid m d from StableHlo.unary_result ..,
    show V1 m d f' = allDirs (laid m d) from Function.update_self _ _ _,
    show V1 m d o' = allMeans (laid m d) from (Function.update_of_ne (ne_of_ref (show (main_v1_0 : Ref sig .tc) ≠ main_v1_1 by decide)) _ _).trans (Function.update_self _ _ _)]
  rfl

/-- What the host leaves: the arguments as they were and the two results. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v2 ↦{fullShare} outR m d) ∗ (SparseCore.T d).loc main_v3 ↦{fullShare} outS m d)

/-- What is held at the end. -/
theorem held_end (d : Dev nD) :
    (held (SparseCore.T d) S7 ((op2 (F := F)).result ((op1 (F := F)).result (V1 m d))) : sProp 𝕄) ⊢ FIN m d := by
  have keep : ∀ {r : Ref sig .tc}, r ≠ main_v1_0 → r ≠ main_v1_1 → V1 m d (Proc.devRef .tc r) = (op0 (F := F)).result (V0 m d) (Proc.devRef .tc r) :=
    fun h h' => (Function.update_of_ne (ne_of_ref h') _ _).trans (Function.update_of_ne (ne_of_ref h) _ _)
  have e0 : V1 m d f' = allDirs (laid m d) := Function.update_self _ _ _
  have e1 : V1 m d o' = allMeans (laid m d) :=
    (Function.update_of_ne (ne_of_ref (show (main_v1_0 : Ref sig .tc) ≠ main_v1_1 by decide)) _ _).trans (Function.update_self _ _ _)
  have er : (op1 (F := F)).result (V1 m d) r' = outR m d := (StableHlo.unary_result ..).trans (by rw [e1]; rfl)
  have es : (op2 (F := F)).result ((op1 (F := F)).result (V1 m d)) s' = outS m d :=
    (StableHlo.unary_result ..).trans (by rw [op1_keeps _ (r := main_v1_1) (by decide), e0]; rfl)
  rw [held_S7, es, op2_keeps _ (r := main_arg0) (by decide), op2_keeps _ (r := main_arg1) (by decide), op2_keeps _ (r := main_v2) (by decide), er,
    op1_keeps _ (r := main_arg0) (by decide), op1_keeps _ (r := main_arg1) (by decide), keep (r := main_arg0) (by decide) (by decide),
    keep (r := main_arg1) (by decide) (by decide), op0_keeps _ (r := main_arg0) (by decide), op0_keeps _ (r := main_arg1) (by decide)]
  unfold FIN
  iintro ⟨H0, H1, -, -, -, H2, H3⟩
  isplitl [H0]; · iexact H0
  isplitl [H1]; · iexact H1
  isplitl [H2]; · iexact H2
  iexact H3

/-- The first transposition touches the seven arrays alone. -/
theorem h0 : (op0 (F := F)).bufs ⊆ S7 := by
  rw [StableHlo.unary_bufs]; decide
theorem h1 : (op1 (F := F)).bufs ⊆ S7 := by
  rw [StableHlo.unary_bufs]; decide
theorem h2 : (op2 (F := F)).bufs ⊆ S7 := by
  rw [StableHlo.unary_bufs]; decide

/-- The host's part of a run: the neighbours laid out, the call, the two results turned. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S7) h0 (V := V0 m d)) $$ [Hb Hheld]
  · isplitl [Hb]; · iexact Hb
    iexact Hheld
  iintro ⟨Hb, Hheld⟩
  rw [wp_ret]; imodintro
  ihave Hh := (Entails.of_eq (held_laid m d)) $$ Hheld
  icases Hh with ⟨H0, H1, Hx, Ho, Hf, H2, H3⟩
  ihave Hd := (deal (F := F) d _ _ _).1 $$ [Hx Ho Hf]
  · isplitl [Hx]; · iexact Hx
    isplitl [Ho]; · iexact Ho
    iexact Hf
  icases Hd with ⟨Hkept, Hd⟩
  iapply ((K (F := F)).wp_run (D (F := F)) 𝒱 (EH := EH) (P := P m) κ d 0) $$ [Hst Hd Hkept H0 H1 H2 H3 Hb Hts]
  isplitr; · iexact Hctx
  isplitl [Hst]; · iexact Hst
  isplitl [Hd]; · iexact Hd
  iintro ⟨Hst, Hdn⟩
  ihave Hj := (deal (F := F) d (laid m d) (allMeans (laid m d)) (allDirs (laid m d))).2 $$ [Hkept Hdn]
  · isplitl [Hkept]; · iexact Hkept
    iexact Hdn
  icases Hj with ⟨Hx, Ho, Hf⟩
  iapply (wp_hlo_within 𝒱 (SparseCore.T d) none Set.univ (op := op1) (S := S7) h1 (V := V1 m d)) $$ [Hb H0 H1 Hx Ho Hf H2 H3]
  · isplitl [Hb]; · iexact Hb
    rw [held_called]
    isplitl [H0]; · iexact H0
    isplitl [H1]; · iexact H1
    isplitl [Hx]; · iexact Hx
    isplitl [Ho]; · iexact Ho
    isplitl [Hf]; · iexact Hf
    isplitl [H2]; · iexact H2
    iexact H3
  iintro ⟨Hb, Hheld⟩
  rw [wp_ret]; imodintro
  iapply (wp_hlo_within 𝒱 (SparseCore.T d) none Set.univ (op := op2) (S := S7) h2 (V := (op1 (F := F)).result (V1 m d))) $$ [Hb Hheld]
  · isplitl [Hb]; · iexact Hb
    iexact Hheld
  iintro ⟨Hb, Hheld⟩
  rw [wp_ret]; imodintro; imodintro
  isplitl [Hst]; · iexact Hst
  isplitr [Hb Hts]
  · iapply (held_end m d); iexact Hheld
  isplitl [Hb] <;> iassumption

def fq (d : Dev nD) (t : Phys nD τ sig (Elt F)) : Prop :=
  t.mem.mem ((SparseCore.T d).loc main_arg0) = m ((SparseCore.T d).loc main_arg0) ∧ t.mem.mem ((SparseCore.T d).loc main_arg1) = m ((SparseCore.T d).loc main_arg1)
    ∧ t.mem.mem ((SparseCore.T d).loc main_v2) = outR m d ∧ t.mem.mem ((SparseCore.T d).loc main_v3) = outS m d

/-- An array held whole is what the memory holds. -/
theorem agree (t : Phys nD τ sig (Elt F)) (ℓ : Loc nD τ sig) (f : Buf (Elt F) ℓ) :
    iprop(SI t ∗ (ℓ ↦{fullShare} f)) ⊢ (iprop(⌜t.mem.mem ℓ = f⌝ ∗ SI t) : sProp 𝕄) := by
  iintro ⟨HSI, H⟩
  ihave H := (persistent_entails_right (SI_pointsTo_agree (st := t) (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

/-- What is held at the end says what the memory holds. -/
theorem hfin (d : Dev nD) (t : Phys nD τ sig (Elt F)) : iprop(FIN m d ∗ SI t) ⊢ (⌜fq m d t⌝ : sProp 𝕄) := by
  unfold FIN
  iintro ⟨⟨H0, H1, H2, H3⟩, HSI⟩
  ihave H := (agree (F := F) t _ _) $$ [HSI H0]
  · isplitl [HSI] <;> iassumption
  icases H with ⟨%e0, HSI⟩
  ihave H := (agree (F := F) t _ _) $$ [HSI H1]
  · isplitl [HSI] <;> iassumption
  icases H with ⟨%e1, HSI⟩
  ihave H := (agree (F := F) t _ _) $$ [HSI H2]
  · isplitl [HSI] <;> iassumption
  icases H with ⟨%e2, HSI⟩
  ihave H := (agree (F := F) t _ _) $$ [HSI H3]
  · isplitl [HSI] <;> iassumption
  icases H with ⟨%e3, -⟩
  ipureintro; exact ⟨e0, e1, e2, e3⟩

/-- What every run ends with: the arguments as they were, the two results, every semaphore at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_v2) = outR m d ∧ r.2.mem ((SparseCore.T d).loc main_v3) = outS m d) ∧ r.2.sem = fun _ => 0

/-- Every run of the program. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sector

end
-- ==== Proof.Frames.lean ====
/-
  The frames: the run of the idealized program, over any floats, is the run of the program with its constants by their bits.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_finite

@[expose] public section

noncomputable section

namespace Cert.Proof.Sector

open Idealize.ShloMosaic Idealize.SL.Sem

/-- At the bits, a named constant is the constant its bits name. -/
local instance namedBits : Named Bits := ⟨fun _ _ {φ} bits => Scalar.ofBits φ bits⟩

/-- The program as printed runs, its arguments end as they were, every semaphore at zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- So does the idealized program, over the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference runs and leaves its arguments as they were; it declares no semaphore. -/
theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- So it does from finite coordinates. -/
theorem frame_ideal_pre : Cert.quiescent_KernelIdeal_pre_finite := fun m ρ _ => frame_ideal m ρ trivial

/-- So does the reference. -/
theorem frame_reference_pre : Cert.quiescent_ReferenceIdeal_pre_finite := fun m ρ _ => frame_reference m ρ trivial

/-- Each named constant is, at the bits, the word it is printed as, and over the extended reals its named value. -/
theorem preserves : Cert.preserves_Kernel_KernelIdeal :=
  ⟨IdealRules.named_const.statement Cert.KernelIdeal.κ "quarter_pi" .f32 0x3F490FDB#32 (((1 / 4) * Real.pi : ℝ) : EReal) rfl,
    IdealRules.named_const.statement Cert.KernelIdeal.κ "half_pi" .f32 0x3FC90FDB#32 (((1 / 2) * Real.pi : ℝ) : EReal) rfl,
    IdealRules.named_const.statement Cert.KernelIdeal.κ "pi" .f32 0x40490FDB#32 ((Real.pi : ℝ) : EReal) rfl,
    IdealRules.named_const.statement Cert.KernelIdeal.κ "two_pi" .f32 0x40C90FDB#32 ((2 * Real.pi : ℝ) : EReal) rfl,
    IdealRules.named_const.statement Cert.KernelIdeal.κ "inv_bin" .f32 0x3FA2F983#32 ((4 * Real.pi⁻¹ : ℝ) : EReal) rfl⟩

end Cert.Proof.Sector

end
-- ==== Proof.Angle.lean ====
/-
  Angles over the reals. The kernel takes a neighbour's direction by a short power series of the arctangent, which is
  not the angle; yet the eighth of the circle in which it falls is the eighth in which the angle falls, because the
  series is exact on the axes and the diagonals and stays strictly between them elsewhere. This module says so.
-/
module

public import Mathlib.Analysis.SpecialFunctions.Trigonometric.Arctan

@[expose] public section

noncomputable section

namespace Cert.Proof.Sector.Angle

open Real

/-! ## The series -/

/-- What the series changes its argument by, relative to it, as a function of the argument's square. -/
def slope (u : ℝ) : ℝ :=
  u * (-(11184811 / 33554432) + u * (13421773 / 67108864 + u * (-(9586981 / 67108864)
    + u * (14913081 / 134217728 + u * (-(3050403 / 33554432))))))

/-- The arctangent's series, its coefficients the words that the programs print. -/
def series (w : ℝ) : ℝ := w + w * slope (w * w)

/-- The series of zero. -/
theorem series_zero : series 0 = 0 := by simp [series]

/-- A product with a small number is no larger than a fifth. -/
theorem small_mul {u a : ℝ} (h0 : 0 ≤ u) (h1 : u ≤ 1 / 5) (ha : 0 ≤ a) : 0 ≤ u * a ∧ u * a ≤ a / 5 :=
  ⟨mul_nonneg h0 ha, by have := mul_le_mul_of_nonneg_right h1 ha; linarith⟩

/-- The relative change is small and never upwards. -/
theorem slope_bounds {u : ℝ} (h0 : 0 ≤ u) (h1 : u ≤ 1 / 5) : -(1 / 2) < slope u ∧ slope u ≤ 0 := by
  obtain ⟨e0, e1⟩ := small_mul h0 h1 (a := 3050403 / 33554432) (by norm_num)
  obtain ⟨d0, d1⟩ := small_mul h0 h1 (a := 14913081 / 134217728 + u * (-(3050403 / 33554432))) (by linarith)
  obtain ⟨c0, c1⟩ := small_mul h0 h1
    (a := -(-(9586981 / 67108864) + u * (14913081 / 134217728 + u * (-(3050403 / 33554432))))) (by linarith)
  obtain ⟨b0, b1⟩ := small_mul h0 h1
    (a := 13421773 / 67108864 + u * (-(9586981 / 67108864) + u * (14913081 / 134217728 + u * (-(3050403 / 33554432)))))
    (by linarith)
  obtain ⟨a0, a1⟩ := small_mul h0 h1
    (a := -(-(11184811 / 33554432) + u * (13421773 / 67108864 + u * (-(9586981 / 67108864)
      + u * (14913081 / 134217728 + u * (-(3050403 / 33554432))))))) (by linarith)
  unfold slope
  constructor <;> linarith

/-- The series of a small positive number is positive and no larger. -/
theorem series_pos {w : ℝ} (h0 : 0 < w) (h1 : w ≤ 4143 / 10000) : 0 < series w ∧ series w ≤ 4143 / 10000 := by
  have hu : w * w ≤ 1 / 5 := by nlinarith
  obtain ⟨s0, s1⟩ := slope_bounds (mul_nonneg h0.le h0.le) hu
  unfold series
  constructor <;> nlinarith

/-- The series is odd. -/
theorem series_neg (w : ℝ) : series (-w) = -series w := by simp [series]; ring

/-! ## One octant -/

/-- The tangent of an eighth of a half turn, as the programs print it. -/
def tan8 : ℝ := 13898701 / 33554432

/-- The smallest divisor that the programs allow. -/
def tiny : ℝ := 4460149 / 44601490397061246283071436545296723011960832

/-- The smallest divisor is positive. -/
theorem tiny_pos : 0 < tiny := by unfold tiny; norm_num

/-- The angle of the octant with the shorter coordinate `s` and the longer `l`, by the series. -/
def oct (s l : ℝ) : ℝ :=
  if tan8 * l < s then π / 4 + series ((s - l) / max (s + l) tiny) else series (s / max l tiny)

/-- On the axis the octant's angle is zero. -/
theorem oct_zero {l : ℝ} (hl : 0 ≤ l) : oct 0 l = 0 := by
  have : ¬ tan8 * l < 0 := not_lt.2 (mul_nonneg (by unfold tan8; norm_num) hl)
  simp [oct, this, series_zero]

/-- On the diagonal it is an eighth of a turn. -/
theorem oct_diag {l : ℝ} (hl : 0 < l) : oct l l = π / 4 := by
  have : tan8 * l < l := by unfold tan8; linarith
  simp [oct, this, series_zero]

/-- Between them it lies strictly between. -/
theorem oct_between {s l : ℝ} (hs : 0 < s) (hl : s < l) : 0 < oct s l ∧ oct s l < π / 4 := by
  have hpi : (2 : ℝ) ≤ π := two_le_pi
  have hl0 : 0 < l := hs.trans hl
  unfold oct
  split
  case isTrue h =>
    have hD : 0 < max (s + l) tiny := lt_max_of_lt_right tiny_pos
    have hw : (s - l) / max (s + l) tiny = -((l - s) / max (s + l) tiny) := by rw [← neg_div]; ring_nf
    obtain ⟨p0, p1⟩ := series_pos (w := (l - s) / max (s + l) tiny) (div_pos (by linarith) hD) (by
      rw [div_le_iff₀ hD]
      have hm : s + l ≤ max (s + l) tiny := le_max_left _ _
      have : l - s ≤ 4143 / 10000 * (s + l) := by unfold tan8 at h; linarith
      nlinarith)
    rw [hw, series_neg]
    constructor <;> linarith
  case isFalse h =>
    have hD : 0 < max l tiny := lt_max_of_lt_right tiny_pos
    obtain ⟨p0, p1⟩ := series_pos (w := s / max l tiny) (div_pos hs hD) (by
      rw [div_le_iff₀ hD]
      have hm : l ≤ max l tiny := le_max_left _ _
      have : s ≤ tan8 * l := not_lt.1 h
      unfold tan8 at this
      nlinarith)
    exact ⟨p0, by linarith⟩

/-! ## One quadrant, from the coordinates' sizes `a` (across) and `b` (along) -/

/-- The angle of the quadrant by the series. -/
def quadS (a b : ℝ) : ℝ := if b < a then π / 2 - oct (min a b) (max a b) else oct (min a b) (max a b)

/-- The angle of the quadrant. -/
def quadT (a b : ℝ) : ℝ := if b = 0 then (if a = 0 then 0 else π / 2) else arctan (a / b)

/-- Two numbers that lie in one unit interval, or are one integer. -/
def Same (p q : ℝ) : Prop := ⌊p⌋ = ⌊q⌋ ∧ ⌈p⌉ = ⌈q⌉

/-- Two numbers strictly within one unit interval. -/
theorem Same.of_between {p q : ℝ} (n : ℤ) (hp : n < p ∧ p < n + 1) (hq : n < q ∧ q < n + 1) : Same p q := by
  constructor
  · rw [Int.floor_eq_iff.2 ⟨hp.1.le, hp.2⟩, Int.floor_eq_iff.2 ⟨hq.1.le, hq.2⟩]
  · have hc (r : ℝ) (h : n < r ∧ r < n + 1) : ⌈r⌉ = n + 1 :=
      Int.ceil_eq_iff.2 ⟨by push_cast; linarith [h.1], by push_cast; exact h.2.le⟩
    rw [hc p hp, hc q hq]

/-- Equal numbers. -/
theorem Same.of_eq {p q : ℝ} (h : p = q) : Same p q := h ▸ ⟨rfl, rfl⟩

/-- An integer less each of them. -/
theorem Same.sub {p q : ℝ} (h : Same p q) (n : ℤ) : Same (n - p) (n - q) := by
  have hf (r : ℝ) : ⌊(n : ℝ) - r⌋ = n - ⌈r⌉ := by rw [sub_eq_add_neg, Int.floor_intCast_add, Int.floor_neg]; ring
  have hc (r : ℝ) : ⌈(n : ℝ) - r⌉ = n - ⌊r⌋ := by rw [sub_eq_add_neg, Int.ceil_intCast_add, Int.ceil_neg]; ring
  exact ⟨by rw [hf, hf, h.2], by rw [hc, hc, h.1]⟩

/-- How many eighths of the circle an angle is. -/
def eighths (t : ℝ) : ℝ := t * (4 * π⁻¹)

/-- Fewer eighths than a number. -/
theorem eighths_lt {t : ℝ} {n : ℝ} : eighths t < n ↔ t < n * (π / 4) := by
  have := pi_pos
  rw [eighths, show t * (4 * π⁻¹) = t / (π / 4) by field_simp, div_lt_iff₀ (by positivity)]

/-- More eighths than a number. -/
theorem lt_eighths {t : ℝ} {n : ℝ} : n < eighths t ↔ n * (π / 4) < t := by
  have := pi_pos
  rw [eighths, show t * (4 * π⁻¹) = t / (π / 4) by field_simp, lt_div_iff₀ (by positivity)]

/-- The eighths of a difference from a border. -/
theorem eighths_sub (n : ℤ) (t : ℝ) : eighths (n * (π / 4) - t) = n - eighths t := by
  have := pi_ne_zero
  unfold eighths; field_simp

/-- Within a quadrant the series' eighth is the angle's. -/
theorem same_quad {a b : ℝ} (ha : 0 ≤ a) (hb : 0 ≤ b) : Same (eighths (quadS a b)) (eighths (quadT a b)) := by
  have hpi := pi_pos
  rcases lt_trichotomy a b with h | h | h
  · have hb0 : b ≠ 0 := by linarith
    rw [quadS, if_neg (by linarith), min_eq_left h.le, max_eq_right h.le, quadT, if_neg hb0]
    rcases ha.eq_or_lt with rfl | ha
    · rw [oct_zero hb]; exact .of_eq (by simp)
    · obtain ⟨o0, o1⟩ := oct_between ha h
      have t0 : 0 < arctan (a / b) := arctan_pos.2 (div_pos ha (ha.trans h))
      have t1 : arctan (a / b) < π / 4 := by
        rw [← arctan_one]; exact arctan_strictMono ((div_lt_one (ha.trans h)).2 h)
      refine .of_between 0 ?_ ?_ <;> rw [lt_eighths, eighths_lt] <;> push_cast <;> constructor <;> linarith
  · subst h
    rw [quadS, if_neg (lt_irrefl _), min_self, max_self, quadT]
    rcases ha.eq_or_lt with rfl | ha
    · rw [oct_zero le_rfl]; exact .of_eq (by simp)
    · rw [oct_diag ha, if_neg ha.ne', div_self ha.ne', arctan_one]; exact .of_eq rfl
  · have ha0 : 0 < a := by linarith
    rw [quadS, if_pos h, min_eq_right h.le, max_eq_left h.le, quadT]
    rcases hb.eq_or_lt with rfl | hb
    · rw [oct_zero ha, if_pos rfl, if_neg ha0.ne']; exact .of_eq (by simp)
    · obtain ⟨o0, o1⟩ := oct_between hb h
      have t0 : π / 4 < arctan (a / b) := by
        rw [← arctan_one]; exact arctan_strictMono ((one_lt_div hb).2 h)
      have t1 : arctan (a / b) < π / 2 := arctan_lt_pi_div_two _
      rw [if_neg hb.ne']
      refine .of_between 1 ?_ ?_ <;> rw [lt_eighths, eighths_lt] <;> push_cast <;> constructor <;> linarith

/-- A quadrant's angle is at most a quarter turn. -/
theorem quadT_bounds {a b : ℝ} (ha : 0 ≤ a) (hb : 0 ≤ b) : 0 ≤ quadT a b ∧ quadT a b ≤ π / 2 := by
  have hpi := pi_pos
  unfold quadT
  split
  · split <;> constructor <;> linarith
  · exact ⟨arctan_nonneg.2 (div_nonneg ha hb), (arctan_lt_pi_div_two _).le⟩

/-- It is positive off the axis. -/
theorem quadT_pos {a b : ℝ} (ha : 0 < a) (hb : 0 ≤ b) : 0 < quadT a b := by
  have hpi := pi_pos
  unfold quadT
  split
  · rw [if_neg ha.ne']; linarith
  · rename_i h; exact arctan_pos.2 (div_pos ha (lt_of_le_of_ne hb (Ne.symm h)))

/-! ## The whole circle -/

/-- From a quadrant's angle, by the signs of the coordinates. -/
def whole (x y q : ℝ) : ℝ := if x < 0 then 2 * π - (if y < 0 then π - q else q) else if y < 0 then π - q else q

/-- The direction of `(x, y)` from the y axis by the series. -/
def dirS (x y : ℝ) : ℝ := whole x y (quadS |x| |y|)

/-- The angle that the two-argument arctangent gives, in `(-π, π]`. -/
def atan2 (x y : ℝ) : ℝ :=
  if 0 < y then arctan (x / y)
  else if y < 0 then (if 0 ≤ x then arctan (x / y) + π else arctan (x / y) - π)
  else if 0 < x then π / 2 else if x < 0 then -(π / 2) else 0

/-- The angle of `(x, y)` from the y axis, in `[0, 2π)`. -/
def dirT (x y : ℝ) : ℝ := if atan2 x y < 0 then atan2 x y + 2 * π else atan2 x y

/-- The two-argument arctangent's range. -/
theorem atan2_bounds (x y : ℝ) : -π < atan2 x y ∧ atan2 x y ≤ π := by
  have hpi := pi_pos
  have h1 := arctan_lt_pi_div_two (x / y)
  have h2 := neg_pi_div_two_lt_arctan (x / y)
  unfold atan2
  split
  · constructor <;> linarith
  · split
    · split
      · rename_i hy hx
        have : arctan (x / y) ≤ 0 := by
          rw [← arctan_zero]; exact arctan_strictMono.monotone (div_nonpos_of_nonneg_of_nonpos hx hy.le)
        constructor <;> linarith
      · rename_i hy hx
        have : 0 < arctan (x / y) := arctan_pos.2 (div_pos_of_neg_of_neg (not_le.1 hx) hy)
        constructor <;> linarith
    · split
      · constructor <;> linarith
      · split <;> constructor <;> linarith

/-- The angle is its quadrant's, taken to the whole circle by the signs. -/
theorem dirT_eq (x y : ℝ) : dirT x y = whole x y (quadT |x| |y|) := by
  have hpi := pi_pos
  have h1 := arctan_lt_pi_div_two (x / y)
  have h2 := neg_pi_div_two_lt_arctan (x / y)
  unfold dirT atan2 whole quadT
  rcases lt_trichotomy y 0 with hy | hy | hy
  · have hy0 : |y| ≠ 0 := abs_ne_zero.2 hy.ne
    simp only [not_lt.2 hy.le, hy, if_true, if_false, hy0]
    rcases lt_or_ge x 0 with hx | hx
    · have hd : |x| / |y| = x / y := by rw [abs_of_neg hx, abs_of_neg hy, neg_div_neg_eq]
      have : arctan (x / y) - π < 0 := by linarith
      simp only [not_le.2 hx, hx, if_true, if_false, this, hd]
      ring
    · have hd : |x| / |y| = -(x / y) := by rw [abs_of_nonneg hx, abs_of_neg hy, div_neg]
      have : ¬ arctan (x / y) + π < 0 := by linarith
      simp only [hx, not_lt.2 hx, if_true, if_false, this, hd, arctan_neg]
      ring
  · subst hy
    simp only [lt_irrefl, if_false, abs_zero, if_true, abs_eq_zero]
    rcases lt_trichotomy x 0 with hx | hx | hx
    · have : -(π / 2) < 0 := by linarith
      simp only [not_lt.2 hx.le, hx, hx.ne, if_true, if_false, this]
      ring
    · subst hx; simp
    · have : ¬ π / 2 < 0 := by linarith
      simp only [hx, not_lt.2 hx.le, hx.ne', if_true, if_false, this]
  · have hy0 : |y| ≠ 0 := abs_ne_zero.2 hy.ne'
    simp only [not_lt.2 hy.le, hy, if_true, if_false, hy0]
    rcases lt_or_ge x 0 with hx | hx
    · have hd : |x| / |y| = -(x / y) := by rw [abs_of_neg hx, abs_of_pos hy, neg_div]
      have : arctan (x / y) < 0 := arctan_lt_zero.2 (div_neg_of_neg_of_pos hx hy)
      simp only [hx, if_true, this, hd, arctan_neg]
      ring
    · have hd : |x| / |y| = x / y := by rw [abs_of_nonneg hx, abs_of_pos hy]
      have : ¬ arctan (x / y) < 0 := not_lt.2 (arctan_nonneg.2 (div_nonneg hx hy.le))
      simp only [not_lt.2 hx, if_false, this, hd]

/-- The angle is at least zero and below a whole turn. -/
theorem dirT_bounds (x y : ℝ) : 0 ≤ dirT x y ∧ dirT x y < 2 * π := by
  have hpi := pi_pos
  obtain ⟨h1, h2⟩ := atan2_bounds x y
  unfold dirT
  split <;> constructor <;> linarith

/-- The eighth is kept when a quadrant's angle is taken to the whole circle. -/
theorem same_whole (x y : ℝ) {p q : ℝ} (h : Same (eighths p) (eighths q)) :
    Same (eighths (whole x y p)) (eighths (whole x y q)) := by
  have e4 (t : ℝ) : eighths (π - t) = ((4 : ℤ) : ℝ) - eighths t := by rw [← eighths_sub]; push_cast; ring_nf
  have e8 (t : ℝ) : eighths (2 * π - t) = ((8 : ℤ) : ℝ) - eighths t := by rw [← eighths_sub]; push_cast; ring_nf
  have h4 : Same (eighths (if y < 0 then π - p else p)) (eighths (if y < 0 then π - q else q)) := by
    split
    · rw [e4, e4]; exact h.sub 4
    · exact h
  unfold whole
  split
  · rw [e8, e8]; exact h4.sub 8
  · exact h4

/-- The eighth of the circle in which the series' direction falls is the angle's, and is one of the eight. -/
theorem floor_dirS (x y : ℝ) : ⌊eighths (dirS x y)⌋ = ⌊eighths (dirT x y)⌋ := by
  rw [dirT_eq]
  exact (same_whole x y (same_quad (abs_nonneg _) (abs_nonneg _))).1

/-- The angle's eighth is one of the eight. -/
theorem floor_dirT (x y : ℝ) : 0 ≤ ⌊eighths (dirT x y)⌋ ∧ ⌊eighths (dirT x y)⌋ < 8 := by
  have hpi := pi_pos
  obtain ⟨h1, h2⟩ := dirT_bounds x y
  constructor
  · exact Int.floor_nonneg.2 (mul_nonneg h1 (by positivity))
  · rw [Int.floor_lt, eighths_lt]; push_cast; linarith

end Cert.Proof.Sector.Angle

end
-- ==== Proof.Words.lean ====
/-
  The float words that the two programs print, as the reals they denote over the extended reals.
-/
module

public import Idealize.ShloMosaic.PureOps.Ideal.Laws
public import Idealize.ShloMosaic.Lib.IdealHost
public import proofs.«01_k».proof.Proof.Angle

@[expose] public section

noncomputable section

namespace Cert.Proof.Sector.Words

open Idealize.ShloMosaic

/-- The words of the series' coefficients and of the small constants. -/
theorem third : Ideal.ofBits .f32 0x3EAAAAAB#32 = ((11184811 / 33554432 : ℝ) : EReal) := by
  simp [Ideal.ofBits, Ideal.ieee, -EReal.coe_mul, -EReal.coe_neg]; norm_num
theorem neg_third : Ideal.ofBits .f32 0xBEAAAAAB#32 = ((-(11184811 / 33554432) : ℝ) : EReal) := by
  simp [Ideal.ofBits, Ideal.ieee, -EReal.coe_mul, -EReal.coe_neg]; norm_num
theorem fifth : Ideal.ofBits .f32 0x3E4CCCCD#32 = ((13421773 / 67108864 : ℝ) : EReal) := by
  simp [Ideal.ofBits, Ideal.ieee, -EReal.coe_mul, -EReal.coe_neg]; norm_num
theorem seventh : Ideal.ofBits .f32 0x3E124925#32 = ((9586981 / 67108864 : ℝ) : EReal) := by
  simp [Ideal.ofBits, Ideal.ieee, -EReal.coe_mul, -EReal.coe_neg]; norm_num
theorem neg_seventh : Ideal.ofBits .f32 0xBE124925#32 = ((-(9586981 / 67108864) : ℝ) : EReal) := by
  simp [Ideal.ofBits, Ideal.ieee, -EReal.coe_mul, -EReal.coe_neg]; norm_num
theorem ninth : Ideal.ofBits .f32 0x3DE38E39#32 = ((14913081 / 134217728 : ℝ) : EReal) := by
  simp [Ideal.ofBits, Ideal.ieee, -EReal.coe_mul, -EReal.coe_neg]; norm_num
theorem neg_eleventh : Ideal.ofBits .f32 0xBDBA2E8C#32 = ((-(3050403 / 33554432) : ℝ) : EReal) := by
  simp [Ideal.ofBits, Ideal.ieee, -EReal.coe_mul, -EReal.coe_neg]; norm_num
theorem tan8 : Ideal.ofBits .f32 0x3ED413CD#32 = ((Angle.tan8 : ℝ) : EReal) := by
  unfold Angle.tan8
  simp [Ideal.ofBits, Ideal.ieee, -EReal.coe_mul, -EReal.coe_neg]; norm_num
theorem tiny : Ideal.ofBits .f32 0x02081CEA#32 = ((Angle.tiny : ℝ) : EReal) := by
  unfold Angle.tiny
  simp [Ideal.ofBits, Ideal.ieee, -EReal.coe_mul, -EReal.coe_neg]; norm_num
theorem small : Ideal.ofBits .f32 0x38D1B717#32 = ((13743895 / 137438953472 : ℝ) : EReal) := by
  simp [Ideal.ofBits, Ideal.ieee, -EReal.coe_mul, -EReal.coe_neg]; norm_num
theorem millionth : Ideal.ofBits .f32 0x358637BD#32 = ((8796093 / 8796093022208 : ℝ) : EReal) := by
  simp [Ideal.ofBits, Ideal.ieee, -EReal.coe_mul, -EReal.coe_neg]; norm_num
theorem two : Ideal.ofBits .f32 0x40000000#32 = ((2 : ℝ) : EReal) := by
  simp [Ideal.ofBits, Ideal.ieee, -EReal.coe_mul, -EReal.coe_neg]; norm_num
theorem four : Ideal.ofBits .f32 0x40800000#32 = ((4 : ℝ) : EReal) := by
  simp [Ideal.ofBits, Ideal.ieee, -EReal.coe_mul, -EReal.coe_neg]; norm_num
theorem eight : Ideal.ofBits .f32 0x41000000#32 = ((8 : ℝ) : EReal) := by
  simp [Ideal.ofBits, Ideal.ieee, -EReal.coe_mul, -EReal.coe_neg]; norm_num
theorem neg_one : Ideal.ofBits .f32 0xBF800000#32 = ((-1 : ℝ) : EReal) := by
  simp [Ideal.ofBits, Ideal.ieee, -EReal.coe_mul, -EReal.coe_neg]; norm_num

end Cert.Proof.Sector.Words

end
-- ==== Proof.Close.lean ====
/-
  How near the series' direction comes to the angle: within a millionth, unless both coordinates are next to nothing.
-/
module

public import proofs.«01_k».proof.Proof.Angle
public import Mathlib.Analysis.SpecialFunctions.Trigonometric.DerivHyp
public import Mathlib.Analysis.Calculus.Deriv.Inv
public import Mathlib.Analysis.Calculus.Deriv.Inverse
public import Mathlib.Analysis.Calculus.Deriv.MeanValue
public import Mathlib.Analysis.Complex.RealDeriv

@[expose] public section

noncomputable section

namespace Cert.Proof.Sector.Angle

open Real

/-! ## The arctangent's slope -/

/-- The sine's slope, read off the hyperbolic sine along the imaginary axis. -/
theorem slope_sin (t : ℝ) : HasDerivAt sin (cos t) t := by
  have h : HasDerivAt Complex.sin (Complex.cos t) (t : ℂ) := by
    have e : Complex.sin = fun z => Complex.sinh (z * Complex.I) * (-Complex.I) := by
      funext z; rw [Complex.sinh_mul_I, mul_assoc, mul_neg, Complex.I_mul_I, neg_neg, mul_one]
    have d := (((hasDerivAt_id (t : ℂ)).mul_const Complex.I).csinh).mul_const (-Complex.I)
    rw [e]
    refine HasDerivAt.congr_deriv d ?_
    show Complex.cosh (t * Complex.I) * (1 * Complex.I) * (-Complex.I) = Complex.cos t
    rw [Complex.cosh_mul_I, one_mul, mul_assoc, mul_neg, Complex.I_mul_I, neg_neg, mul_one]
  exact h.real_of_complex

/-- The cosine's. -/
theorem slope_cos (t : ℝ) : HasDerivAt cos (-sin t) t := by
  have h := (slope_sin (π / 2 - t)).comp t ((hasDerivAt_const t (π / 2)).sub (hasDerivAt_id t))
  have e : sin ∘ (fun u => π / 2 - u) = cos := funext fun u => sin_pi_div_two_sub u
  rw [← e]
  exact HasDerivAt.congr_deriv h (by rw [cos_pi_div_two_sub]; ring)

/-- The arctangent's. -/
theorem slope_arctan (w : ℝ) : HasDerivAt arctan (1 / (1 + w ^ 2)) w := by
  have hc : cos (arctan w) ≠ 0 := (cos_arctan_pos w).ne'
  have ht : HasDerivAt tan (1 + w ^ 2) (arctan w) := by
    have d := (slope_sin (arctan w)).div (slope_cos (arctan w)) hc
    have e : (fun t => sin t / cos t) = tan := funext fun t => (tan_eq_sin_div_cos t).symm
    rw [← e]
    refine HasDerivAt.congr_deriv d ?_
    have hw : sin (arctan w) / cos (arctan w) = w := by rw [← tan_eq_sin_div_cos, tan_arctan]
    rw [show cos (arctan w) * cos (arctan w) - sin (arctan w) * -sin (arctan w) = cos (arctan w) ^ 2 + sin (arctan w) ^ 2 by ring,
      add_div, div_self (pow_ne_zero 2 hc), ← div_pow, hw]
  rw [one_div]
  exact HasDerivAt.of_local_left_inverse continuous_arctan.continuousAt ht (by positivity) (.of_forall fun y => tan_arctan y)

/-! ## The exact series -/

/-- The arctangent's power series to the eleventh power. -/
def exact (w : ℝ) : ℝ := w - w ^ 3 / 3 + w ^ 5 / 5 - w ^ 7 / 7 + w ^ 9 / 9 - w ^ 11 / 11

/-- The exact series' slope. -/
theorem slope_exact (w : ℝ) : HasDerivAt exact (1 - w ^ 2 + w ^ 4 - w ^ 6 + w ^ 8 - w ^ 10) w := by
  have p (n : ℕ) (c : ℝ) : HasDerivAt (fun w : ℝ => w ^ n / c) (n * w ^ (n - 1) / c) w := (hasDerivAt_pow n w).div_const c
  have d := (((((hasDerivAt_id w).sub (p 3 3)).add (p 5 5)).sub (p 7 7)).add (p 9 9)).sub (p 11 11)
  refine HasDerivAt.congr_deriv d ?_
  norm_num

/-- What the series leaves out grows, and no faster than its next term. -/
theorem rest_mono : Monotone (fun w => arctan w - exact w) ∧ Monotone (fun w => w ^ 13 / 13 - (arctan w - exact w)) := by
  have e (w : ℝ) : 1 / (1 + w ^ 2) - (1 - w ^ 2 + w ^ 4 - w ^ 6 + w ^ 8 - w ^ 10) = w ^ 12 / (1 + w ^ 2) := by
    have : (1 + w ^ 2) ≠ 0 := by positivity
    field_simp
    ring
  have d (w : ℝ) : HasDerivAt (fun w => arctan w - exact w) (w ^ 12 / (1 + w ^ 2)) w := by
    rw [← e]; exact (slope_arctan w).sub (slope_exact w)
  have d' (w : ℝ) : HasDerivAt (fun w => w ^ 13 / 13 - (arctan w - exact w)) (w ^ 12 - w ^ 12 / (1 + w ^ 2)) w := by
    refine HasDerivAt.congr_deriv (((hasDerivAt_pow 13 w).div_const 13).sub (d w)) ?_
    norm_num
  refine ⟨monotone_of_deriv_nonneg (fun w => (d w).differentiableAt) fun w => ?_,
    monotone_of_deriv_nonneg (fun w => (d' w).differentiableAt) fun w => ?_⟩
  · rw [(d w).deriv]; positivity
  · rw [(d' w).deriv, sub_nonneg]
    exact div_le_self (by positivity) (by nlinarith [sq_nonneg w])

/-- The exact series is near the arctangent. -/
theorem exact_near {w : ℝ} (h0 : 0 ≤ w) (h1 : w ≤ 4143 / 10000) : |exact w - arctan w| ≤ 9 / 10000000 := by
  have z : exact 0 = 0 := by simp [exact]
  have a := rest_mono.1 h0
  have b := rest_mono.2 h0
  simp only [arctan_zero, z] at a b
  have c : w ^ 13 ≤ (4143 / 10000) ^ 13 := pow_le_pow_left₀ h0 h1 13
  rw [abs_le]
  constructor <;> norm_num at c a b ⊢ <;> linarith

/-- The printed coefficients are near the exact ones. -/
theorem series_exact {w : ℝ} (h0 : 0 ≤ w) (h1 : w ≤ 4143 / 10000) : |series w - exact w| ≤ 9 / 100000000 := by
  have hw : w ≤ 1 := by linarith
  have e : series w - exact w = w ^ 3 * (1 / 3 - 11184811 / 33554432) + w ^ 5 * (13421773 / 67108864 - 1 / 5)
      + w ^ 7 * (1 / 7 - 9586981 / 67108864) + w ^ 9 * (14913081 / 134217728 - 1 / 9) + w ^ 11 * (1 / 11 - 3050403 / 33554432) := by
    unfold series slope exact; ring
  have p (n : ℕ) : 0 ≤ w ^ n ∧ w ^ n ≤ 1 := ⟨pow_nonneg h0 n, pow_le_one₀ h0 hw⟩
  obtain ⟨a0, a1⟩ := p 3
  obtain ⟨b0, b1⟩ := p 5
  obtain ⟨c0, c1⟩ := p 7
  obtain ⟨d0, d1⟩ := p 9
  obtain ⟨f0, f1⟩ := p 11
  rw [e, abs_le]
  constructor <;> norm_num <;> linarith

/-- The series of a small number is within a millionth of its arctangent. -/
theorem series_near {w : ℝ} (h : |w| ≤ 4143 / 10000) : |series w - arctan w| ≤ 99 / 100000000 := by
  have pos {v : ℝ} (h0 : 0 ≤ v) (h1 : v ≤ 4143 / 10000) : |series v - arctan v| ≤ 99 / 100000000 := by
    have a := exact_near h0 h1
    have b := series_exact h0 h1
    have c := abs_sub_le (series v) (exact v) (arctan v)
    linarith
  obtain ⟨l, u⟩ := abs_le.1 h
  rcases le_total 0 w with h0 | h0
  · exact pos h0 u
  · have := pos (v := -w) (by linarith) (by linarith)
    rwa [series_neg, arctan_neg, ← neg_sub', abs_neg] at this

/-! ## The octant, the quadrant, the circle -/

/-- In an octant. -/
theorem oct_near {s l : ℝ} (h0 : 0 ≤ s) (hs : s ≤ l) (hl : tiny ≤ l) : |oct s l - arctan (s / l)| ≤ 99 / 100000000 := by
  have hl0 : 0 < l := tiny_pos.trans_le hl
  unfold oct
  split
  case isTrue h =>
    have hD : 0 < s + l := by linarith
    rw [max_eq_left (by linarith)]
    have e : arctan (s / l) = π / 4 + arctan ((s - l) / (s + l)) := by
      have hw : (1 : ℝ) * ((s - l) / (s + l)) < 1 := by rw [one_mul, div_lt_one hD]; linarith
      rw [← arctan_one, arctan_add hw]
      congr 1
      have : l ≠ 0 := hl0.ne'
      have : s + l ≠ 0 := hD.ne'
      have : 1 - 1 * ((s - l) / (s + l)) ≠ 0 := by linarith
      have h2 : 1 - 1 * ((s - l) / (s + l)) = 2 * l / (s + l) := by field_simp; ring
      rw [h2]
      field_simp
      ring
    rw [e, add_sub_add_left_eq_sub]
    refine series_near ?_
    rw [abs_div, abs_of_pos hD, abs_of_nonpos (by linarith), div_le_iff₀ hD]
    unfold tan8 at h; linarith
  case isFalse h =>
    rw [max_eq_left hl]
    refine series_near ?_
    rw [abs_of_nonneg (div_nonneg h0 hl0.le), div_le_iff₀ hl0]
    have := not_lt.1 h
    unfold tan8 at this; linarith

/-- In a quadrant. -/
theorem quad_near {a b : ℝ} (ha : 0 ≤ a) (hb : 0 ≤ b) (h : tiny ≤ max a b) : |quadS a b - quadT a b| ≤ 99 / 100000000 := by
  rcases lt_or_ge b a with hab | hab
  · have ha0 : 0 < a := hb.trans_lt hab
    rw [max_eq_left hab.le] at h
    have o := oct_near hb hab.le h
    have e : quadT a b = π / 2 - arctan (b / a) := by
      unfold quadT
      split
      case isTrue h => rw [if_neg ha0.ne', h, zero_div, arctan_zero, sub_zero]
      case isFalse h => rw [← arctan_inv_of_pos (div_pos (lt_of_le_of_ne hb (Ne.symm h)) ha0), inv_div]
    rw [quadS, if_pos hab, min_eq_right hab.le, max_eq_left hab.le, e, sub_sub_sub_cancel_left, abs_sub_comm]
    exact o
  · rw [max_eq_right hab] at h
    rw [quadS, if_neg (not_lt.2 hab), min_eq_left hab, max_eq_right hab, quadT, if_neg (tiny_pos.trans_le h).ne']
    exact oct_near ha hab h

/-- Taking two quadrants' angles to the whole circle keeps their distance. -/
theorem whole_dist (x y p q : ℝ) : |whole x y p - whole x y q| = |p - q| := by
  unfold whole
  split <;> split <;> simp only [sub_sub_sub_cancel_left, abs_sub_comm]

/-- The series' direction is within a millionth of the angle, unless both coordinates are next to nothing. -/
theorem dirS_near (x y : ℝ) (h : tiny ≤ max |x| |y|) : |dirS x y - dirT x y| ≤ 99 / 100000000 := by
  rw [dirT_eq, dirS, whole_dist]
  exact quad_near (abs_nonneg _) (abs_nonneg _) h

end Cert.Proof.Sector.Angle

end
-- ==== Proof.Reals.lean ====
/-
  One neighbour over the extended reals, its coordinates real: what the kernel's lane computes, and what the reference
  computes, are the same real direction and the same sector.
-/
module

public import proofs.«01_k».proof.Proof.Sector
public import proofs.«01_k».proof.Proof.Words
public import proofs.«01_k».proof.Proof.Close

@[expose] public section

noncomputable section

namespace Cert.Proof.Sector

open Cert.KernelIdeal Cert.KernelIdeal.Gen
open Idealize.ShloMosaic
open Real (pi)

/-! ## The operations at real numbers -/

/-- A printed word is the real that it denotes. -/
theorem ofBits_ideal (b : BitVec 32) : Scalar.ofBits (F := Ideal) .f32 b = Ideal.ofBits .f32 b := rfl
theorem addf_coe (a b : ℝ) : FloatOps.addf (F := Ideal) (φ := .f32) (a : EReal) (b : EReal) = ((a + b : ℝ) : EReal) := (EReal.coe_add a b).symm
theorem subf_coe (a b : ℝ) : FloatOps.subf (F := Ideal) (φ := .f32) (a : EReal) (b : EReal) = ((a - b : ℝ) : EReal) := (EReal.coe_sub a b).symm
theorem mulf_coe (a b : ℝ) : FloatOps.mulf (F := Ideal) (φ := .f32) (a : EReal) (b : EReal) = ((a * b : ℝ) : EReal) := (EReal.coe_mul a b).symm
theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm
theorem maximumf_coe (a b : ℝ) : FloatOps.maximumf (F := Ideal) (φ := .f32) (a : EReal) (b : EReal) = ((max a b : ℝ) : EReal) := max_coe a b
theorem minimumf_coe (a b : ℝ) : FloatOps.minimumf (F := Ideal) (φ := .f32) (a : EReal) (b : EReal) = ((min a b : ℝ) : EReal) := min_coe a b
theorem absf_coe (a : ℝ) : FloatOps.absf (F := Ideal) (φ := .f32) (a : EReal) = ((|a| : ℝ) : EReal) := by
  rw [abs_eq_max_neg, ← max_coe, EReal.coe_neg]; rfl
theorem hostAbsf_coe (a : ℝ) : FloatOps.hostAbsf (F := Ideal) (φ := .f32) (a : EReal) = ((|a| : ℝ) : EReal) := absf_coe a

/-- A quotient of reals by a divisor that is not zero. -/
theorem divf_coe {a b : ℝ} (hb : b ≠ 0) : FloatOps.divf (F := Ideal) (φ := .f32) (a : EReal) (b : EReal) = ((a / b : ℝ) : EReal) := by
  show Ideal.div _ _ = _
  rw [Ideal.div, if_neg (by exact_mod_cast hb), div_eq_mul_inv, EReal.coe_mul, EReal.coe_inv]
theorem hostDivf_coe {a b : ℝ} (hb : b ≠ 0) : FloatOps.hostDivf (F := Ideal) (φ := .f32) (a : EReal) (b : EReal) = ((a / b : ℝ) : EReal) := divf_coe hb

/-- A choice by a comparison's word. -/
theorem select_ofBool (p : Prop) [Decidable p] {α : Type} (u v : α) : Scalar.select (BitVec.ofBool (decide p)) u v = if p then u else v := by
  by_cases h : p <;> simp [Scalar.select, h]

/-- A choice between reals. -/
theorem coe_ite (p : Prop) [Decidable p] (u v : ℝ) : (if p then (u : EReal) else (v : EReal)) = ((if p then u else v : ℝ) : EReal) := by
  split <;> rfl

/-- A choice by greater. -/
theorem select_gt (a b u v : ℝ) : Scalar.select (FloatOps.cmpf (F := Ideal) (φ := .f32) .ogt (a : EReal) (b : EReal)) (u : EReal) (v : EReal)
    = ((if b < a then u else v : ℝ) : EReal) := by
  refine (select_ofBool ((b : EReal) < a) _ _).trans ?_
  simp only [EReal.coe_lt_coe_iff, coe_ite]

/-- A choice by less. -/
theorem select_lt (a b u v : ℝ) : Scalar.select (FloatOps.cmpf (F := Ideal) (φ := .f32) .olt (a : EReal) (b : EReal)) (u : EReal) (v : EReal)
    = ((if a < b then u else v : ℝ) : EReal) := by
  refine (select_ofBool ((a : EReal) < b) _ _).trans ?_
  simp only [EReal.coe_lt_coe_iff, coe_ite]

/-- The zero word. -/
theorem zero_coe : Ideal.ofBits .f32 0x00000000#32 = ((0 : ℝ) : EReal) := by simp

/-- The named constants are multiples of π. -/
theorem quarterPi : Named.named (F := Ideal) κ "quarter_pi" (φ := .f32) 0x3F490FDB#32 = ((1 / 4 * pi : ℝ) : EReal) := rfl
theorem halfPi : Named.named (F := Ideal) κ "half_pi" (φ := .f32) 0x3FC90FDB#32 = ((1 / 2 * pi : ℝ) : EReal) := rfl
theorem onePi : Named.named (F := Ideal) κ "pi" (φ := .f32) 0x40490FDB#32 = ((pi : ℝ) : EReal) := rfl
theorem twoPi : Named.named (F := Ideal) κ "two_pi" (φ := .f32) 0x40C90FDB#32 = ((2 * pi : ℝ) : EReal) := rfl
theorem invBin : Named.named (F := Ideal) κ "inv_bin" (φ := .f32) 0x3FA2F983#32 = ((4 * pi⁻¹ : ℝ) : EReal) := rfl

/-! ## The kernel's direction -/

/-- The kernel's series of a real. -/
theorem series_coe (w : ℝ) : series (F := Ideal) (w : EReal) = ((Angle.series w : ℝ) : EReal) := by
  unfold series
  simp only [ofBits_ideal, Words.neg_third, Words.fifth, Words.neg_seventh, Words.ninth, Words.neg_eleventh, zero_coe, addf_coe, mulf_coe]
  congr 1
  unfold Angle.series Angle.slope
  ring

/-- The shorter coordinate. -/
theorem smaller_coe (x y : ℝ) : smaller (F := Ideal) (x : EReal) (y : EReal) = ((min |x| |y| : ℝ) : EReal) := by
  unfold smaller; rw [absf_coe, absf_coe, minimumf_coe]
theorem larger_coe (x y : ℝ) : larger (F := Ideal) (x : EReal) (y : EReal) = ((max |x| |y| : ℝ) : EReal) := by
  unfold larger; rw [absf_coe, absf_coe, maximumf_coe]

/-- A divisor kept away from zero is not zero. -/
theorem guard_ne (a : ℝ) : max a Angle.tiny ≠ 0 := (lt_max_of_lt_right Angle.tiny_pos).ne'

/-- The kernel's octant of reals. -/
theorem octant_coe (x y : ℝ) : octant (F := Ideal) (x : EReal) (y : EReal) = ((Angle.oct (min |x| |y|) (max |x| |y|) : ℝ) : EReal) := by
  unfold octant ratio nearDiag
  simp only [smaller_coe, larger_coe, ofBits_ideal, Words.tan8, Words.tiny, mulf_coe, subf_coe, addf_coe, select_gt, maximumf_coe,
    divf_coe (guard_ne _), series_coe, quarterPi]
  congr 1
  unfold Angle.oct
  split <;> ring_nf

/-- The kernel's quadrant of reals. -/
theorem quadrant_coe (x y : ℝ) : quadrant (F := Ideal) (x : EReal) (y : EReal) = ((Angle.quadS |x| |y| : ℝ) : EReal) := by
  unfold quadrant
  rw [octant_coe, halfPi, subf_coe, absf_coe, absf_coe, select_gt]
  congr 1
  unfold Angle.quadS
  split <;> ring_nf

/-- The kernel's direction is the real one by the series. -/
theorem direction_coe (x y : ℝ) : direction (F := Ideal) (x : EReal) (y : EReal) = ((Angle.dirS x y : ℝ) : EReal) := by
  unfold direction halfPlane
  simp only [quadrant_coe, onePi, twoPi, subf_coe, ofBits_ideal, zero_coe, select_lt]
  rfl

/-! ## The kernel's sector -/

/-- The kernel's sum of the coordinates. -/
theorem total_coe (v : Fin 16 → ℝ) : total (F := Ideal) (fun k => (v k : EReal)) = ((∑ k, v k : ℝ) : EReal) := by
  unfold total
  simp only [addf_coe]
  congr 1
  simp only [Fin.sum_univ_succ, Fin.sum_univ_zero]
  simp only [Fin.succ_zero_eq_one, Fin.reduceSucc]
  ring

/-- The conversion to an integer of a real in `[0, 8)`. -/
theorem fptosi_coe {r : ℝ} (h : 0 ≤ ⌊r⌋ ∧ ⌊r⌋ < 8) : FloatOps.fptosi (F := Ideal) (φ := .f32) 32 (r : EReal) = BitVec.ofInt 32 ⌊r⌋ := by
  show Ideal.fptosi 32 _ = _
  have h0 : 0 ≤ r := Int.floor_nonneg.1 h.1
  unfold Ideal.fptosi
  rw [Ideal.toIntClamped_coe, if_pos h0]
  congr 1
  rw [min_eq_right (by norm_num; omega), max_eq_right (by norm_num; omega)]

/-- The sector of a neighbour that stands at `(x, y)` and whose coordinates sum to `s`. -/
def standsIn (x y s : ℝ) : BitVec 32 := if s ≠ 0 then BitVec.ofInt 32 ⌊Angle.eighths (Angle.dirT x y)⌋ else 4294967295#32

/-- The kernel's sector is the one the neighbour stands in by its true angle. -/
theorem sector_coe (v : Fin 16 → ℝ) : sector (F := Ideal) (fun k => (v k : EReal)) = standsIn (v 14) (v 15) (∑ k, v k) := by
  unfold sector dir
  rw [total_coe, direction_coe, invBin, mulf_coe, show Angle.dirS (v 14) (v 15) * (4 * pi⁻¹) = Angle.eighths (Angle.dirS (v 14) (v 15)) from rfl,
    fptosi_coe (by rw [Angle.floor_dirS]; exact Angle.floor_dirT _ _), Angle.floor_dirS, ofBits_ideal, zero_coe]
  show Scalar.select (BitVec.ofBool (decide (((∑ k, v k : ℝ) : EReal) < ((0 : ℝ) : EReal))) ||| BitVec.ofBool (decide (((0 : ℝ) : EReal) < ((∑ k, v k : ℝ) : EReal)))) _ _ = _
  simp only [EReal.coe_lt_coe_iff]
  unfold standsIn
  rcases lt_trichotomy (∑ k, v k) 0 with h | h | h
  · simp [h, h.ne, h.not_gt, Scalar.select]
  · simp [h, Scalar.select]
  · simp [h, h.ne', h.not_gt, Scalar.select]

/-! ## The reference's direction, sector and lengths -/

/-- Half a turn, as the reference takes it. -/
def hHalf : Ideal .f32 := FloatOps.hostAtan2 (F := Ideal) (φ := .f32) (Ideal.ofBits .f32 0x00000000#32) (Ideal.ofBits .f32 0xBF800000#32)

/-- The reference's half turn is π. -/
theorem hHalf_eq : hHalf = ((pi : ℝ) : EReal) := by
  unfold hHalf
  rw [zero_coe, Words.neg_one]
  show Ideal.atan2 ((0 : ℝ) : EReal) ((-1 : ℝ) : EReal) = _
  show ((if (0 : ℝ) < -1 then _ else if (-1 : ℝ) < 0 then (if (0 : ℝ) ≤ 0 then Real.arctan (0 / -1) + Real.pi else _) else _ : ℝ) : EReal) = _
  norm_num

/-- The series as the reference sums it. -/
def hSeries (w : Ideal .f32) : Ideal .f32 :=
  let w2 : Ideal .f32 := FloatOps.mulf (F := Ideal) w w
  FloatOps.addf (F := Ideal) w (FloatOps.mulf w (FloatOps.mulf w2 (FloatOps.subf (FloatOps.mulf (FloatOps.addf (FloatOps.mulf (FloatOps.subf (FloatOps.mulf
    (FloatOps.addf (FloatOps.mulf (Ideal.ofBits .f32 0xBDBA2E8C#32) w2) (Ideal.ofBits .f32 0x3DE38E39#32)) w2) (Ideal.ofBits .f32 0x3E124925#32)) w2)
    (Ideal.ofBits .f32 0x3E4CCCCD#32)) w2) (Ideal.ofBits .f32 0x3EAAAAAB#32))))

/-- The reference's series of a real. -/
theorem hSeries_coe (w : ℝ) : hSeries (w : EReal) = ((Angle.series w : ℝ) : EReal) := by
  unfold hSeries
  simp only [Words.third, Words.fifth, Words.seventh, Words.ninth, Words.neg_eleventh, addf_coe, mulf_coe, subf_coe]
  congr 1
  unfold Angle.series Angle.slope
  ring

/-- The larger and the smaller of the two absolute values. -/
def hLarger (x y : Ideal .f32) : Ideal .f32 := FloatOps.maximumf (F := Ideal) (φ := .f32) (FloatOps.hostAbsf (F := Ideal) (φ := .f32) x) (FloatOps.hostAbsf (F := Ideal) (φ := .f32) y)
def hSmaller (x y : Ideal .f32) : Ideal .f32 := FloatOps.minimumf (F := Ideal) (φ := .f32) (FloatOps.hostAbsf (F := Ideal) (φ := .f32) x) (FloatOps.hostAbsf (F := Ideal) (φ := .f32) y)

/-- The angle within the octant. -/
def hOctant (x y : Ideal .f32) : Ideal .f32 :=
  Scalar.select (FloatOps.cmpf (F := Ideal) (φ := .f32) .ogt (hSmaller x y) (FloatOps.mulf (F := Ideal) (φ := .f32) (Ideal.ofBits .f32 0x3ED413CD#32) (hLarger x y)))
    (FloatOps.addf (F := Ideal) (φ := .f32) (FloatOps.hostDivf (F := Ideal) (φ := .f32) hHalf (Ideal.ofBits .f32 0x40800000#32))
      (hSeries (FloatOps.hostDivf (F := Ideal) (φ := .f32) (FloatOps.subf (F := Ideal) (φ := .f32) (hSmaller x y) (hLarger x y))
        (FloatOps.maximumf (F := Ideal) (φ := .f32) (FloatOps.addf (F := Ideal) (φ := .f32) (hSmaller x y) (hLarger x y)) (Ideal.ofBits .f32 0x02081CEA#32)))))
    (hSeries (FloatOps.hostDivf (F := Ideal) (φ := .f32) (hSmaller x y) (FloatOps.maximumf (F := Ideal) (φ := .f32) (hLarger x y) (Ideal.ofBits .f32 0x02081CEA#32))))

/-- The angle within the quadrant. -/
def hQuadrant (x y : Ideal .f32) : Ideal .f32 :=
  Scalar.select (FloatOps.cmpf (F := Ideal) (φ := .f32) .ogt (FloatOps.hostAbsf (F := Ideal) (φ := .f32) x) (FloatOps.hostAbsf (F := Ideal) (φ := .f32) y))
    (FloatOps.subf (F := Ideal) (φ := .f32) (FloatOps.hostDivf (F := Ideal) (φ := .f32) hHalf (Ideal.ofBits .f32 0x40000000#32)) (hOctant x y)) (hOctant x y)

/-- The angle within the half plane. -/
def hHalfPlane (x y : Ideal .f32) : Ideal .f32 :=
  Scalar.select (FloatOps.cmpf (F := Ideal) (φ := .f32) .olt y (Ideal.ofBits .f32 0x00000000#32))
    (FloatOps.subf (F := Ideal) (φ := .f32) hHalf (hQuadrant x y)) (hQuadrant x y)

/-- The direction in which `(x, y)` stands. -/
def hDirection (x y : Ideal .f32) : Ideal .f32 :=
  Scalar.select (FloatOps.cmpf (F := Ideal) (φ := .f32) .olt x (Ideal.ofBits .f32 0x00000000#32))
    (FloatOps.subf (F := Ideal) (φ := .f32) (FloatOps.mulf (F := Ideal) (φ := .f32) (Ideal.ofBits .f32 0x40000000#32) hHalf) (hHalfPlane x y)) (hHalfPlane x y)

/-- The reference's octant of reals. -/
theorem hOctant_coe (x y : ℝ) : hOctant (x : EReal) (y : EReal) = ((Angle.oct (min |x| |y|) (max |x| |y|) : ℝ) : EReal) := by
  unfold hOctant hSmaller hLarger
  simp only [hostAbsf_coe, maximumf_coe, minimumf_coe, Words.tan8, Words.tiny, Words.four, hHalf_eq, hostDivf_coe (show (4 : ℝ) ≠ 0 by norm_num),
    mulf_coe, subf_coe, addf_coe, hostDivf_coe (guard_ne _), hSeries_coe, select_gt]
  rfl

/-- The reference's direction is the same real number. -/
theorem hDirection_coe (x y : ℝ) : hDirection (x : EReal) (y : EReal) = ((Angle.dirS x y : ℝ) : EReal) := by
  unfold hDirection hHalfPlane hQuadrant
  simp only [hOctant_coe, hostAbsf_coe, hHalf_eq, Words.two, hostDivf_coe (show (2 : ℝ) ≠ 0 by norm_num), subf_coe, mulf_coe, select_gt, zero_coe, select_lt]
  rfl

/-- The angle's remainder by a whole turn. -/
def hRem (x y : Ideal .f32) : Ideal .f32 :=
  FloatOps.hostRemf (F := Ideal) (φ := .f32) (FloatOps.hostAtan2 (F := Ideal) (φ := .f32) x y) (FloatOps.mulf (F := Ideal) (φ := .f32) (Ideal.ofBits .f32 0x40000000#32) hHalf)

/-- The angle in `[0, 2π)`. -/
def hAngle (x y : Ideal .f32) : Ideal .f32 :=
  Scalar.select
    (IntOp.andi
      (IntOp.cmpi .ne (FloatOps.cmpf (F := Ideal) (φ := .f32) .olt (hRem x y) (Ideal.ofBits .f32 0x00000000#32))
        (FloatOps.cmpf (F := Ideal) (φ := .f32) .olt (FloatOps.mulf (F := Ideal) (φ := .f32) (Ideal.ofBits .f32 0x40000000#32) hHalf) (Ideal.ofBits .f32 0x00000000#32)))
      (FloatOps.cmpf (F := Ideal) (φ := .f32) .une (hRem x y) (Ideal.ofBits .f32 0x00000000#32)))
    (FloatOps.addf (F := Ideal) (φ := .f32) (hRem x y) (FloatOps.mulf (F := Ideal) (φ := .f32) (Ideal.ofBits .f32 0x40000000#32) hHalf)) (hRem x y)

/-- Whether the coordinates' sum is not zero, as a word. -/
def hMask (s : Ideal .f32) : BitVec 32 := (FloatOps.cmpf (F := Ideal) (φ := .f32) .une s (Ideal.ofBits .f32 0x00000000#32)).setWidth 32

/-- The sector, `-1` when the coordinates sum to zero. -/
def hSector (x y s : Ideal .f32) : BitVec 32 :=
  IntOp.addi
    (IntOp.muli
      (FloatOps.fptosi (F := Ideal) (φ := .f32) 32 (FloatOps.hostDivf (F := Ideal) (φ := .f32) (hAngle x y)
        (FloatOps.hostDivf (F := Ideal) (φ := .f32) (FloatOps.mulf (F := Ideal) (φ := .f32) (Ideal.ofBits .f32 0x40000000#32) hHalf) (Ideal.ofBits .f32 0x41000000#32))))
      (hMask s))
    (IntOp.muli 4294967295#32 (IntOp.subi 1#32 (hMask s)))

/-- The remainder changes nothing, because the arctangent is smaller than a turn. -/
theorem hRem_coe (x y : ℝ) : hRem (x : EReal) (y : EReal) = ((Angle.atan2 x y : ℝ) : EReal) := by
  have hpi := Real.pi_pos
  unfold hRem
  rw [hHalf_eq, Words.two, mulf_coe]
  show (if 2 * pi = 0 then ⊥ else ((Angle.atan2 x y - 2 * pi * (Ideal.truncInt (Angle.atan2 x y / (2 * pi)) : ℝ) : ℝ) : EReal)) = _
  rw [if_neg (by positivity)]
  obtain ⟨h1, h2⟩ := Angle.atan2_bounds x y
  have hq1 : -1 < Angle.atan2 x y / (2 * pi) := by rw [lt_div_iff₀ (by positivity)]; linarith
  have hq2 : Angle.atan2 x y / (2 * pi) < 1 := by rw [div_lt_iff₀ (by positivity)]; linarith
  have : Ideal.truncInt (Angle.atan2 x y / (2 * pi)) = 0 := by
    unfold Ideal.truncInt
    split
    · rename_i h; exact Int.floor_eq_iff.2 ⟨by simpa using h, by simpa using hq2⟩
    · rename_i h; exact Int.ceil_eq_iff.2 ⟨by simpa using hq1, by simpa using (not_le.1 h).le⟩
  rw [this]; simp

/-- The reference's angle of reals. -/
theorem hAngle_coe (x y : ℝ) : hAngle (x : EReal) (y : EReal) = ((Angle.dirT x y : ℝ) : EReal) := by
  have hpi := Real.pi_pos
  unfold hAngle
  rw [hRem_coe, hHalf_eq, Words.two, mulf_coe, addf_coe, zero_coe]
  show Scalar.select (BitVec.ofBool (BitVec.ofBool (decide ((Angle.atan2 x y : EReal) < ((0 : ℝ) : EReal))) != BitVec.ofBool (decide (((2 * pi : ℝ) : EReal) < ((0 : ℝ) : EReal))))
    &&& BitVec.ofBool (decide ((Angle.atan2 x y : EReal) ≠ ((0 : ℝ) : EReal)))) _ _ = _
  simp only [EReal.coe_lt_coe_iff, ne_eq, EReal.coe_eq_coe_iff]
  unfold Angle.dirT
  have h2 : ¬ 2 * pi < 0 := by linarith
  rcases lt_trichotomy (Angle.atan2 x y) 0 with h | h | h
  · simp [h, h.ne, h2, Scalar.select]
  · simp [h, Scalar.select]
  · simp [h.not_gt, h2, Scalar.select]

/-- The reference's sector is the same one. -/
theorem hSector_coe (x y s : ℝ) : hSector (x : EReal) (y : EReal) (s : EReal) = standsIn x y s := by
  have hpi := Real.pi_pos
  unfold hSector hMask
  rw [hAngle_coe, hHalf_eq, Words.two, Words.eight, mulf_coe, hostDivf_coe (show (8 : ℝ) ≠ 0 by norm_num), hostDivf_coe (by positivity),
    show Angle.dirT x y / (2 * pi / 8) = Angle.eighths (Angle.dirT x y) by unfold Angle.eighths; field_simp; ring,
    fptosi_coe (Angle.floor_dirT _ _), zero_coe]
  show BitVec.ofInt 32 _ * (BitVec.ofBool (decide ((s : EReal) ≠ ((0 : ℝ) : EReal)))).setWidth 32
    + 4294967295#32 * (1#32 - (BitVec.ofBool (decide ((s : EReal) ≠ ((0 : ℝ) : EReal)))).setWidth 32) = _
  simp only [ne_eq, EReal.coe_eq_coe_iff]
  unfold standsIn
  by_cases h : s = 0 <;> simp [h]

/-- What the reference takes for the direction: the series where it is near the angle or the coordinates are faint, else the angle. -/
def hNearest (x y : Ideal .f32) : Ideal .f32 :=
  Scalar.select
    (IntOp.ori
      (FloatOps.cmpf (F := Ideal) (φ := .f32) .ole (FloatOps.hostAbsf (F := Ideal) (φ := .f32) (FloatOps.subf (F := Ideal) (φ := .f32) (hDirection x y) (hAngle x y)))
        (Ideal.ofBits .f32 0x358637BD#32))
      (FloatOps.cmpf (F := Ideal) (φ := .f32) .olt (hLarger x y) (Ideal.ofBits .f32 0x02081CEA#32)))
    (hDirection x y) (hAngle x y)

/-- It is always the series, which is never far from the angle. -/
theorem hNearest_coe (x y : ℝ) : hNearest (x : EReal) (y : EReal) = ((Angle.dirS x y : ℝ) : EReal) := by
  unfold hNearest hLarger
  rw [hDirection_coe, hAngle_coe, subf_coe, hostAbsf_coe, hostAbsf_coe, hostAbsf_coe, maximumf_coe, Words.millionth, Words.tiny]
  show Scalar.select (BitVec.ofBool (decide (((|Angle.dirS x y - Angle.dirT x y| : ℝ) : EReal) ≤ ((8796093 / 8796093022208 : ℝ) : EReal)))
    ||| BitVec.ofBool (decide (((max |x| |y| : ℝ) : EReal) < ((Angle.tiny : ℝ) : EReal)))) _ _ = _
  simp only [EReal.coe_lt_coe_iff, EReal.coe_le_coe_iff]
  by_cases h : max |x| |y| < Angle.tiny
  · rw [decide_eq_true h]
    by_cases h' : |Angle.dirS x y - Angle.dirT x y| ≤ 8796093 / 8796093022208 <;> simp [h', Scalar.select]
  · have n := Angle.dirS_near x y (not_lt.1 h)
    rw [decide_eq_true (n.trans (by norm_num)), decide_eq_false h]
    simp [Scalar.select]

end Cert.Proof.Sector

end
-- ==== Proof.Target.lean ====
/-
  What both programs compute for one agent, from its neighbours' real coordinates: in each sector the mean of a factor
  over the neighbours that stand there. And that the kernel computes it.
-/
module

public import proofs.«01_k».proof.Proof.Reals
public import proofs.«01_k».proof.Proof.Tile

@[expose] public section

noncomputable section

namespace Cert.Proof.Sector

open Cert.KernelIdeal Cert.KernelIdeal.Gen
open Idealize.ShloMosaic

/-! ## The common value -/

/-- Whether a neighbour stands in sector `p`. -/
def inSector (v : Fin 16 → ℝ) (p : Fin 8) : Prop := standsIn (v 14) (v 15) (∑ k, v k) = BitVec.ofNat 32 p.val

instance (v : Fin 16 → ℝ) (p : Fin 8) : Decidable (inSector v p) := by unfold inSector; infer_instance

/-- A neighbour's three factors: its speed, its distance, its direction. -/
def factor (v : Fin 16 → ℝ) (q : Fin 3) : EReal :=
  (![speed (F := Ideal) fun k => (v k : EReal), dist (F := Ideal) fun k => (v k : EReal), dir (F := Ideal) fun k => (v k : EReal)] : Fin 3 → EReal) q

/-- The mean of a factor over the neighbours in a sector, the count raised a little. -/
def meanAt (v : Fin 64 → Fin 16 → ℝ) (p : Fin 8) (q : Fin 3) : EReal :=
  Ideal.div (∑ n, if inSector (v n) p then factor (v n) q else 0) ((∑ n, if inSector (v n) p then (1 : EReal) else 0) + Ideal.ofBits .f32 0x38D1B717#32)

/-- The raised count is not zero. -/
theorem count_ne (v : Fin 64 → Fin 16 → ℝ) (p : Fin 8) :
    (∑ n, if inSector (v n) p then (1 : EReal) else 0) + Ideal.ofBits .f32 0x38D1B717#32 ≠ 0 := by
  have h : (0 : EReal) ≤ ∑ n, if inSector (v n) p then (1 : EReal) else 0 :=
    Finset.sum_nonneg fun n _ => by split <;> norm_num
  have e : (0 : EReal) < Ideal.ofBits .f32 0x38D1B717#32 := by rw [Words.small]; exact_mod_cast (by norm_num : (0 : ℝ) < 13743895 / 137438953472)
  exact (lt_of_lt_of_le e (le_add_of_nonneg_left h)).ne'

/-! ## The kernel computes it -/

/-- An accumulator word is the sum of what is counted there. -/
theorem acc_sum (X : Nat → Fin 16 → Nat → EReal) (val : Nat → Nat → EReal) (j N : Nat) :
    acc (F := Ideal) X val j N = ∑ n ∈ Finset.range N, if hits (F := Ideal) X n j then val n (j % 128) else 0 := by
  induction N with
  | zero => exact Ideal.ofBits_zero_f32
  | succ N ih =>
    rw [Finset.sum_range_succ, ← ih]
    show (if hits (F := Ideal) X N j then acc (F := Ideal) X val j N + val N (j % 128) else acc (F := Ideal) X val j N) = _
    split <;> simp

/-- A word is counted as sector `p` exactly when it is `p`. -/
theorem counted_iff (w : BitVec 32) (p : Fin 8) :
    (IntOp.andi (IntOp.cmpi .sge w 0#32) (IntOp.cmpi .slt w 8#32) = 1#1 ∧ w.toNat = p.val) ↔ w = BitVec.ofNat 32 p.val := by
  constructor
  · rintro ⟨-, h⟩
    apply BitVec.eq_of_toNat_eq
    rw [h, BitVec.toNat_ofNat, Nat.mod_eq_of_lt (by have := p.isLt; omega)]
  · rintro rfl
    fin_cases p <;> decide

variable (G : Vec Ideal S64x8x2x4096 .f32) (r : Fin 4096 → Fin 64 → Fin 16 → ℝ)

/-- The coordinates, laid out as the kernel takes them, are the reals `r`. -/
def Tells (G : Vec Ideal S64x8x2x4096 .f32) (r : Fin 4096 → Fin 64 → Fin 16 → ℝ) : Prop :=
  ∀ (b : Fin 4096) (n : Fin 64) (k : Fin 16),
    G (ValueIdx.ix4 n (⟨k.val / 2, by omega⟩ : Fin 8) (⟨k.val % 2, by omega⟩ : Fin 2) b) = (r b n k : EReal)

variable {G r}

/-- A coordinate as the kernel reads it. -/
theorem colX_real (hG : Tells G r) (b : Fin 4096) (n : Fin 64) (k : Fin 16) :
    colX (F := Ideal) G (b.val / 128 * 128) n.val k (b.val % 128) = (r b n k : EReal) := by
  have hb : b.val / 128 * 128 + b.val % 128 = b.val := by omega
  unfold colX
  rw [dif_pos ⟨n.isLt, by rw [hb]; exact b.isLt⟩, ← hG b n k]
  congr 2
  exact Fin.ext hb

/-- A neighbour is added to an accumulator word exactly when it stands in the word's sector. -/
theorem hits_iff (hG : Tells G r) (b : Fin 4096) (p : Fin 8) (n : Fin 64) :
    hits (F := Ideal) (colX G (b.val / 128 * 128)) n.val (128 * p.val + b.val % 128) ↔ inSector (r b n) p := by
  have h1 : (128 * p.val + b.val % 128) % 128 = b.val % 128 := by omega
  have h2 : (128 * p.val + b.val % 128) / 128 = p.val := by omega
  have h3 : (fun k => colX (F := Ideal) G (b.val / 128 * 128) n.val k (b.val % 128)) = fun k => (r b n k : EReal) :=
    funext fun k => colX_real hG b n k
  unfold hits counted inSector
  rw [h1, h2, h3, sector_coe]
  exact counted_iff _ p

/-- An accumulator after all neighbours, at sector `p` of agent `b`. -/
theorem acc_real (hG : Tells G r) (val : Nat → Nat → EReal) (b : Fin 4096) (p : Fin 8) (h : 128 * p.val + b.val % 128 < 1024) :
    accAt (F := Ideal) (colX G (b.val / 128 * 128)) val 512 (ValueIdx.ix1 ⟨128 * p.val + b.val % 128, h⟩)
      = ∑ n : Fin 64, if inSector (r b n) p then val n.val (b.val % 128) else 0 := by
  have h1 : (128 * p.val + b.val % 128) % 128 = b.val % 128 := by omega
  have h2 : done 512 (b.val % 128) = 64 := by unfold done; omega
  show acc (F := Ideal) (colX G (b.val / 128 * 128)) val (128 * p.val + b.val % 128) (done 512 ((128 * p.val + b.val % 128) % 128)) = _
  rw [acc_sum, h1, h2, Finset.sum_range]
  exact Finset.sum_congr rfl fun n _ => if_congr (hits_iff hG b p n) rfl rfl

/-- The kernel's means. -/
theorem allMeans_real (hG : Tells G r) (b : Fin 4096) (p : Fin 8) (q : Fin 3) :
    allMeans (F := Ideal) G (ValueIdx.ix3 q p b) = meanAt (r b) p q := by
  have hj : 128 * p.val + b.val % 128 < 1024 := by omega
  have h3 (n : Fin 64) : (fun k => colX (F := Ideal) G (b.val / 128 * 128) n.val k (b.val % 128)) = fun k => (r b n k : EReal) :=
    funext fun k => colX_real hG b n k
  have hc := acc_real hG (fun _ _ => Scalar.ofBits (F := Ideal) .f32 0x3F800000#32) b p hj
  rw [show (Scalar.ofBits (F := Ideal) .f32 0x3F800000#32) = (1 : EReal) from Ideal.ofBits_one_f32] at hc
  have hv : (![accAt (F := Ideal) (colX G (b.val / 128 * 128)) (fun n a => speed fun k => colX G (b.val / 128 * 128) n k a) 512,
      accAt (F := Ideal) (colX G (b.val / 128 * 128)) (fun n a => dist fun k => colX G (b.val / 128 * 128) n k a) 512,
      accAt (F := Ideal) (colX G (b.val / 128 * 128)) (fun n a => dir fun k => colX G (b.val / 128 * 128) n k a) 512] : Fin 3 → Vec Ideal S1024 .f32) q
        (ValueIdx.ix1 ⟨128 * p.val + b.val % 128, hj⟩) = ∑ n, if inSector (r b n) p then factor (r b n) q else 0 := by
    fin_cases q
    all_goals
      refine (acc_real hG _ b p hj).trans (Finset.sum_congr rfl fun n _ => ?_)
      simp only [h3]
      rfl
  show mean (F := Ideal) (accAt (F := Ideal) (colX G (b.val / 128 * 128)) (fun _ _ => Scalar.ofBits .f32 0x3F800000#32) 512
      (ValueIdx.ix1 ⟨128 * p.val + b.val % 128, hj⟩)) ((![_, _, _] : Fin 3 → Vec Ideal S1024 .f32) q (ValueIdx.ix1 ⟨128 * p.val + b.val % 128, hj⟩)) = _
  rw [hv]
  rw [show (Scalar.ofBits (F := Ideal) .f32 0x3F800000#32) = (1 : EReal) from Ideal.ofBits_one_f32, hc]
  show _ * Ideal.div (Ideal.ofBits .f32 0x3F800000#32) (_ + Ideal.ofBits .f32 0x38D1B717#32) = _
  rw [Ideal.ofBits_one_f32, Ideal.mul_one_div (count_ne _ _)]
  rfl

/-- The kernel's directions. -/
theorem allDirs_real (hG : Tells G r) (b : Fin 4096) (n : Fin 64) :
    allDirs (F := Ideal) G (ValueIdx.ix2 n b) = ((Angle.dirS (r b n 14) (r b n 15) : ℝ) : EReal) := by
  rw [← direction_coe, ← colX_real hG b n 14, ← colX_real hG b n 15]
  rfl

end Cert.Proof.Sector

end
-- ==== Proof.RefValue.lean ====
/-
  The reference's two results at an index, from the neighbours' coordinates.
-/
module

public import proofs.«01_k».proof.Proof.Target
public import proofs.«01_k».proof.Proof.Gen.ReferenceIdeal
public import proofs.«01_k».proof.Proof.Gen.ReferenceIdeal.Run
public import Idealize.ShloMosaic.Lib.Pointwise
public import Idealize.ShloMosaic.Lib.Tactic.CleanTypes

@[expose] public section

noncomputable section

namespace Cert.Proof.Sector

open Cert.ReferenceIdeal Cert.ReferenceIdeal.Gen Cert.ReferenceIdeal.Value
open Idealize.ShloMosaic Idealize.ShloMosaic.TcCoe Idealize.SL.Sem Idealize.ShloMosaic.StableHlo

variable (V0 : Valuation Cert.ReferenceIdeal.τ Cert.ReferenceIdeal.sig (Elt Ideal))

/-- The neighbours' coordinates. -/
abbrev nei : FVec Ideal S4096x64x8x2 .f32 := V0 (Proc.devRef .tc main_arg1)

/-- A coordinate of a neighbour's last place. -/
theorem last_at (b : Fin 4096) (n : Fin 64) (c : Fin 2) : res_main_v6 V0 (ix3 b n c : S4096x64x2.Idx) = nei V0 (ix4 b n 7 c) := by
  unfold res_main_v6
  clean_types
  pointwise

/-- A coordinate of how far a neighbour moved. -/
theorem moved_at (b : Fin 4096) (n : Fin 64) (c : Fin 2) : res_main_v4 V0 (ix3 b n c : S4096x64x2.Idx) = nei V0 (ix4 b n 7 c) - nei V0 (ix4 b n 0 c) := by
  unfold res_main_v4
  clean_types
  pointwise

/-- The coordinate across. -/
theorem x_at (b : Fin 4096) (n : Fin 64) : res_main_v10 V0 (ix2 b n : S4096x64.Idx) = nei V0 (ix4 b n 7 0) := by
  rw [← last_at]
  unfold res_main_v10
  clean_types
  pointwise

/-- The coordinate along. -/
theorem y_at (b : Fin 4096) (n : Fin 64) : res_main_v12 V0 (ix2 b n : S4096x64.Idx) = nei V0 (ix4 b n 7 1) := by
  rw [← last_at]
  unfold res_main_v12
  clean_types
  pointwise

/-- Half a turn. -/
theorem half_at (j : S_.Idx) : res_main_v13 V0 j = hHalf := rfl

/-- The series' direction. -/
theorem series_at (j : S4096x64.Idx) : res_main_v104 V0 j = hDirection (res_main_v10 V0 j) (res_main_v12 V0 j) := rfl

/-- The angle. -/
theorem angle_at (j : S4096x64.Idx) : res_main_v16 V0 j = hAngle (res_main_v10 V0 j) (res_main_v12 V0 j) := rfl

/-- The reference's directions, as it is printed. -/
def refDirs : FVec Ideal S4096x64 .f32 := select (ori (cmpf .ole (Host.absf (subf (res_main_v104 V0) (res_main_v16 V0))) (broadcastInDim S4096x64 ![] bcast_S_S4096x64 (constant S_ .f32 0x358637BD#32))) (cmpf .olt (maximumf (Host.absf (res_main_v10 V0)) (Host.absf (res_main_v12 V0))) (broadcastInDim S4096x64 ![] bcast_S_S4096x64 (constant S_ .f32 0x02081CEA#32)))) (res_main_v104 V0) (res_main_v16 V0)

/-- A direction of the reference. -/
theorem dir_at (j : S4096x64.Idx) : refDirs V0 j = hNearest (res_main_v10 V0 j) (res_main_v12 V0 j) := rfl

/-- The reference's means, as it is printed. -/
def refMeans : FVec Ideal S4096x8x3 .f32 := Host.divf (Host.reduceAdd (mulf (broadcastInDim S4096x8x64x3 ![0, 1, 2, 3] bcast_S4096x8x64x1_S4096x8x64x3_0_1_2_3 (broadcastInDim S4096x8x64x1 ![0, 1, 2] bcast_S4096x8x64_S4096x8x64x1_0_1_2 (res_main_v126 V0))) (broadcastInDim S4096x8x64x3 ![0, 1, 2, 3] bcast_S4096x1x64x3_S4096x8x64x3_0_1_2_3 (broadcastInDim S4096x1x64x3 ![0, 2, 3] bcast_S4096x64x3_S4096x1x64x3_0_2_3 ((concatenate S4096x64x3 2 [⟨S4096x64x1, ((broadcastInDim S4096x64x1 ![0, 1] bcast_S4096x64_S4096x64x1_0_1 (Host.sqrt (Host.reduceAdd (mulf (res_main_v4 V0) (res_main_v4 V0)) (constant S_ .f32 0x00000000#32) reducesTo_S4096x64x2_S4096x64_d2 h_S_))) : (⟨S4096x64x1, .f32⟩ : BufTy).Contents (Elt Ideal))⟩, ⟨S4096x64x1, ((broadcastInDim S4096x64x1 ![0, 1] bcast_S4096x64_S4096x64x1_0_1 (Host.sqrt (Host.reduceAdd (mulf (res_main_v6 V0) (res_main_v6 V0)) (constant S_ .f32 0x00000000#32) reducesTo_S4096x64x2_S4096x64_d2 h_S_))) : (⟨S4096x64x1, .f32⟩ : BufTy).Contents (Elt Ideal))⟩, ⟨S4096x64x1, ((broadcastInDim S4096x64x1 ![0, 1] bcast_S4096x64_S4096x64x1_0_1 (select (ori (cmpf .ole (Host.absf (subf (res_main_v104 V0) (res_main_v16 V0))) (broadcastInDim S4096x64 ![] bcast_S_S4096x64 (constant S_ .f32 0x358637BD#32))) (cmpf .olt (maximumf (Host.absf (res_main_v10 V0)) (Host.absf (res_main_v12 V0))) (broadcastInDim S4096x64 ![] bcast_S_S4096x64 (constant S_ .f32 0x02081CEA#32)))) (res_main_v104 V0) (res_main_v16 V0))) : (⟨S4096x64x1, .f32⟩ : BufTy).Contents (Elt Ideal))⟩] concatenates_S4096x64x1_S4096x64x1_S4096x64x1_S4096x64x3_d2 : (⟨S4096x64x3, .f32⟩ : BufTy).Contents (Elt Ideal)))))) (constant S_ .f32 0x00000000#32) reducesTo_S4096x8x64x3_S4096x8x3_d2 h_S_) (broadcastInDim S4096x8x3 ![0, 1, 2] bcast_S4096x8x1_S4096x8x3_0_1_2 (broadcastInDim S4096x8x1 ![0, 1] bcast_S4096x8_S4096x8x1_0_1 (addf (Host.reduceAdd (res_main_v126 V0) (constant S_ .f32 0x00000000#32) reducesTo_S4096x8x64_S4096x8_d2 h_S_) (broadcastInDim S4096x8 ![] bcast_S_S4096x8 (constant S_ .f32 0x38D1B717#32)))))

/-- The coordinates' sum, by steps and by coordinate. -/
theorem total_at (b : Fin 4096) (n : Fin 64) :
    Host.reduceAdd (nei V0) (constant S_ .f32 0x00000000#32) reducesTo_S4096x64x8x2_S4096x64_d3_2 h_S_ (ix2 b n : S4096x64.Idx)
      = ∑ t : Fin 8, ∑ c : Fin 2, nei V0 (ix4 b n t c) := by
  pointwise
  unfold Ideal.hostReduceAdd
  rw [zero_add, Finset.sum_filter_eq_sum_of_fiber _ (fun k : Fin 8 × Fin 2 => (ix4 b n k.1 k.2 : S4096x64x8x2.Idx))
    (fun k k' e => Prod.ext (congrFun e 2) (congrFun e 3)), Fintype.sum_prod_type]
  intro i
  constructor
  · intro e
    refine ⟨(i 2, i 3), ?_⟩
    funext a
    match a with
    | ⟨0, _⟩ => exact (congrFun e 0).symm
    | ⟨1, _⟩ => exact (congrFun e 1).symm
    | ⟨2, _⟩ => rfl
    | ⟨3, _⟩ => rfl
  · rintro ⟨k, rfl⟩
    funext a
    match a with
    | ⟨0, _⟩ => rfl
    | ⟨1, _⟩ => rfl

/-- The coordinates' sum, as the reference takes it. -/
def refTotal (b : Fin 4096) (n : Fin 64) : Ideal .f32 :=
  Host.reduceAdd (nei V0) (constant S_ .f32 0x00000000#32) reducesTo_S4096x64x8x2_S4096x64_d3_2 h_S_ (ix2 b n : S4096x64.Idx)

/-- Whether neighbour `n` of agent `b` stands in sector `p`, as the reference's number. -/
theorem mask_at (b : Fin 4096) (p : Fin 8) (n : Fin 64) :
    res_main_v126 V0 (ix3 b p n : S4096x8x64.Idx)
      = FloatOps.uitofp (F := Ideal) .f32 (IntOp.cmpi .eq (hSector (res_main_v10 V0 (ix2 b n)) (res_main_v12 V0 (ix2 b n)) (refTotal V0 b n)) (BitVec.ofNat 32 p.val)) := by
  unfold res_main_v126
  clean_types
  pointwise
  rw [angle_at V0 (ix2 b n)]
  rfl

/-- The reference's number for standing in a sector. -/
abbrev inAt (b : Fin 4096) (p : Fin 8) (n : Fin 64) : EReal := res_main_v126 V0 (ix3 b p n : S4096x8x64.Idx)

/-- A coordinate of how far a neighbour has moved. -/
abbrev movedAt (b : Fin 4096) (n : Fin 64) (c : Fin 2) : EReal := res_main_v4 V0 (ix3 b n c : S4096x64x2.Idx)

/-- A coordinate of where a neighbour stands last. -/
abbrev lastAt (b : Fin 4096) (n : Fin 64) (c : Fin 2) : EReal := res_main_v6 V0 (ix3 b n c : S4096x64x2.Idx)

/-- A factor as the reference lists it. -/
def hFactor (b : Fin 4096) (n : Fin 64) (q : Fin 3) : EReal :=
  (![Ideal.sqrt (∑ c : Fin 2, movedAt V0 b n c * movedAt V0 b n c),
    Ideal.sqrt (∑ c : Fin 2, lastAt V0 b n c * lastAt V0 b n c),
    hNearest (res_main_v10 V0 (ix2 b n)) (res_main_v12 V0 (ix2 b n))] : Fin 3 → EReal) q

/-- A mean of the reference. -/
theorem means_at (b : Fin 4096) (p : Fin 8) (q : Fin 3) :
    refMeans V0 (ix3 b p q : S4096x8x3.Idx)
      = Ideal.div (∑ n : Fin 64, inAt V0 b p n * hFactor V0 b n q)
          ((∑ n : Fin 64, inAt V0 b p n) + Ideal.ofBits .f32 0x38D1B717#32) := by
  unfold refMeans
  clean_types
  pointwise
  congr 1
  refine Finset.sum_congr rfl fun n _ => congrArg (fun z : EReal => inAt V0 b p n * z) ?_
  fin_cases q
  · rfl
  · rfl
  · refine Eq.trans ?_ (dir_at V0 (ix2 b n))
    pointwise
    rfl

/-! ## From real coordinates -/

variable {V0} {r : Fin 4096 → Fin 64 → Fin 16 → ℝ}

/-- The neighbours' coordinates are the reals `r`. -/
def Holds (V0 : Valuation Cert.ReferenceIdeal.τ Cert.ReferenceIdeal.sig (Elt Ideal)) (r : Fin 4096 → Fin 64 → Fin 16 → ℝ) : Prop :=
  ∀ (b : Fin 4096) (n : Fin 64) (k : Fin 16),
    nei V0 (ix4 b n (⟨k.val / 2, by omega⟩ : Fin 8) (⟨k.val % 2, by omega⟩ : Fin 2)) = (r b n k : EReal)

/-- The coordinates' sum, of real coordinates. -/
theorem refTotal_real (h : Holds V0 r) (b : Fin 4096) (n : Fin 64) : refTotal V0 b n = ((∑ k, r b n k : ℝ) : EReal) := by
  unfold refTotal
  rw [total_at]
  have e (t : Fin 8) (c : Fin 2) : nei V0 (ix4 b n t c) = (r b n ⟨2 * t.val + c.val, by omega⟩ : EReal) := by
    rw [← h]
    congr 2 <;> refine Fin.ext ?_ <;> simp <;> omega
  simp only [e, Fin.sum_univ_succ, Fin.sum_univ_zero]
  push_cast
  simp only [add_zero, add_assoc]
  rfl

/-- Standing in a sector, of real coordinates. -/
theorem mask_real (h : Holds V0 r) (b : Fin 4096) (p : Fin 8) (n : Fin 64) : inAt V0 b p n = if inSector (r b n) p then (1 : EReal) else 0 := by
  unfold inAt
  rw [mask_at, refTotal_real h, x_at, y_at, show nei V0 (ix4 b n 7 0) = (r b n 14 : EReal) from h b n 14,
    show nei V0 (ix4 b n 7 1) = (r b n 15 : EReal) from h b n 15, hSector_coe]
  by_cases e : inSector (r b n) p
  · rw [if_pos e, show standsIn (r b n 14) (r b n 15) (∑ k, r b n k) = BitVec.ofNat 32 p.val from e]
    show (((IntOp.cmpi .eq (BitVec.ofNat 32 p.val) (BitVec.ofNat 32 p.val)).toNat : ℝ) : EReal) = 1
    simp [IntOp.cmpi]
  · rw [if_neg e]
    have e' : ¬ standsIn (r b n 14) (r b n 15) (∑ k, r b n k) = BitVec.ofNat 32 p.val := e
    show (((IntOp.cmpi .eq (standsIn (r b n 14) (r b n 15) (∑ k, r b n k)) (BitVec.ofNat 32 p.val)).toNat : ℝ) : EReal) = 0
    simp [IntOp.cmpi, e']

/-- A factor, of real coordinates. -/
theorem factor_real (h : Holds V0 r) (b : Fin 4096) (n : Fin 64) (q : Fin 3) : hFactor V0 b n q = factor (r b n) q := by
  have h0 : nei V0 (ix4 b n 0 0) = (r b n 0 : EReal) := h b n 0
  have h1 : nei V0 (ix4 b n 0 1) = (r b n 1 : EReal) := h b n 1
  have h14 : nei V0 (ix4 b n 7 0) = (r b n 14 : EReal) := h b n 14
  have h15 : nei V0 (ix4 b n 7 1) = (r b n 15 : EReal) := h b n 15
  unfold hFactor factor movedAt lastAt
  rw [Fin.sum_univ_two, Fin.sum_univ_two, moved_at, moved_at, last_at, last_at, x_at, y_at, h0, h1, h14, h15, hNearest_coe, ← direction_coe]
  rfl

/-- The reference's means. -/
theorem refMeans_real (h : Holds V0 r) (b : Fin 4096) (p : Fin 8) (q : Fin 3) : refMeans V0 (ix3 b p q : S4096x8x3.Idx) = meanAt (r b) p q := by
  rw [means_at]
  unfold meanAt
  simp only [mask_real h, factor_real h, ite_mul, one_mul, zero_mul]

/-- The reference's directions. -/
theorem refDirs_real (h : Holds V0 r) (b : Fin 4096) (n : Fin 64) :
    refDirs V0 (ix2 b n) = ((Angle.dirS (r b n 14) (r b n 15) : ℝ) : EReal) := by
  rw [dir_at, x_at, y_at, show nei V0 (ix4 b n 7 0) = (r b n 14 : EReal) from h b n 14,
    show nei V0 (ix4 b n 7 1) = (r b n 15 : EReal) from h b n 15, hNearest_coe]

end Cert.Proof.Sector

end
-- ==== Proof.Algebraic.lean ====
/-
  The kernel's two results are the reference's, from finite coordinates.
-/
module

public import proofs.«01_k».proof.Defs
public import proofs.«01_k».proof.Proof.Launch
public import proofs.«01_k».proof.Proof.RefValue
public import proofs.«01_k».proof.Proof.Gen.Pre_finite
public import Idealize.ShloMosaic.Lib.ReduceAll
public import Idealize.ShloMosaic.Lib.Pointwise.IndexBridge

@[expose] public section

noncomputable section

namespace Cert.Proof.Sector

open Idealize.ShloMosaic Idealize.SL.Sem Idealize.ShloMosaic.StableHlo

/-! ## Finite coordinates -/

/-- An extended real whose size is below infinity is a real. -/
theorem real_of_finite (x : EReal) (h : FloatOps.cmpf (F := Ideal) (φ := .f32) .olt (FloatOps.hostAbsf (F := Ideal) (φ := .f32) x) (Ideal.ofBits .f32 0x7F800000#32) = 1#1) :
    x = (x.toReal : EReal) := by
  have hlt : max x (-x) < (⊤ : EReal) := by
    by_contra hn
    have e : FloatOps.cmpf (F := Ideal) (φ := .f32) .olt (FloatOps.hostAbsf (F := Ideal) (φ := .f32) x) (Ideal.ofBits .f32 0x7F800000#32) = BitVec.ofBool (decide (max x (-x) < Ideal.ofBits .f32 0x7F800000#32)) := rfl
    rw [e, show Ideal.ofBits .f32 0x7F800000#32 = (⊤ : EReal) by simp [Ideal.ofBits, Ideal.ieee], decide_eq_false hn] at h
    exact absurd h (by decide)
  refine (EReal.coe_toReal ?_ ?_).symm
  · rintro rfl; simp at hlt
  · rintro rfl; simp at hlt

/-- Under the precondition every coordinate of a neighbour is a real. -/
theorem coords_real (m : (ℓ : Loc Cert.KernelIdeal.nD Cert.KernelIdeal.τ Cert.KernelIdeal.sig) → Buf (Elt Ideal) ℓ) (h : Cert.Pre_KernelIdeal_finite m)
    (c : Dev Cert.KernelIdeal.nD) (i : Cert.KernelIdeal.S4096x64x8x2.Idx) :
    (m (c.tc.loc Cert.KernelIdeal.main_arg1) i : EReal) = ((m (c.tc.loc Cert.KernelIdeal.main_arg1) i : EReal).toReal : EReal) := by
  have e := congrFun (h c) ix0
  dsimp only [Cert.Pre_finite.fn] at e
  haveI : Subsingleton Cert.Pre_finite.S_.Idx := ⟨fun a b => funext fun k => k.elim0⟩
  exact real_of_finite _ (Host.reduce_andi_all _ _ _ _ _ e i)

/-- The neighbours' coordinates as reals. -/
def coords (m : (ℓ : Loc Cert.KernelIdeal.nD Cert.KernelIdeal.τ Cert.KernelIdeal.sig) → Buf (Elt Ideal) ℓ) (c : Dev Cert.KernelIdeal.nD)
    (b : Fin 4096) (n : Fin 64) (k : Fin 16) : ℝ :=
  (m (c.tc.loc Cert.KernelIdeal.main_arg1) (ix4 b n (⟨k.val / 2, by omega⟩ : Fin 8) (⟨k.val % 2, by omega⟩ : Fin 2) : Cert.KernelIdeal.S4096x64x8x2.Idx) : EReal).toReal

/-! ## The kernel's results -/

section Kernel

open Cert.KernelIdeal Cert.KernelIdeal.Gen

variable (m : (ℓ : Loc Cert.KernelIdeal.nD Cert.KernelIdeal.τ Cert.KernelIdeal.sig) → Buf (Elt Ideal) ℓ)

/-- The kernel's laid out coordinates are those reals. -/
theorem laid_tells (h : Cert.Pre_KernelIdeal_finite m) (c : Dev Cert.KernelIdeal.nD) : Tells (laid (F := Ideal) m c) (coords m c) := by
  intro b n k
  rw [← ix4_eq_valueIdx]
  refine Eq.trans ?_ (coords_real m h c _)
  unfold laid
  pointwise

/-- The kernel's means at an index. -/
theorem outR_at (h : Cert.Pre_KernelIdeal_finite m) (c : Dev Cert.KernelIdeal.nD) (b : Fin 4096) (p : Fin 8) (q : Fin 3) :
    outR (F := Ideal) m c (ix3 b p q : S4096x8x3.Idx) = meanAt (coords m c b) p q := by
  rw [← allMeans_real (laid_tells m h c) b p q, ← ix3_eq_valueIdx]
  unfold outR
  pointwise

/-- The kernel's directions at an index. -/
theorem outS_at (h : Cert.Pre_KernelIdeal_finite m) (c : Dev Cert.KernelIdeal.nD) (b : Fin 4096) (n : Fin 64) :
    outS (F := Ideal) m c (ix2 b n : S4096x64.Idx) = ((Angle.dirS (coords m c b n 14) (coords m c b n 15) : ℝ) : EReal) := by
  rw [← allDirs_real (laid_tells m h c) b n, ← ix2_eq_valueIdx]
  unfold outS
  pointwise

end Kernel

/-! ## The claim -/

/-- From finite coordinates, the kernel and the reference end with the same means and the same directions. -/
theorem algebraic : Cert.algebraic_KernelIdeal_ReferenceIdeal_pre_finite := by
  intro m g m' g' hpre hargs
  have holds (c : Dev Cert.KernelIdeal.nD) : Holds (launchContents m' c) (coords m c) := fun b n k =>
    (congrFun (hargs c).2 _).trans (coords_real m hpre c _)
  refine ⟨outR m, outS m, ?_, ?_⟩
  · exact (θ_run Cert.KernelIdeal.defs _ _).mono
      (fun _ h c => ⟨(h.1 c).2.2.1, (h.1 c).2.2.2, (h.1 c).1, (h.1 c).2.1⟩) (run_main (F := Ideal) m g)
  · refine (θ_run Cert.ReferenceIdeal.defs _ _).mono (fun _ h c => ⟨(h c).1.trans ?_, (h c).2.1.trans ?_, (h c).2.2.1, (h c).2.2.2⟩)
      (Cert.ReferenceIdeal.Value.run (F := Ideal) m' g')
    · funext i
      obtain ⟨b, p, q, rfl⟩ : ∃ b p q, i = (ix3 b p q : Cert.ReferenceIdeal.S4096x8x3.Idx) := ⟨i 0, i 1, i 2, eq_ix3 i⟩
      exact (refMeans_real (holds c) b p q).trans (outR_at m hpre c b p q).symm
    · funext i
      obtain ⟨b, n, rfl⟩ : ∃ b n, i = (ix2 b n : Cert.ReferenceIdeal.S4096x64.Idx) := ⟨i 0, i 1, eq_ix2 i⟩
      exact (refDirs_real (holds c) b n).trans (outS_at m hpre c b n).symm

end Cert.Proof.Sector

end
-- ==== Proof.lean ====
/-
  The certificate: the sector accumulation of the neighbours, its frames, its named constants and its values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Algebraic

@[expose] public section

noncomputable section

namespace Cert.Proof

open Idealize.ShloMosaic Idealize.SL.Sem

/-- The claims of this certificate, each proved in its own module. -/
theorem claim : Cert.Claim :=
  ⟨Cert.Kernel.Gen.facts, Cert.KernelIdeal.Gen.facts, Cert.ReferenceIdeal.Gen.facts, Cert.Pre_finite.Gen.facts,
    Sector.frame_kernel, Sector.frame_ideal, Sector.frame_ideal_pre, Sector.frame_reference, Sector.frame_reference_pre,
    Sector.preserves, Sector.algebraic⟩

end Cert.Proof

end
